-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_rows [hPre_finite_rows : Cert.Pre_finite_rows.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_rows.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_rows [hPre_finite_rows : Cert.Pre_finite_rows.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_rows.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Kernel17Ideal_pre_finite_rows [hKernel17Ideal : Cert.Kernel17Ideal.Facts] [hPre_finite_rows : Cert.Pre_finite_rows.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_rows m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_finite_rows [hReference17Ideal : Cert.Reference17Ideal.Facts] [hPre_finite_rows : Cert.Pre_finite_rows.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_rows m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  IdealRules.named_const.Statement Cert.KernelIdeal.κ "scale" .f32 0x3D93CD3A#32 (((Real.sqrt 192)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)) (v2 : (c : Dev Cert.KernelIdeal.nD) → Buf (Elt Ideal) ((c.tc : Thread Cert.KernelIdeal.nD Cert.KernelIdeal.τ).loc Cert.KernelIdeal.main_v94_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v94_1) = v1 c
          ∧ r.2.mem ((c.tc : Thread Cert.KernelIdeal.nD Cert.KernelIdeal.τ).loc Cert.KernelIdeal.main_v94_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal_pre_finite_rows [hKernel17Ideal : Cert.Kernel17Ideal.Facts] [hReference17Ideal : Cert.Reference17Ideal.Facts] [hPre_finite_rows : Cert.Pre_finite_rows.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_rows m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v52) = v0 c
          ∧ r.2.mem ((c.tc : Thread Cert.Reference17Ideal.nD Cert.Reference17Ideal.τ).loc Cert.Reference17Ideal.main_v51) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_v31) = v4 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite_rows (hKernel17Ideal := hKernel17Ideal) (hPre_finite_rows := hPre_finite_rows)
    ∧ quiescent_Reference17Ideal (hReference17Ideal := hReference17Ideal)
    ∧ quiescent_Reference17Ideal_pre_finite_rows (hReference17Ideal := hReference17Ideal) (hPre_finite_rows := hPre_finite_rows)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite_rows (hKernel17Ideal := hKernel17Ideal) (hReference17Ideal := hReference17Ideal) (hPre_finite_rows := hPre_finite_rows)
    ∧ preserves_Kernel18_Kernel18Ideal
    ∧ algebraic_Kernel18Ideal_Reference18Ideal (hKernel18Ideal := hKernel18Ideal) (hReference18Ideal := hReference18Ideal)
-- ==== Pre_finite.lean ====
abbrev S4096x8x192 : Shape := ⟨3, ![4096, 8, 192]⟩
abbrev S4096x8x256 : Shape := ⟨3, ![4096, 8, 256]⟩
abbrev S4096x64 : Shape := ⟨2, ![4096, 64]⟩
abbrev S4096 : Shape := ⟨1, ![4096]⟩
abbrev S4096x2048 : Shape := ⟨2, ![4096, 2048]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x256 : S_.BroadcastsInDim S4096x8x256 (![] : Fin 0 → Fin S4096x8x256.rank)
  reducesTo_S4096x8x256_S_d0_1_2 : S4096x8x256.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x8x192 .f32) (main_arg1 : FVec F S4096x8x256 .f32) (main_arg2 : FVec F S4096x64 .f32) (main_arg3 : IVec S4096 32) (main_arg4 : FVec F S4096x2048 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_v4 : FVec F S4096x8x256 .f32 := Host.absf main_arg1
  let main_cst_0 : FVec F S_ .f32 := constant S_ .f32 0x7F800000#32
  let main_v5 : FVec F S4096x8x256 .f32 := broadcastInDim S4096x8x256 ![] bcast_S_S4096x8x256 main_cst_0
  let main_v6 : IVec S4096x8x256 1 := cmpf .olt main_v4 main_v5
  let main_c_1 : IVec S_ 1 := constantI S_ 1 1#1
  let main_v7 : IVec S_ 1 := (fun x v => Host.reduce IntOp.andi x v reducesTo_S4096x8x256_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x2048 .f32 := Host.absf main_arg4
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_finite_rows.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .f32) (main_arg1 : FVec F S2048 .f32) (main_arg2 : FVec F S4096x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Kernel.lean ====
abbrev S4096x8x192 : Shape := ⟨3, ![4096, 8, 192]⟩
abbrev S4096x8x256 : Shape := ⟨3, ![4096, 8, 256]⟩
abbrev S4096x64 : Shape := ⟨2, ![4096, 64]⟩
abbrev S4096 : Shape := ⟨1, ![4096]⟩
abbrev S4096x2048 : Shape := ⟨2, ![4096, 2048]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x8x32 : Shape := ⟨3, ![4096, 8, 32]⟩
abbrev S4096x1x32 : Shape := ⟨3, ![4096, 1, 32]⟩
abbrev S4096x8x128 : Shape := ⟨3, ![4096, 8, 128]⟩
abbrev S4096x1x64 : Shape := ⟨3, ![4096, 1, 64]⟩
abbrev S4096x8x64 : Shape := ⟨3, ![4096, 8, 64]⟩
abbrev S8x4096x4096 : Shape := ⟨3, ![8, 4096, 4096]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S4096x8x1 : Shape := ⟨3, ![4096, 8, 1]⟩
abbrev S4096x256 : Shape := ⟨2, ![4096, 256]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 121
  | .vmem => 27
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x64, .f32⟩
  | .hbm, ⟨3, _⟩ => ⟨S4096, .i32⟩
  | .hbm, ⟨4, _⟩ => ⟨S4096x2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S_, .f32⟩
  | .hbm, ⟨28, _⟩ => ⟨S4096x64, .f32⟩
  | .hbm, ⟨29, _⟩ => ⟨S_, .f32⟩
  | .hbm, ⟨30, _⟩ => ⟨S4096x32, .f32⟩
  | .hbm, ⟨31, _⟩ => ⟨S_, .f32⟩
  | .hbm, ⟨32, _⟩ => ⟨S4096x64, .f32⟩
  | .hbm, ⟨33, _⟩ => ⟨S4096x128, .f32⟩
  | .hbm, ⟨34, _⟩ => ⟨S4096x32, .f32⟩
  | .hbm, ⟨35, _⟩ => ⟨S4096x128, .f32⟩
  | .hbm, ⟨36, _⟩ => ⟨S4096x128, .f32⟩
  | .hbm, ⟨37, _⟩ => ⟨S4096x8x32, .f32⟩
  | .hbm, ⟨38, _⟩ => ⟨S4096x8x32, .f32⟩
  | .hbm, ⟨39, _⟩ => ⟨S4096x1x32, .f32⟩
  | .hbm, ⟨40, _⟩ => ⟨S4096x1x32, .f32⟩
  | .hbm, ⟨41, _⟩ => ⟨S4096x8x128, .f32⟩
  | .hbm, ⟨42, _⟩ => ⟨S4096x8x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x32, .f32⟩
  | .hbm, ⟨47, _⟩ => ⟨S4096x8x32, .f32⟩
  | .hbm, ⟨48, _⟩ => ⟨S4096x8x32, .f32⟩
  | .hbm, ⟨49, _⟩ => ⟨S4096x8x32, .f32⟩
  | .hbm, ⟨50, _⟩ => ⟨S4096x8x32, .f32⟩
  | .hbm, ⟨51, _⟩ => ⟨S4096x8x32, .f32⟩
  | .hbm, ⟨52, _⟩ => ⟨S4096x8x192, .f32⟩
  | .hbm, ⟨53, _⟩ => ⟨S4096x8x128, .f32⟩
  | .hbm, ⟨54, _⟩ => ⟨S4096x1x64, .f32⟩
  | .hbm, ⟨55, _⟩ => ⟨S4096x8x64, .f32⟩
  | .hbm, ⟨56, _⟩ => ⟨S4096x8x192, .f32⟩
  | .hbm, ⟨57, _⟩ => ⟨S8x4096x4096, .f32⟩
  | .hbm, ⟨58, _⟩ => ⟨S_, .f32⟩
  | .hbm, ⟨59, _⟩ => ⟨S_, .f32⟩
  | .hbm, ⟨60, _⟩ => ⟨S8x4096x4096, .f32⟩
  | .hbm, ⟨61, _⟩ => ⟨S8x4096x4096, .f32⟩
  | .hbm, ⟨62, _⟩ => ⟨S4096, .i32⟩
  | .hbm, ⟨63, _⟩ => ⟨S1x4096, .i32⟩
  | .hbm, ⟨64, _⟩ => ⟨S4096x1, .i32⟩
  | .hbm, ⟨65, _⟩ => ⟨S4096x4096, .i32⟩
  | .hbm, ⟨66, _⟩ => ⟨S4096x4096, .i32⟩
  | .hbm, ⟨67, _⟩ => ⟨S4096x4096, .i1⟩
  | .hbm, ⟨68, _⟩ => ⟨S1x4096x4096, .i1⟩
  | .hbm, ⟨69, _⟩ => ⟨S_, .f32⟩
  | .hbm, ⟨70, _⟩ => ⟨S_, .f32⟩
  | .hbm, ⟨71, _⟩ => ⟨S8x4096x4096, .i1⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S4096x8x128, .f32⟩
  | .hbm, ⟨86, _⟩ => ⟨S8x128x4096, .f32⟩
  | .hbm, ⟨87, _⟩ => ⟨S4096x8x128, .f32⟩
  | .hbm, ⟨88, _⟩ => ⟨S4096x1024, .f32⟩
  | .hbm, ⟨89, _⟩ => ⟨S8x4096x1, .f32⟩
  | .hbm, ⟨90, _⟩ => ⟨S8x4096x1, .f32⟩
  | .hbm, ⟨91, _⟩ => ⟨S_, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S4096x8x1, .f32⟩
  | .hbm, ⟨96, _⟩ => ⟨S4096x8x128, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x2048, .f32⟩
  | .hbm, ⟨101, _⟩ => ⟨S4096x2048, .bf16⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S4096x8x192, .f32⟩
  | .hbm, ⟨108, _⟩ => ⟨S4096x8x192, .f32⟩
  | .hbm, ⟨109, _⟩ => ⟨S_, .f32⟩
  | .hbm, ⟨110, _⟩ => ⟨S4096x8x64, .f32⟩
  | .hbm, ⟨111, _⟩ => ⟨S4096x8x256, .f32⟩
  | .hbm, ⟨112, _⟩ => ⟨S4096x2048, .f32⟩
  | .hbm, ⟨113, _⟩ => ⟨S4096x2048, .bf16⟩
  | .hbm, ⟨114, _⟩ => ⟨S4096x128, .f32⟩
  | .hbm, ⟨115, _⟩ => ⟨S4096x128, .bf16⟩
  | .hbm, ⟨116, _⟩ => ⟨S4096x2048, .f32⟩
  | .hbm, ⟨117, _⟩ => ⟨S4096x2048, .bf16⟩
  | .hbm, ⟨118, _⟩ => ⟨S4096x2048, .bf16⟩
  | .hbm, ⟨119, _⟩ => ⟨S4096x2048, .bf16⟩
  | .hbm, ⟨120, _⟩ => ⟨S4096x1024, .f32⟩
  | .local _ .vmem, ⟨0, _⟩ => ⟨S4096x256, .bf16⟩
  | .local _ .vmem, ⟨1, _⟩ => ⟨S4096x256, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x256, .bf16⟩
  | .local _ .vmem, ⟨18, _⟩ => ⟨S4096x256, .bf16⟩
  | .local _ .vmem, ⟨19, _⟩ => ⟨S512x256, .bf16⟩
  | .local _ .vmem, ⟨20, _⟩ => ⟨S512x256, .bf16⟩
  | .local _ .vmem, ⟨21, _⟩ => ⟨S512x128, .f32⟩
  | .local _ .vmem, ⟨22, _⟩ => ⟨S512x128, .f32⟩
  | .local _ .vmem, ⟨23, _⟩ => ⟨S4096x256, .f32⟩
  | .local _ .vmem, ⟨24, _⟩ => ⟨S4096x128, .f32⟩
  | .local _ .vmem, ⟨25, _⟩ => ⟨S512x256, .f32⟩
  | .local _ .vmem, ⟨26, _⟩ => ⟨S512x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_11 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_12 : Ref sig .tc := ⟨.hbm, 102, rfl⟩
abbrev main_v81 : Ref sig .tc := ⟨.hbm, 103, rfl⟩
abbrev main_cst_13 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_14 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94_0 : Ref sig .tc := ⟨.hbm, 118, rfl⟩
abbrev main_v94_1 : Ref sig .tc := ⟨.hbm, 119, rfl⟩
abbrev main_v94_2 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_45 : BitVec 32 := 0#32
  let c8_i32_46 : BitVec 32 := 8#32
  let v76 : BitVec 32 := Scalar.addi c0_i32_45 c8_i32_46
  let c1_i32_47 : BitVec 32 := 1#32
  ⟨c0_i32_45, v76, c1_i32_47⟩
def k0_mult1 (k0_t1 : Fin k0_t1_loop.trips) : BitVec 32 :=
  let c0_i32_45 : BitVec 32 := 0#32
  let c1_i32_47 : BitVec 32 := 1#32
  let arg19 : BitVec 32 := Scf.iv c0_i32_45 c1_i32_47 k0_t1
  let c512_i32 : BitVec 32 := 512#32
  let v77 : BitVec 32 := Scalar.muli arg19 c512_i32
  v77
def k0_off1 (k0_t1 : Fin k0_t1_loop.trips) : Fin 2 → Nat :=
  let c0_i32_45 : BitVec 32 := 0#32
  let c1_i32_47 : BitVec 32 := 1#32
  let arg19 : BitVec 32 := Scf.iv c0_i32_45 c1_i32_47 k0_t1
  let c512_i32 : BitVec 32 := 512#32
  let v77 : BitVec 32 := Scalar.muli arg19 c512_i32
  let v78 : BitVec 32 := v77
  let v79 : Index := Scalar.indexCast v78
  let c0_49 : Index := 0#32
  ![v79.toNat, 0]
def k0_off2 (k0_t1 : Fin k0_t1_loop.trips) : Fin 2 → Nat :=
  let c0_i32_45 : BitVec 32 := 0#32
  let c1_i32_47 : BitVec 32 := 1#32
  let arg19 : BitVec 32 := Scf.iv c0_i32_45 c1_i32_47 k0_t1
  let c512_i32 : BitVec 32 := 512#32
  let v77 : BitVec 32 := Scalar.muli arg19 c512_i32
  let v78 : BitVec 32 := v77
  let v95 : Index := Scalar.indexCast v78
  let c0_54 : Index := 0#32
  ![v95.toNat, 0]
def k0_cond2 (i : grid0.Coords) : BitVec 1 :=
  let c8_i32 : BitVec 32 := 8#32
  let arg1 : BitVec 32 := BitVec.ofNat 32 (i 1).val
  let v18 : BitVec 32 := Scalar.subi c8_i32 arg1
  let c1_i32 : BitVec 32 := 1#32
  let v19 : BitVec 1 := Scalar.cmpi .eq v18 c1_i32
  let v20 : BitVec 32 := Scalar.extui v19
  let c0_i32_11 : BitVec 32 := 0#32
  let v21 : BitVec 1 := Scalar.cmpi .ne v20 c0_i32_11
  v21

def k0_mult2 (i : grid0.Coords) : BitVec 32 :=
  let arg1 : BitVec 32 := BitVec.ofNat 32 (i 1).val
  let c512_i32 : BitVec 32 := 512#32
  let v76 : BitVec 32 := Scalar.muli arg1 c512_i32
  v76
def k0_off3 (i : grid0.Coords) : Fin 2 → Nat :=
  let arg1 : BitVec 32 := BitVec.ofNat 32 (i 1).val
  let c512_i32 : BitVec 32 := 512#32
  let v76 : BitVec 32 := Scalar.muli arg1 c512_i32
  let v77 : BitVec 32 := v76
  let v78 : Index := Scalar.indexCast v77
  let c0_45 : Index := 0#32
  ![v78.toNat, 0]
def k0_off4 (i : grid0.Coords) : Fin 2 → Nat :=
  let arg1 : BitVec 32 := BitVec.ofNat 32 (i 1).val
  let c512_i32 : BitVec 32 := 512#32
  let v76 : BitVec 32 := Scalar.muli arg1 c512_i32
  let v77 : BitVec 32 := v76
  let v81 : Index := Scalar.indexCast v77
  let c0_46 : Index := 0#32
  ![v81.toNat, 0]
def k0_cond3 (i : grid0.Coords) : BitVec 1 :=
  let c8_i32 : BitVec 32 := 8#32
  let arg1 : BitVec 32 := BitVec.ofNat 32 (i 1).val
  let v18 : BitVec 32 := Scalar.subi c8_i32 arg1
  let c1_i32_12 : BitVec 32 := 1#32
  let v22 : BitVec 1 := Scalar.cmpi .sgt v18 c1_i32_12
  let v23 : BitVec 32 := Scalar.extui v22
  let c0_i32_13 : BitVec 32 := 0#32
  let v24 : BitVec 1 := Scalar.cmpi .ne v23 c0_i32_13
  v24

def k0_mult3 (i : grid0.Coords) : BitVec 32 :=
  let arg1 : BitVec 32 := BitVec.ofNat 32 (i 1).val
  let c512_i32 : BitVec 32 := 512#32
  let v77 : BitVec 32 := Scalar.muli arg1 c512_i32
  v77
def k0_off5 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v79 : Index := Scalar.indexCast v78
  let c0_46 : Index := 0#32
  ![v79.toNat, 0]
def k0_off6 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v82 : Index := Scalar.indexCast v78
  let c0_47 : Index := 0#32
  ![v82.toNat, 0]
def k0_mult4 (i : grid0.Coords) : BitVec 32 :=
  let arg1 : BitVec 32 := BitVec.ofNat 32 (i 1).val
  let c1_i32_45 : BitVec 32 := 1#32
  let v76 : BitVec 32 := Scalar.addi arg1 c1_i32_45
  let c512_i32_50 : BitVec 32 := 512#32
  let v87 : BitVec 32 := Scalar.muli v76 c512_i32_50
  v87
def k0_off7 (i : grid0.Coords) : Fin 2 → Nat :=
  let arg1 : BitVec 32 := BitVec.ofNat 32 (i 1).val
  let c1_i32_45 : BitVec 32 := 1#32
  let v76 : BitVec 32 := Scalar.addi arg1 c1_i32_45
  let c512_i32_50 : BitVec 32 := 512#32
  let v87 : BitVec 32 := Scalar.muli v76 c512_i32_50
  let v88 : BitVec 32 := v87
  let v89 : Index := Scalar.indexCast v88
  let c0_51 : Index := 0#32
  ![v89.toNat, 0]
def k0_off8 (i : grid0.Coords) : Fin 2 → Nat :=
  let arg1 : BitVec 32 := BitVec.ofNat 32 (i 1).val
  let c1_i32_45 : BitVec 32 := 1#32
  let v76 : BitVec 32 := Scalar.addi arg1 c1_i32_45
  let c512_i32_50 : BitVec 32 := 512#32
  let v87 : BitVec 32 := Scalar.muli v76 c512_i32_50
  let v88 : BitVec 32 := v87
  let v92 : Index := Scalar.indexCast v88
  let c0_52 : Index := 0#32
  ![v92.toNat, 0]
@[reducible] def k0_t2_loop (i : grid0.Coords) : Scf.Loop 32 :=
  let c1_i32_21 : BitVec 32 := 1#32
  let c8_i32 : BitVec 32 := 8#32
  let arg1 : BitVec 32 := BitVec.ofNat 32 (i 1).val
  let v18 : BitVec 32 := Scalar.subi c8_i32 arg1
  let c0_i32_14 : BitVec 32 := 0#32
  let v26 : BitVec 1 := Scalar.cmpi .sgt v18 c0_i32_14
  let v27 : BitVec 32 := Scalar.extui v26
  let c0_i32_15 : BitVec 32 := 0#32
  let v28 : BitVec 1 := Scalar.cmpi .slt v18 c0_i32_15
  let v29 : BitVec 32 := Scalar.extui v28
  let v30 : BitVec 32 := Scalar.subi v27 v29
  let c2_i32 : BitVec 32 := 2#32
  let c0_i32_16 : BitVec 32 := 0#32
  let v31 : BitVec 1 := Scalar.cmpi .sgt c2_i32 c0_i32_16
  let v32 : BitVec 32 := Scalar.extui v31
  let c0_i32_17 : BitVec 32 := 0#32
  let v33 : BitVec 1 := Scalar.cmpi .slt c2_i32 c0_i32_17
  let v34 : BitVec 32 := Scalar.extui v33
  let v35 : BitVec 32 := Scalar.subi v32 v34
  let v36 : BitVec 1 := Scalar.cmpi .ne v30 v35
  let v37 : BitVec 32 := Scalar.remsi v18 c2_i32
  let c0_i32_18 : BitVec 32 := 0#32
  let v38 : BitVec 1 := Scalar.cmpi .ne v37 c0_i32_18
  let v39 : BitVec 1 := Scalar.andi v36 v38
  let v25 : BitVec 32 := Scalar.divsi v18 c2_i32
  let c1_i32_19 : BitVec 32 := 1#32
  let v40 : BitVec 32 := Scalar.subi v25 c1_i32_19
  let v41 : BitVec 32 := Scalar.select v39 v40 v25
  let v42 : BitVec 32 := Scalar.subi v41 c1_i32_21
  let c1_i32_22 : BitVec 32 := 1#32
  let v44 : BitVec 32 := Scalar.divsi v42 c1_i32_22
  let v45 : BitVec 32 := Scalar.muli v44 c1_i32_22
  let v46 : BitVec 32 := Scalar.addi c1_i32_21 v45
  let c1_i32_23 : BitVec 32 := 1#32
  ⟨c1_i32_21, v46, c1_i32_23⟩
def k0_mult5 (i : grid0.Coords) (k0_t2 : Fin (k0_t2_loop i).trips) : BitVec 32 :=
  let arg1 : BitVec 32 := BitVec.ofNat 32 (i 1).val
  let c2_i32_45 : BitVec 32 := 2#32
  let c1_i32_21 : BitVec 32 := 1#32
  let c1_i32_23 : BitVec 32 := 1#32
  let arg19 : BitVec 32 := Scf.iv c1_i32_21 c1_i32_23 k0_t2
  let v76 : BitVec 32 := Scalar.muli c2_i32_45 arg19
  let v77 : BitVec 32 := Scalar.addi arg1 v76
  let c512_i32 : BitVec 32 := 512#32
  let v81 : BitVec 32 := Scalar.muli v77 c512_i32
  v81
def k0_off9 (i : grid0.Coords) (k0_t2 : Fin (k0_t2_loop i).trips) : Fin 2 → Nat :=
  let arg1 : BitVec 32 := BitVec.ofNat 32 (i 1).val
  let c2_i32_45 : BitVec 32 := 2#32
  let c1_i32_21 : BitVec 32 := 1#32
  let c1_i32_23 : BitVec 32 := 1#32
  let arg19 : BitVec 32 := Scf.iv c1_i32_21 c1_i32_23 k0_t2
  let v76 : BitVec 32 := Scalar.muli c2_i32_45 arg19
  let v77 : BitVec 32 := Scalar.addi arg1 v76
  let c512_i32 : BitVec 32 := 512#32
  let v81 : BitVec 32 := Scalar.muli v77 c512_i32
  let v82 : BitVec 32 := v81
  let v83 : Index := Scalar.indexCast v82
  let c0_48 : Index := 0#32
  ![v83.toNat, 0]
def k0_off10 (i : grid0.Coords) (k0_t2 : Fin (k0_t2_loop i).trips) : Fin 2 → Nat :=
  let arg1 : BitVec 32 := BitVec.ofNat 32 (i 1).val
  let c2_i32_45 : BitVec 32 := 2#32
  let c1_i32_21 : BitVec 32 := 1#32
  let c1_i32_23 : BitVec 32 := 1#32
  let arg19 : BitVec 32 := Scf.iv c1_i32_21 c1_i32_23 k0_t2
  let v76 : BitVec 32 := Scalar.muli c2_i32_45 arg19
  let v77 : BitVec 32 := Scalar.addi arg1 v76
  let c512_i32 : BitVec 32 := 512#32
  let v81 : BitVec 32 := Scalar.muli v77 c512_i32
  let v82 : BitVec 32 := v81
  let v86 : Index := Scalar.indexCast v82
  let c0_49 : Index := 0#32
  ![v86.toNat, 0]
def k0_mult6 (i : grid0.Coords) (k0_t2 : Fin (k0_t2_loop i).trips) : BitVec 32 :=
  let arg1 : BitVec 32 := BitVec.ofNat 32 (i 1).val
  let c2_i32_46 : BitVec 32 := 2#32
  let c1_i32_21 : BitVec 32 := 1#32
  let c1_i32_23 : BitVec 32 := 1#32
  let arg19 : BitVec 32 := Scf.iv c1_i32_21 c1_i32_23 k0_t2
  let v78 : BitVec 32 := Scalar.muli c2_i32_46 arg19
  let v79 : BitVec 32 := Scalar.addi arg1 v78
  let c1_i32_47 : BitVec 32 := 1#32
  let v80 : BitVec 32 := Scalar.addi v79 c1_i32_47
  let c512_i32_52 : BitVec 32 := 512#32
  let v91 : BitVec 32 := Scalar.muli v80 c512_i32_52
  v91
def k0_off11 (i : grid0.Coords) (k0_t2 : Fin (k0_t2_loop i).trips) : Fin 2 → Nat :=
  let arg1 : BitVec 32 := BitVec.ofNat 32 (i 1).val
  let c2_i32_46 : BitVec 32 := 2#32
  let c1_i32_21 : BitVec 32 := 1#32
  let c1_i32_23 : BitVec 32 := 1#32
  let arg19 : BitVec 32 := Scf.iv c1_i32_21 c1_i32_23 k0_t2
  let v78 : BitVec 32 := Scalar.muli c2_i32_46 arg19
  let v79 : BitVec 32 := Scalar.addi arg1 v78
  let c1_i32_47 : BitVec 32 := 1#32
  let v80 : BitVec 32 := Scalar.addi v79 c1_i32_47
  let c512_i32_52 : BitVec 32 := 512#32
  let v91 : BitVec 32 := Scalar.muli v80 c512_i32_52
  let v92 : BitVec 32 := v91
  let v93 : Index := Scalar.indexCast v92
  let c0_53 : Index := 0#32
  ![v93.toNat, 0]
def k0_off12 (i : grid0.Coords) (k0_t2 : Fin (k0_t2_loop i).trips) : Fin 2 → Nat :=
  let arg1 : BitVec 32 := BitVec.ofNat 32 (i 1).val
  let c2_i32_46 : BitVec 32 := 2#32
  let c1_i32_21 : BitVec 32 := 1#32
  let c1_i32_23 : BitVec 32 := 1#32
  let arg19 : BitVec 32 := Scf.iv c1_i32_21 c1_i32_23 k0_t2
  let v78 : BitVec 32 := Scalar.muli c2_i32_46 arg19
  let v79 : BitVec 32 := Scalar.addi arg1 v78
  let c1_i32_47 : BitVec 32 := 1#32
  let v80 : BitVec 32 := Scalar.addi v79 c1_i32_47
  let c512_i32_52 : BitVec 32 := 512#32
  let v91 : BitVec 32 := Scalar.muli v80 c512_i32_52
  let v92 : BitVec 32 := v91
  let v96 : Index := Scalar.indexCast v92
  let c0_54 : Index := 0#32
  ![v96.toNat, 0]
@[reducible] def k0_t3_loop (i : grid0.Coords) : Scf.Loop 32 :=
  let c1_i32_21 : BitVec 32 := 1#32
  let c8_i32 : BitVec 32 := 8#32
  let arg1 : BitVec 32 := BitVec.ofNat 32 (i 1).val
  let v18 : BitVec 32 := Scalar.subi c8_i32 arg1
  let c0_i32_14 : BitVec 32 := 0#32
  let v26 : BitVec 1 := Scalar.cmpi .sgt v18 c0_i32_14
  let v27 : BitVec 32 := Scalar.extui v26
  let c0_i32_15 : BitVec 32 := 0#32
  let v28 : BitVec 1 := Scalar.cmpi .slt v18 c0_i32_15
  let v29 : BitVec 32 := Scalar.extui v28
  let v30 : BitVec 32 := Scalar.subi v27 v29
  let c2_i32 : BitVec 32 := 2#32
  let c0_i32_16 : BitVec 32 := 0#32
  let v31 : BitVec 1 := Scalar.cmpi .sgt c2_i32 c0_i32_16
  let v32 : BitVec 32 := Scalar.extui v31
  let c0_i32_17 : BitVec 32 := 0#32
  let v33 : BitVec 1 := Scalar.cmpi .slt c2_i32 c0_i32_17
  let v34 : BitVec 32 := Scalar.extui v33
  let v35 : BitVec 32 := Scalar.subi v32 v34
  let v36 : BitVec 1 := Scalar.cmpi .ne v30 v35
  let v37 : BitVec 32 := Scalar.remsi v18 c2_i32
  let c0_i32_18 : BitVec 32 := 0#32
  let v38 : BitVec 1 := Scalar.cmpi .ne v37 c0_i32_18
  let v39 : BitVec 1 := Scalar.andi v36 v38
  let v25 : BitVec 32 := Scalar.divsi v18 c2_i32
  let c1_i32_19 : BitVec 32 := 1#32
  let v40 : BitVec 32 := Scalar.subi v25 c1_i32_19
  let v41 : BitVec 32 := Scalar.select v39 v40 v25
  let v42 : BitVec 32 := Scalar.subi v41 c1_i32_21
  let c1_i32_22 : BitVec 32 := 1#32
  let v44 : BitVec 32 := Scalar.divsi v42 c1_i32_22
  let v45 : BitVec 32 := Scalar.muli v44 c1_i32_22
  let v46 : BitVec 32 := Scalar.addi c1_i32_21 v45
  let v43 : BitVec 32 := Scalar.addi c1_i32_21 v42
  let c1_i32_24 : BitVec 32 := 1#32
  ⟨v46, v43, c1_i32_24⟩
def k0_mult7 (i : grid0.Coords) (k0_t3 : Fin (k0_t3_loop i).trips) : BitVec 32 :=
  let arg1 : BitVec 32 := BitVec.ofNat 32 (i 1).val
  let c2_i32_45 : BitVec 32 := 2#32
  let c1_i32_21 : BitVec 32 := 1#32
  let c8_i32 : BitVec 32 := 8#32
  let v18 : BitVec 32 := Scalar.subi c8_i32 arg1
  let c0_i32_14 : BitVec 32 := 0#32
  let v26 : BitVec 1 := Scalar.cmpi .sgt v18 c0_i32_14
  let v27 : BitVec 32 := Scalar.extui v26
  let c0_i32_15 : BitVec 32 := 0#32
  let v28 : BitVec 1 := Scalar.cmpi .slt v18 c0_i32_15
  let v29 : BitVec 32 := Scalar.extui v28
  let v30 : BitVec 32 := Scalar.subi v27 v29
  let c2_i32 : BitVec 32 := 2#32
  let c0_i32_16 : BitVec 32 := 0#32
  let v31 : BitVec 1 := Scalar.cmpi .sgt c2_i32 c0_i32_16
  let v32 : BitVec 32 := Scalar.extui v31
  let c0_i32_17 : BitVec 32 := 0#32
  let v33 : BitVec 1 := Scalar.cmpi .slt c2_i32 c0_i32_17
  let v34 : BitVec 32 := Scalar.extui v33
  let v35 : BitVec 32 := Scalar.subi v32 v34
  let v36 : BitVec 1 := Scalar.cmpi .ne v30 v35
  let v37 : BitVec 32 := Scalar.remsi v18 c2_i32
  let c0_i32_18 : BitVec 32 := 0#32
  let v38 : BitVec 1 := Scalar.cmpi .ne v37 c0_i32_18
  let v39 : BitVec 1 := Scalar.andi v36 v38
  let v25 : BitVec 32 := Scalar.divsi v18 c2_i32
  let c1_i32_19 : BitVec 32 := 1#32
  let v40 : BitVec 32 := Scalar.subi v25 c1_i32_19
  let v41 : BitVec 32 := Scalar.select v39 v40 v25
  let v42 : BitVec 32 := Scalar.subi v41 c1_i32_21
  let c1_i32_22 : BitVec 32 := 1#32
  let v44 : BitVec 32 := Scalar.divsi v42 c1_i32_22
  let v45 : BitVec 32 := Scalar.muli v44 c1_i32_22
  let v46 : BitVec 32 := Scalar.addi c1_i32_21 v45
  let c1_i32_24 : BitVec 32 := 1#32
  let arg19 : BitVec 32 := Scf.iv v46 c1_i32_24 k0_t3
  let v76 : BitVec 32 := Scalar.muli c2_i32_45 arg19
  let v77 : BitVec 32 := Scalar.addi arg1 v76
  let c512_i32 : BitVec 32 := 512#32
  let v81 : BitVec 32 := Scalar.muli v77 c512_i32
  v81
def k0_off13 (i : grid0.Coords) (k0_t3 : Fin (k0_t3_loop i).trips) : Fin 2 → Nat :=
  let arg1 : BitVec 32 := BitVec.ofNat 32 (i 1).val
  let c2_i32_45 : BitVec 32 := 2#32
  let c1_i32_21 : BitVec 32 := 1#32
  let c8_i32 : BitVec 32 := 8#32
  let v18 : BitVec 32 := Scalar.subi c8_i32 arg1
  let c0_i32_14 : BitVec 32 := 0#32
  let v26 : BitVec 1 := Scalar.cmpi .sgt v18 c0_i32_14
  let v27 : BitVec 32 := Scalar.extui v26
  let c0_i32_15 : BitVec 32 := 0#32
  let v28 : BitVec 1 := Scalar.cmpi .slt v18 c0_i32_15
  let v29 : BitVec 32 := Scalar.extui v28
  let v30 : BitVec 32 := Scalar.subi v27 v29
  let c2_i32 : BitVec 32 := 2#32
  let c0_i32_16 : BitVec 32 := 0#32
  let v31 : BitVec 1 := Scalar.cmpi .sgt c2_i32 c0_i32_16
  let v32 : BitVec 32 := Scalar.extui v31
  let c0_i32_17 : BitVec 32 := 0#32
  let v33 : BitVec 1 := Scalar.cmpi .slt c2_i32 c0_i32_17
  let v34 : BitVec 32 := Scalar.extui v33
  let v35 : BitVec 32 := Scalar.subi v32 v34
  let v36 : BitVec 1 := Scalar.cmpi .ne v30 v35
  let v37 : BitVec 32 := Scalar.remsi v18 c2_i32
  let c0_i32_18 : BitVec 32 := 0#32
  let v38 : BitVec 1 := Scalar.cmpi .ne v37 c0_i32_18
  let v39 : BitVec 1 := Scalar.andi v36 v38
  let v25 : BitVec 32 := Scalar.divsi v18 c2_i32
  let c1_i32_19 : BitVec 32 := 1#32
  let v40 : BitVec 32 := Scalar.subi v25 c1_i32_19
  let v41 : BitVec 32 := Scalar.select v39 v40 v25
  let v42 : BitVec 32 := Scalar.subi v41 c1_i32_21
  let c1_i32_22 : BitVec 32 := 1#32
  let v44 : BitVec 32 := Scalar.divsi v42 c1_i32_22
  let v45 : BitVec 32 := Scalar.muli v44 c1_i32_22
  let v46 : BitVec 32 := Scalar.addi c1_i32_21 v45
  let c1_i32_24 : BitVec 32 := 1#32
  let arg19 : BitVec 32 := Scf.iv v46 c1_i32_24 k0_t3
  let v76 : BitVec 32 := Scalar.muli c2_i32_45 arg19
  let v77 : BitVec 32 := Scalar.addi arg1 v76
  let c512_i32 : BitVec 32 := 512#32
  let v81 : BitVec 32 := Scalar.muli v77 c512_i32
  let v82 : BitVec 32 := v81
  let v83 : Index := Scalar.indexCast v82
  let c0_48 : Index := 0#32
  ![v83.toNat, 0]
def k0_off14 (i : grid0.Coords) (k0_t3 : Fin (k0_t3_loop i).trips) : Fin 2 → Nat :=
  let arg1 : BitVec 32 := BitVec.ofNat 32 (i 1).val
  let c2_i32_45 : BitVec 32 := 2#32
  let c1_i32_21 : BitVec 32 := 1#32
  let c8_i32 : BitVec 32 := 8#32
  let v18 : BitVec 32 := Scalar.subi c8_i32 arg1
  let c0_i32_14 : BitVec 32 := 0#32
  let v26 : BitVec 1 := Scalar.cmpi .sgt v18 c0_i32_14
  let v27 : BitVec 32 := Scalar.extui v26
  let c0_i32_15 : BitVec 32 := 0#32
  let v28 : BitVec 1 := Scalar.cmpi .slt v18 c0_i32_15
  let v29 : BitVec 32 := Scalar.extui v28
  let v30 : BitVec 32 := Scalar.subi v27 v29
  let c2_i32 : BitVec 32 := 2#32
  let c0_i32_16 : BitVec 32 := 0#32
  let v31 : BitVec 1 := Scalar.cmpi .sgt c2_i32 c0_i32_16
  let v32 : BitVec 32 := Scalar.extui v31
  let c0_i32_17 : BitVec 32 := 0#32
  let v33 : BitVec 1 := Scalar.cmpi .slt c2_i32 c0_i32_17
  let v34 : BitVec 32 := Scalar.extui v33
  let v35 : BitVec 32 := Scalar.subi v32 v34
  let v36 : BitVec 1 := Scalar.cmpi .ne v30 v35
  let v37 : BitVec 32 := Scalar.remsi v18 c2_i32
  let c0_i32_18 : BitVec 32 := 0#32
  let v38 : BitVec 1 := Scalar.cmpi .ne v37 c0_i32_18
  let v39 : BitVec 1 := Scalar.andi v36 v38
  let v25 : BitVec 32 := Scalar.divsi v18 c2_i32
  let c1_i32_19 : BitVec 32 := 1#32
  let v40 : BitVec 32 := Scalar.subi v25 c1_i32_19
  let v41 : BitVec 32 := Scalar.select v39 v40 v25
  let v42 : BitVec 32 := Scalar.subi v41 c1_i32_21
  let c1_i32_22 : BitVec 32 := 1#32
  let v44 : BitVec 32 := Scalar.divsi v42 c1_i32_22
  let v45 : BitVec 32 := Scalar.muli v44 c1_i32_22
  let v46 : BitVec 32 := Scalar.addi c1_i32_21 v45
  let c1_i32_24 : BitVec 32 := 1#32
  let arg19 : BitVec 32 := Scf.iv v46 c1_i32_24 k0_t3
  let v76 : BitVec 32 := Scalar.muli c2_i32_45 arg19
  let v77 : BitVec 32 := Scalar.addi arg1 v76
  let c512_i32 : BitVec 32 := 512#32
  let v81 : BitVec 32 := Scalar.muli v77 c512_i32
  let v82 : BitVec 32 := v81
  let v86 : Index := Scalar.indexCast v82
  let c0_49 : Index := 0#32
  ![v86.toNat, 0]
def k0_mult8 (i : grid0.Coords) (k0_t3 : Fin (k0_t3_loop i).trips) : BitVec 32 :=
  let arg1 : BitVec 32 := BitVec.ofNat 32 (i 1).val
  let c2_i32_46 : BitVec 32 := 2#32
  let c1_i32_21 : BitVec 32 := 1#32
  let c8_i32 : BitVec 32 := 8#32
  let v18 : BitVec 32 := Scalar.subi c8_i32 arg1
  let c0_i32_14 : BitVec 32 := 0#32
  let v26 : BitVec 1 := Scalar.cmpi .sgt v18 c0_i32_14
  let v27 : BitVec 32 := Scalar.extui v26
  let c0_i32_15 : BitVec 32 := 0#32
  let v28 : BitVec 1 := Scalar.cmpi .slt v18 c0_i32_15
  let v29 : BitVec 32 := Scalar.extui v28
  let v30 : BitVec 32 := Scalar.subi v27 v29
  let c2_i32 : BitVec 32 := 2#32
  let c0_i32_16 : BitVec 32 := 0#32
  let v31 : BitVec 1 := Scalar.cmpi .sgt c2_i32 c0_i32_16
  let v32 : BitVec 32 := Scalar.extui v31
  let c0_i32_17 : BitVec 32 := 0#32
  let v33 : BitVec 1 := Scalar.cmpi .slt c2_i32 c0_i32_17
  let v34 : BitVec 32 := Scalar.extui v33
  let v35 : BitVec 32 := Scalar.subi v32 v34
  let v36 : BitVec 1 := Scalar.cmpi .ne v30 v35
  let v37 : BitVec 32 := Scalar.remsi v18 c2_i32
  let c0_i32_18 : BitVec 32 := 0#32
  let v38 : BitVec 1 := Scalar.cmpi .ne v37 c0_i32_18
  let v39 : BitVec 1 := Scalar.andi v36 v38
  let v25 : BitVec 32 := Scalar.divsi v18 c2_i32
  let c1_i32_19 : BitVec 32 := 1#32
  let v40 : BitVec 32 := Scalar.subi v25 c1_i32_19
  let v41 : BitVec 32 := Scalar.select v39 v40 v25
  let v42 : BitVec 32 := Scalar.subi v41 c1_i32_21
  let c1_i32_22 : BitVec 32 := 1#32
  let v44 : BitVec 32 := Scalar.divsi v42 c1_i32_22
  let v45 : BitVec 32 := Scalar.muli v44 c1_i32_22
  let v46 : BitVec 32 := Scalar.addi c1_i32_21 v45
  let c1_i32_24 : BitVec 32 := 1#32
  let arg19 : BitVec 32 := Scf.iv v46 c1_i32_24 k0_t3
  let v78 : BitVec 32 := Scalar.muli c2_i32_46 arg19
  let v79 : BitVec 32 := Scalar.addi arg1 v78
  let c1_i32_47 : BitVec 32 := 1#32
  let v80 : BitVec 32 := Scalar.addi v79 c1_i32_47
  let c512_i32_52 : BitVec 32 := 512#32
  let v91 : BitVec 32 := Scalar.muli v80 c512_i32_52
  v91
def k0_off15 (i : grid0.Coords) (k0_t3 : Fin (k0_t3_loop i).trips) : Fin 2 → Nat :=
  let arg1 : BitVec 32 := BitVec.ofNat 32 (i 1).val
  let c2_i32_46 : BitVec 32 := 2#32
  let c1_i32_21 : BitVec 32 := 1#32
  let c8_i32 : BitVec 32 := 8#32
  let v18 : BitVec 32 := Scalar.subi c8_i32 arg1
  let c0_i32_14 : BitVec 32 := 0#32
  let v26 : BitVec 1 := Scalar.cmpi .sgt v18 c0_i32_14
  let v27 : BitVec 32 := Scalar.extui v26
  let c0_i32_15 : BitVec 32 := 0#32
  let v28 : BitVec 1 := Scalar.cmpi .slt v18 c0_i32_15
  let v29 : BitVec 32 := Scalar.extui v28
  let v30 : BitVec 32 := Scalar.subi v27 v29
  let c2_i32 : BitVec 32 := 2#32
  let c0_i32_16 : BitVec 32 := 0#32
  let v31 : BitVec 1 := Scalar.cmpi .sgt c2_i32 c0_i32_16
  let v32 : BitVec 32 := Scalar.extui v31
  let c0_i32_17 : BitVec 32 := 0#32
  let v33 : BitVec 1 := Scalar.cmpi .slt c2_i32 c0_i32_17
  let v34 : BitVec 32 := Scalar.extui v33
  let v35 : BitVec 32 := Scalar.subi v32 v34
  let v36 : BitVec 1 := Scalar.cmpi .ne v30 v35
  let v37 : BitVec 32 := Scalar.remsi v18 c2_i32
  let c0_i32_18 : BitVec 32 := 0#32
  let v38 : BitVec 1 := Scalar.cmpi .ne v37 c0_i32_18
  let v39 : BitVec 1 := Scalar.andi v36 v38
  let v25 : BitVec 32 := Scalar.divsi v18 c2_i32
  let c1_i32_19 : BitVec 32 := 1#32
  let v40 : BitVec 32 := Scalar.subi v25 c1_i32_19
  let v41 : BitVec 32 := Scalar.select v39 v40 v25
  let v42 : BitVec 32 := Scalar.subi v41 c1_i32_21
  let c1_i32_22 : BitVec 32 := 1#32
  let v44 : BitVec 32 := Scalar.divsi v42 c1_i32_22
  let v45 : BitVec 32 := Scalar.muli v44 c1_i32_22
  let v46 : BitVec 32 := Scalar.addi c1_i32_21 v45
  let c1_i32_24 : BitVec 32 := 1#32
  let arg19 : BitVec 32 := Scf.iv v46 c1_i32_24 k0_t3
  let v78 : BitVec 32 := Scalar.muli c2_i32_46 arg19
  let v79 : BitVec 32 := Scalar.addi arg1 v78
  let c1_i32_47 : BitVec 32 := 1#32
  let v80 : BitVec 32 := Scalar.addi v79 c1_i32_47
  let c512_i32_52 : BitVec 32 := 512#32
  let v91 : BitVec 32 := Scalar.muli v80 c512_i32_52
  let v92 : BitVec 32 := v91
  let v93 : Index := Scalar.indexCast v92
  let c0_53 : Index := 0#32
  ![v93.toNat, 0]
def k0_off16 (i : grid0.Coords) (k0_t3 : Fin (k0_t3_loop i).trips) : Fin 2 → Nat :=
  let arg1 : BitVec 32 := BitVec.ofNat 32 (i 1).val
  let c2_i32_46 : BitVec 32 := 2#32
  let c1_i32_21 : BitVec 32 := 1#32
  let c8_i32 : BitVec 32 := 8#32
  let v18 : BitVec 32 := Scalar.subi c8_i32 arg1
  let c0_i32_14 : BitVec 32 := 0#32
  let v26 : BitVec 1 := Scalar.cmpi .sgt v18 c0_i32_14
  let v27 : BitVec 32 := Scalar.extui v26
  let c0_i32_15 : BitVec 32 := 0#32
  let v28 : BitVec 1 := Scalar.cmpi .slt v18 c0_i32_15
  let v29 : BitVec 32 := Scalar.extui v28
  let v30 : BitVec 32 := Scalar.subi v27 v29
  let c2_i32 : BitVec 32 := 2#32
  let c0_i32_16 : BitVec 32 := 0#32
  let v31 : BitVec 1 := Scalar.cmpi .sgt c2_i32 c0_i32_16
  let v32 : BitVec 32 := Scalar.extui v31
  let c0_i32_17 : BitVec 32 := 0#32
  let v33 : BitVec 1 := Scalar.cmpi .slt c2_i32 c0_i32_17
  let v34 : BitVec 32 := Scalar.extui v33
  let v35 : BitVec 32 := Scalar.subi v32 v34
  let v36 : BitVec 1 := Scalar.cmpi .ne v30 v35
  let v37 : BitVec 32 := Scalar.remsi v18 c2_i32
  let c0_i32_18 : BitVec 32 := 0#32
  let v38 : BitVec 1 := Scalar.cmpi .ne v37 c0_i32_18
  let v39 : BitVec 1 := Scalar.andi v36 v38
  let v25 : BitVec 32 := Scalar.divsi v18 c2_i32
  let c1_i32_19 : BitVec 32 := 1#32
  let v40 : BitVec 32 := Scalar.subi v25 c1_i32_19
  let v41 : BitVec 32 := Scalar.select v39 v40 v25
  let v42 : BitVec 32 := Scalar.subi v41 c1_i32_21
  let c1_i32_22 : BitVec 32 := 1#32
  let v44 : BitVec 32 := Scalar.divsi v42 c1_i32_22
  let v45 : BitVec 32 := Scalar.muli v44 c1_i32_22
  let v46 : BitVec 32 := Scalar.addi c1_i32_21 v45
  let c1_i32_24 : BitVec 32 := 1#32
  let arg19 : BitVec 32 := Scf.iv v46 c1_i32_24 k0_t3
  let v78 : BitVec 32 := Scalar.muli c2_i32_46 arg19
  let v79 : BitVec 32 := Scalar.addi arg1 v78
  let c1_i32_47 : BitVec 32 := 1#32
  let v80 : BitVec 32 := Scalar.addi v79 c1_i32_47
  let c512_i32_52 : BitVec 32 := 512#32
  let v91 : BitVec 32 := Scalar.muli v80 c512_i32_52
  let v92 : BitVec 32 := v91
  let v96 : Index := Scalar.indexCast v92
  let c0_54 : Index := 0#32
  ![v96.toNat, 0]
def k0_cond4 (i : grid0.Coords) : BitVec 1 :=
  let c8_i32 : BitVec 32 := 8#32
  let arg1 : BitVec 32 := BitVec.ofNat 32 (i 1).val
  let v18 : BitVec 32 := Scalar.subi c8_i32 arg1
  let c1_i32_25 : BitVec 32 := 1#32
  let v47 : BitVec 1 := Scalar.cmpi .sgt v18 c1_i32_25
  let c2_i32_26 : BitVec 32 := 2#32
  let c0_i32_27 : BitVec 32 := 0#32
  let v48 : BitVec 1 := Scalar.cmpi .eq c2_i32_26 c0_i32_27
  let c1_i32_28 : BitVec 32 := 1#32
  let v49 : BitVec 32 := Scalar.select v48 c1_i32_28 c2_i32_26
  let v50 : BitVec 32 := Scalar.remsi v18 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_32 : BitVec 32 := 1#32
  let v58 : BitVec 1 := Scalar.cmpi .eq v57 c1_i32_32
  let v59 : BitVec 1 := Scalar.andi v47 v58
  let v60 : BitVec 32 := Scalar.extui v59
  let c0_i32_33 : BitVec 32 := 0#32
  let v61 : BitVec 1 := Scalar.cmpi .ne v60 c0_i32_33
  v61

def k0_mult9 : BitVec 32 :=
  let c3584_i32 : BitVec 32 := 3584#32
  c3584_i32
def k0_cond5 (i : grid0.Coords) : BitVec 1 :=
  let arg1 : BitVec 32 := BitVec.ofNat 32 (i 1).val
  let c7_i32 : BitVec 32 := 7#32
  let v73 : BitVec 1 := Scalar.cmpi .eq arg1 c7_i32
  let v74 : BitVec 32 := Scalar.extui v73
  let c0_i32_44 : BitVec 32 := 0#32
  let v75 : BitVec 1 := Scalar.cmpi .ne v74 c0_i32_44
  v75

@[reducible] def k0_t4_loop : Scf.Loop 32 :=
  let c0_i32_45 : BitVec 32 := 0#32
  let c8_i32_46 : BitVec 32 := 8#32
  let v76 : BitVec 32 := Scalar.addi c0_i32_45 c8_i32_46
  let c1_i32_47 : BitVec 32 := 1#32
  ⟨c0_i32_45, v76, c1_i32_47⟩
def k0_mult10 (k0_t4 : Fin k0_t4_loop.trips) : BitVec 32 :=
  let c0_i32_45 : BitVec 32 := 0#32
  let c1_i32_47 : BitVec 32 := 1#32
  let arg19 : BitVec 32 := Scf.iv c0_i32_45 c1_i32_47 k0_t4
  let c512_i32 : BitVec 32 := 512#32
  let v77 : BitVec 32 := Scalar.muli arg19 c512_i32
  v77
def k0_off17 (k0_t4 : Fin k0_t4_loop.trips) : Fin 2 → Nat :=
  let c0_i32_45 : BitVec 32 := 0#32
  let c1_i32_47 : BitVec 32 := 1#32
  let arg19 : BitVec 32 := Scf.iv c0_i32_45 c1_i32_47 k0_t4
  let c512_i32 : BitVec 32 := 512#32
  let v77 : BitVec 32 := Scalar.muli arg19 c512_i32
  let v78 : BitVec 32 := v77
  let v79 : Index := Scalar.indexCast v78
  let c0_49 : Index := 0#32
  ![v79.toNat, 0]
def k0_off18 (k0_t4 : Fin k0_t4_loop.trips) : Fin 2 → Nat :=
  let c0_i32_45 : BitVec 32 := 0#32
  let c1_i32_47 : BitVec 32 := 1#32
  let arg19 : BitVec 32 := Scf.iv c0_i32_45 c1_i32_47 k0_t4
  let c512_i32 : BitVec 32 := 512#32
  let v77 : BitVec 32 := Scalar.muli arg19 c512_i32
  let v78 : BitVec 32 := v77
  let v84 : Index := Scalar.indexCast v78
  let c128_51 : Index := 128#32
  ![v84.toNat, 128]
def k0_off19 (k0_t4 : Fin k0_t4_loop.trips) : Fin 2 → Nat :=
  let c0_i32_45 : BitVec 32 := 0#32
  let c1_i32_47 : BitVec 32 := 1#32
  let arg19 : BitVec 32 := Scf.iv c0_i32_45 c1_i32_47 k0_t4
  let c512_i32 : BitVec 32 := 512#32
  let v77 : BitVec 32 := Scalar.muli arg19 c512_i32
  let v78 : BitVec 32 := v77
  let v86 : Index := Scalar.indexCast v78
  let c0_52 : Index := 0#32
  ![v86.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "ln2" => some ((Real.log 2 : ℝ) : EReal)
  | "scale" => some (((Real.sqrt 192)⁻¹ : ℝ) : EReal)
  | _ => none
-- ==== ReferenceIdeal.lean ====
abbrev S4096x8x192 : Shape := ⟨3, ![4096, 8, 192]⟩
abbrev S4096x8x256 : Shape := ⟨3, ![4096, 8, 256]⟩
abbrev S4096x64 : Shape := ⟨2, ![4096, 64]⟩
abbrev S4096 : Shape := ⟨1, ![4096]⟩
abbrev S4096x2048 : Shape := ⟨2, ![4096, 2048]⟩
abbrev S4096x1024 : Shape := ⟨2, ![4096, 1024]⟩
abbrev S4096x8x128 : Shape := ⟨3, ![4096, 8, 128]⟩
abbrev S4096x1x64 : Shape := ⟨3, ![4096, 1, 64]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S8x4096x4096 : Shape := ⟨3, ![8, 4096, 4096]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩

abbrev nBuf : Space → Nat
  | .hbm => 181
  | .vmem => 0
  | .smem => 0
  | _ => 0

abbrev hbmTy0_0 (i : Nat) : BufTy := match i % 128 with
  | 0 => ⟨S4096x8x192, .f32⟩
  | 1 => ⟨S4096x8x256, .f32⟩
  | 2 => ⟨S4096x64, .f32⟩
  | 3 => ⟨S4096, .i32⟩
  | 4 => ⟨S4096x2048, .f32⟩
  | 5 => ⟨S4096x1024, .f32⟩
  | 6 => ⟨S4096x8x128, .f32⟩
  | 7 => ⟨S4096x1x64, .f32⟩
  | 8 => ⟨S4096x8x64, .f32⟩
  | 9 => ⟨S4096x8x128, .f32⟩
  | 10 => ⟨S4096x8x64, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S4096, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096x32, .f32⟩
  | 32 => ⟨S4096x1x32, .f32⟩
  | 33 => ⟨S4096x32, .f32⟩
  | 34 => ⟨S4096x1x32, .f32⟩
  | 35 => ⟨S4096x8x32, .f32⟩
  | 36 => ⟨S4096x8x32, .f32⟩
  | 37 => ⟨S4096x8x32, .f32⟩
  | 38 => ⟨S4096x8x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x64, .f32⟩
  | 48 => ⟨S4096x8x192, .f32⟩
  | 49 => ⟨S4096x8x128, .f32⟩
  | 50 => ⟨S4096x8x128, .f32⟩
  | 51 => ⟨S4096x8x192, .f32⟩
  | 52 => ⟨S8x4096x4096, .f32⟩
  | 53 => ⟨S_, .f32⟩
  | 54 => ⟨S_, .f32⟩
  | 55 => ⟨S8x4096x4096, .f32⟩
  | 56 => ⟨S8x4096x4096, .f32⟩
  | 57 => ⟨S4096, .i32⟩
  | 58 => ⟨S1x4096, .i32⟩
  | 59 => ⟨S4096x1, .i32⟩
  | 60 => ⟨S4096x4096, .i32⟩
  | 61 => ⟨S4096x4096, .i32⟩
  | 62 => ⟨S4096x4096, .i1⟩
  | 63 => ⟨S1x4096x4096, .i1⟩
  | 64 => ⟨S_, .f32⟩
  | 65 => ⟨S_, .f32⟩
  | 66 => ⟨S8x4096x4096, .i1⟩
  | 67 => ⟨S8x4096x4096, .f32⟩
  | 68 => ⟨S8x4096x4096, .f32⟩
  | 69 => ⟨S_, .f32⟩
  | 70 => ⟨S8x4096x4096, .f32⟩
  | 71 => ⟨S_, .f32⟩
  | 72 => ⟨S8x4096, .f32⟩
  | 73 => ⟨S8x4096x1, .f32⟩
  | 74 => ⟨S8x4096x4096, .f32⟩
  | 75 => ⟨S8x4096x4096, .i1⟩
  | 76 => ⟨S8x4096x4096, .f32⟩
  | 77 => ⟨S_, .f32⟩
  | 78 => ⟨S8x4096, .f32⟩
  | 79 => ⟨S_, .f32⟩
  | 80 => ⟨S8x4096, .f32⟩
  | 81 => ⟨S8x4096, .f32⟩
  | 82 => ⟨S_, .f32⟩
  | 83 => ⟨S8x4096, .f32⟩
  | 84 => ⟨S8x4096, .i1⟩
  | 85 => ⟨S_, .f32⟩
  | 86 => ⟨S8x4096, .f32⟩
  | 87 => ⟨S8x4096, .i1⟩
  | 88 => ⟨S_, .f32⟩
  | 89 => ⟨S8x4096, .f32⟩
  | 90 => ⟨S_, .f32⟩
  | 91 => ⟨S8x4096, .f32⟩
  | 92 => ⟨S_, .f32⟩
  | 93 => ⟨S8x4096, .f32⟩
  | 94 => ⟨S8x4096, .f32⟩
  | 95 => ⟨S8x4096, .f32⟩
  | 96 => ⟨S8x4096x1, .f32⟩
  | 97 => ⟨S8x4096x4096, .f32⟩
  | 98 => ⟨S8x4096x4096, .f32⟩
  | 99 => ⟨S8x4096x4096, .f32⟩
  | 100 => ⟨S_, .f32⟩
  | 101 => ⟨S8x4096, .f32⟩
  | 102 => ⟨S8x4096x1, .f32⟩
  | 103 => ⟨S8x4096x4096, .f32⟩
  | 104 => ⟨S8x4096x4096, .f32⟩
  | 105 => ⟨S8x4096x1, .f32⟩
  | 106 => ⟨S_, .f32⟩
  | 107 => ⟨S8x4096x1, .f32⟩
  | 108 => ⟨S8x4096x1, .f32⟩
  | 109 => ⟨S8x128x4096, .f32⟩
  | 110 => ⟨S4096x8x128, .f32⟩
  | 111 => ⟨S8x128x4096, .f32⟩
  | 112 => ⟨S8x4096x4096, .f32⟩
  | 113 => ⟨S8x128x4096, .f32⟩
  | 114 => ⟨S4096x8x128, .f32⟩
  | 115 => ⟨S8x4096x4096, .f32⟩
  | 116 => ⟨S8x4096x4096, .f32⟩
  | 117 => ⟨S8x4096x4096, .f32⟩
  | 118 => ⟨S_, .f32⟩
  | 119 => ⟨S8x4096, .f32⟩
  | 120 => ⟨S8x4096x1, .f32⟩
  | 121 => ⟨S8x4096x1, .f32⟩
  | 122 => ⟨S8x4096x4096, .f32⟩
  | 123 => ⟨S8x4096x4096, .f32⟩
  | 124 => ⟨S_, .f32⟩
  | 125 => ⟨S8x4096, .f32⟩
  | 126 => ⟨S8x4096x4096, .f32⟩
  | 127 => ⟨S8x4096x4096, .f32⟩
  | _ => ⟨S4096x8x192, .f32⟩

abbrev hbmTy0_1 (i : Nat) : BufTy := match i % 128 with
  | 0 => ⟨S8x4096x4096, .f32⟩
  | 1 => ⟨S_, .f32⟩
  | 2 => ⟨S8x4096x4096, .f32⟩
  | 3 => ⟨S8x4096x4096, .f32⟩
  | 4 => ⟨S8x4096x4096, .f32⟩
  | 5 => ⟨S8x4096x4096, .f32⟩
  | 6 => ⟨S8x4096x192, .f32⟩
  | 7 => ⟨S4096x8x192, .f32⟩
  | 8 => ⟨S8x4096x192, .f32⟩
  | 9 => ⟨S4096x8x192, .f32⟩
  | 10 => ⟨S4096x8x128, .f32⟩
  | 11 => ⟨S4096x8x64, .f32⟩
  | 12 => ⟨S_, .f32⟩
  | 13 => ⟨S4096x8x256, .f32⟩
  | 14 => ⟨S_, .f32⟩
  | 15 => ⟨S4096x8x256, .f32⟩
  | 16 => ⟨S4096x8x256, .f32⟩
  | 17 => ⟨S4096x8x128, .f32⟩
  | 18 => ⟨S4096x8x64, .f32⟩
  | 19 => ⟨S4096x8x32, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S4096x8x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S4096x8x32, .f32⟩
  | 32 => ⟨S_, .f32⟩
  | 33 => ⟨S4096x8x64, .f32⟩
  | 34 => ⟨S_, .f32⟩
  | 35 => ⟨S4096x8x64, .f32⟩
  | 36 => ⟨S4096x8x64, .f32⟩
  | 37 => ⟨S_, .f32⟩
  | 38 => ⟨S4096x8x192, .f32⟩
  | 39 => ⟨S_, .f32⟩
  | 40 => ⟨S4096x8x192, .f32⟩
  | 41 => ⟨S4096x8x192, .f32⟩
  | 42 => ⟨S_, .i32⟩
  | 43 => ⟨S_, .f32⟩
  | 44 => ⟨S4096x8x256, .f32⟩
  | 45 => ⟨S4096x2048, .f32⟩
  | 46 => ⟨S4096x2048, .bf16⟩
  | 47 => ⟨S_, .i32⟩
  | 48 => ⟨S_, .f32⟩
  | 49 => ⟨S4096x8x128, .f32⟩
  | 50 => ⟨S4096x1024, .f32⟩
  | 51 => ⟨S4096x2048, .f32⟩
  | 52 => ⟨S4096x2048, .bf16⟩
  | _ => ⟨S4096x8x192, .f32⟩

abbrev hbmTy (i : Nat) : BufTy := match i / 128 with
  | 0 => hbmTy0_0 i
  | 1 => hbmTy0_1 i
  | _ => ⟨S4096x8x192, .f32⟩

abbrev bufTy : (tb : Table) → Fin (tcTables nBuf tb) → BufTy
  | .hbm, ⟨i, _⟩ => hbmTy i
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_4 : Ref sig .tc := ⟨.hbm, 64, rfl⟩
abbrev main_call0_v0 : Ref sig .tc := ⟨.hbm, 65, rfl⟩
abbrev main_v54_1 : Ref sig .tc := ⟨.hbm, 66, rfl⟩
abbrev main_call0_v2 : Ref sig .tc := ⟨.hbm, 67, rfl⟩
abbrev main_v54_0 : Ref sig .tc := ⟨.hbm, 68, rfl⟩
abbrev main_call0_cst : Ref sig .tc := ⟨.hbm, 69, rfl⟩
abbrev main_v54_2 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_15 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_call1_cst : Ref sig .tc := ⟨.hbm, 129, rfl⟩
abbrev main_call1_v0 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_17 : Ref sig .tc := ⟨.hbm, 140, rfl⟩
abbrev main_v110 : Ref sig .tc := ⟨.hbm, 141, rfl⟩
abbrev main_cst_18 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_19 : Ref sig .tc := ⟨.hbm, 160, rfl⟩
abbrev main_v128 : Ref sig .tc := ⟨.hbm, 161, rfl⟩
abbrev main_cst_20 : Ref sig .tc := ⟨.hbm, 162, rfl⟩
abbrev main_v129 : Ref sig .tc := ⟨.hbm, 163, rfl⟩
abbrev main_v130 : Ref sig .tc := ⟨.hbm, 164, rfl⟩
abbrev main_cst_21 : Ref sig .tc := ⟨.hbm, 165, rfl⟩
abbrev main_v131 : Ref sig .tc := ⟨.hbm, 166, rfl⟩
abbrev main_cst_22 : Ref sig .tc := ⟨.hbm, 167, rfl⟩
abbrev main_v132 : Ref sig .tc := ⟨.hbm, 168, rfl⟩
abbrev main_v133 : Ref sig .tc := ⟨.hbm, 169, rfl⟩
abbrev main_c : Ref sig .tc := ⟨.hbm, 170, rfl⟩
abbrev main_call2_v0 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_c_23 : Ref sig .tc := ⟨.hbm, 175, rfl⟩
abbrev main_call3_v0 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩

abbrev nD : Nat := 1
abbrev τ : Topo := Topo.v7x

variable {F : FTy → Type} [FloatOps F]
-- ==== Kernel2.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4x2048x2048 : Shape := ⟨3, ![4, 2048, 2048]⟩
abbrev S4096x8192 : Shape := ⟨2, ![4096, 8192]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S4096x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4x2048x2048 : Shape := ⟨3, ![4, 2048, 2048]⟩
abbrev S4096x8192 : Shape := ⟨2, ![4096, 8192]⟩
abbrev S2048x4x2048 : Shape := ⟨3, ![2048, 4, 2048]⟩
abbrev S2048x8192 : Shape := ⟨2, ![2048, 8192]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4096x8192, .bf16⟩
  | .hbm, ⟨2, _⟩ => ⟨S2048x4x2048, .bf16⟩
  | .hbm, ⟨3, _⟩ => ⟨S2048x8192, .bf16⟩
  | .hbm, ⟨4, _⟩ => ⟨S2048x8192, .f32⟩
  | .hbm, ⟨5, _⟩ => ⟨S_, .f32⟩
  | .hbm, ⟨6, _⟩ => ⟨S4096x2048, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x2048 : Shape := ⟨2, ![4096, 2048]⟩
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x2048 : Shape := ⟨2, ![2048, 2048]⟩
abbrev S4096x2048 : Shape := ⟨2, ![4096, 2048]⟩
abbrev S1024x2048 : Shape := ⟨2, ![1024, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .f32⟩
  | .local _ .vmem, ⟨5, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4224x2048 : Shape := ⟨2, ![4224, 2048]⟩
abbrev S4096x4224 : Shape := ⟨2, ![4096, 4224]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4096x4224, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x2048 : Shape := ⟨2, ![4224, 2048]⟩
abbrev S4096x4224 : Shape := ⟨2, ![4096, 4224]⟩
abbrev S_ : Shape := ⟨0, ![]⟩
abbrev S4096x2048 : Shape := ⟨2, ![4096, 2048]⟩
abbrev S2048x4224 : Shape := ⟨2, ![2048, 4224]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4096x4224, .bf16⟩
  | .hbm, ⟨2, _⟩ => ⟨S_, .f32⟩
  | .hbm, ⟨3, _⟩ => ⟨S4096x2048, .f32⟩
  | .hbm, ⟨4, _⟩ => ⟨S4224x2048, .f32⟩
  | .hbm, ⟨5, _⟩ => ⟨S2048x4224, .f32⟩
  | .hbm, ⟨6, _⟩ => ⟨S4096x4224, .f32⟩
  | .hbm, ⟨7, _⟩ => ⟨S4096x4224, .f32⟩
  | .hbm, ⟨8, _⟩ => ⟨S4096x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x2048 : Shape := ⟨2, ![4096, 2048]⟩
abbrev S4096x4224 : Shape := ⟨2, ![4096, 4224]⟩
abbrev S4224x2048 : Shape := ⟨2, ![4224, 2048]⟩
abbrev S4096x1408 : Shape := ⟨2, ![4096, 1408]⟩
abbrev S4096x1024 : Shape := ⟨2, ![4096, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4224, .bf16⟩
  | .hbm, ⟨2, _⟩ => ⟨S4224x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S4096x1024, .bf16⟩
  | .local _ .vmem, ⟨4, _⟩ => ⟨S1408x1024, .bf16⟩
  | .local _ .vmem, ⟨5, _⟩ => ⟨S1408x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x4224 : Shape := ⟨2, ![4096, 4224]⟩
abbrev S_ : Shape := ⟨0, ![]⟩
abbrev S4224x2048 : Shape := ⟨2, ![4224, 2048]⟩
abbrev S2048x4224 : Shape := ⟨2, ![2048, 4224]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4224, .bf16⟩
  | .hbm, ⟨2, _⟩ => ⟨S_, .f32⟩
  | .hbm, ⟨3, _⟩ => ⟨S4224x2048, .f32⟩
  | .hbm, ⟨4, _⟩ => ⟨S4096x2048, .f32⟩
  | .hbm, ⟨5, _⟩ => ⟨S2048x4224, .f32⟩
  | .hbm, ⟨6, _⟩ => ⟨S4096x4224, .f32⟩
  | .hbm, ⟨7, _⟩ => ⟨S4096x4224, .f32⟩
  | .hbm, ⟨8, _⟩ => ⟨S4224x2048, .f32⟩
  | .hbm, ⟨9, _⟩ => ⟨S2048x4224, .f32⟩
  | .hbm, ⟨10, _⟩ => ⟨S4224x2048, .f32⟩
  | .hbm, ⟨11, _⟩ => ⟨S4224x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S512x2048 : Shape := ⟨2, ![512, 2048]⟩
abbrev S4096x2048 : Shape := ⟨2, ![4096, 2048]⟩
abbrev S4096x512 : Shape := ⟨2, ![4096, 512]⟩
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S4096x2048, .bf16⟩
  | .hbm, ⟨2, _⟩ => ⟨S4096x512, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S512x2048 : Shape := ⟨2, ![512, 2048]⟩
abbrev S4096x2048 : Shape := ⟨2, ![4096, 2048]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S4096x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | .hbm, ⟨7, _⟩ => ⟨S4096x512, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x512 : Shape := ⟨2, ![4096, 512]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x2048 : Shape := ⟨2, ![4096, 2048]⟩
abbrev S4x2048x2048 : Shape := ⟨3, ![4, 2048, 2048]⟩
abbrev S4096x8192 : Shape := ⟨2, ![4096, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .hbm, ⟨3, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S2048x8192, .f32⟩
  | .hbm, ⟨5, _⟩ => ⟨S4096x2048, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel13.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x2048 : Shape := ⟨2, ![4096, 2048]⟩
abbrev S4224x2048 : Shape := ⟨2, ![4224, 2048]⟩
abbrev S4096x4224 : Shape := ⟨2, ![4096, 4224]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4224x2048, .bf16⟩
  | .hbm, ⟨2, _⟩ => ⟨S4096x4224, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4224x2048 : Shape := ⟨2, ![4224, 2048]⟩
abbrev S2048x4224 : Shape := ⟨2, ![2048, 4224]⟩
abbrev S4096x4224 : Shape := ⟨2, ![4096, 4224]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4224x2048, .bf16⟩
  | .hbm, ⟨2, _⟩ => ⟨S4096x2048, .f32⟩
  | .hbm, ⟨3, _⟩ => ⟨S4224x2048, .f32⟩
  | .hbm, ⟨4, _⟩ => ⟨S2048x4224, .f32⟩
  | .hbm, ⟨5, _⟩ => ⟨S4096x4224, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x512 : Shape := ⟨2, ![4096, 512]⟩
abbrev S512x2048 : Shape := ⟨2, ![512, 2048]⟩
abbrev S4096x2048 : Shape := ⟨2, ![4096, 2048]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S2048x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | .hbm, ⟨5, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32 : BitVec 32 := 0#32
  let v32 : BitVec 1 := Scalar.cmpi .eq arg0 c0_i32
  let v_true : BitVec 1 := 1#1
  let v35 : BitVec 1 := Scalar.xori v32 v_true
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x2048 : Shape := ⟨2, ![8, 2048]⟩
abbrev S512x8x2048 : Shape := ⟨3, ![512, 8, 2048]⟩
abbrev S512x8 : Shape := ⟨2, ![512, 8]⟩
abbrev S512x8x1 : Shape := ⟨3, ![512, 8, 1]⟩
abbrev S1x8x2048 : Shape := ⟨3, ![1, 8, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S8x2048, .f32⟩
  | .hbm, ⟨44, _⟩ => ⟨S512x8x2048, .f32⟩
  | .hbm, ⟨45, _⟩ => ⟨S512x8x2048, .f32⟩
  | .hbm, ⟨46, _⟩ => ⟨S_, .f32⟩
  | .hbm, ⟨47, _⟩ => ⟨S512x8, .f32⟩
  | .hbm, ⟨48, _⟩ => ⟨S512x8x1, .f32⟩
  | .hbm, ⟨49, _⟩ => ⟨S_, .f32⟩
  | .hbm, ⟨50, _⟩ => ⟨S512x8x1, .f32⟩
  | .hbm, ⟨51, _⟩ => ⟨S512x8x1, .f32⟩
  | .hbm, ⟨52, _⟩ => ⟨S_, .f32⟩
  | .hbm, ⟨53, _⟩ => ⟨S512x8x1, .f32⟩
  | .hbm, ⟨54, _⟩ => ⟨S512x8x1, .f32⟩
  | .hbm, ⟨55, _⟩ => ⟨S512x8x1, .f32⟩
  | .hbm, ⟨56, _⟩ => ⟨S512x8x2048, .f32⟩
  | .hbm, ⟨57, _⟩ => ⟨S512x8x2048, .f32⟩
  | .hbm, ⟨58, _⟩ => ⟨S1x8x2048, .f32⟩
  | .hbm, ⟨59, _⟩ => ⟨S512x8x2048, .f32⟩
  | .hbm, ⟨60, _⟩ => ⟨S512x8x2048, .f32⟩
  | .hbm, ⟨61, _⟩ => ⟨S512x8x2048, .f32⟩
  | .hbm, ⟨62, _⟩ => ⟨S512x8x2048, .f32⟩
  | .hbm, ⟨63, _⟩ => ⟨S_, .f32⟩
  | .hbm, ⟨64, _⟩ => ⟨S8x2048, .f32⟩
  | .hbm, ⟨65, _⟩ => ⟨S1x8x2048, .f32⟩
  | .hbm, ⟨66, _⟩ => ⟨S_, .f32⟩
  | .hbm, ⟨67, _⟩ => ⟨S8x2048, .f32⟩
  | .hbm, ⟨68, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel18.lean ====
abbrev S64x9344 : Shape := ⟨2, ![64, 9344]⟩
abbrev S1x9216 : Shape := ⟨2, ![1, 9216]⟩
abbrev S1x128 : Shape := ⟨2, ![1, 128]⟩
abbrev S1x9344 : Shape := ⟨2, ![1, 9344]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S64x9344, .f32⟩
  | .hbm, ⟨1, _⟩ => ⟨S1x9216, .f32⟩
  | .hbm, ⟨2, _⟩ => ⟨S1x9216, .f32⟩
  | .hbm, ⟨3, _⟩ => ⟨S1x9216, .f32⟩
  | .hbm, ⟨4, _⟩ => ⟨S1x9216, .f32⟩
  | .hbm, ⟨5, _⟩ => ⟨S1x9216, .f32⟩
  | .hbm, ⟨6, _⟩ => ⟨S1x9216, .f32⟩
  | .hbm, ⟨7, _⟩ => ⟨S1x9216, .f32⟩
  | .hbm, ⟨8, _⟩ => ⟨S1x128, .f32⟩
  | .local _ .vmem, ⟨0, _⟩ => ⟨S64x9344, .f32⟩
  | .local _ .vmem, ⟨1, _⟩ => ⟨S1x9216, .f32⟩
  | .local _ .vmem, ⟨2, _⟩ => ⟨S1x9216, .f32⟩
  | .local _ .vmem, ⟨3, _⟩ => ⟨S1x9216, .f32⟩
  | .local _ .vmem, ⟨4, _⟩ => ⟨S1x9216, .f32⟩
  | .local _ .vmem, ⟨5, _⟩ => ⟨S1x9216, .f32⟩
  | .local _ .vmem, ⟨6, _⟩ => ⟨S1x9216, .f32⟩
  | .local _ .vmem, ⟨7, _⟩ => ⟨S1x9216, .f32⟩
  | .local _ .vmem, ⟨8, _⟩ => ⟨S1x128, .f32⟩
  | _, _ => ⟨S64x9344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x9344 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x9216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference18Ideal.lean ====
abbrev S64x9344 : Shape := ⟨2, ![64, 9344]⟩
abbrev S1x9216 : Shape := ⟨2, ![1, 9216]⟩
abbrev S64x9216 : Shape := ⟨2, ![64, 9216]⟩
abbrev S_ : Shape := ⟨0, ![]⟩
abbrev S9216 : Shape := ⟨1, ![9216]⟩
abbrev S64x128 : Shape := ⟨2, ![64, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S64x9344, .f32⟩
  | .hbm, ⟨1, _⟩ => ⟨S1x9216, .f32⟩
  | .hbm, ⟨2, _⟩ => ⟨S1x9216, .f32⟩
  | .hbm, ⟨3, _⟩ => ⟨S1x9216, .f32⟩
  | .hbm, ⟨4, _⟩ => ⟨S64x9216, .f32⟩
  | .hbm, ⟨5, _⟩ => ⟨S_, .f32⟩
  | .hbm, ⟨6, _⟩ => ⟨S9216, .f32⟩
  | .hbm, ⟨7, _⟩ => ⟨S1x9216, .f32⟩
  | .hbm, ⟨8, _⟩ => ⟨S_, .f32⟩
  | .hbm, ⟨9, _⟩ => ⟨S1x9216, .f32⟩
  | .hbm, ⟨10, _⟩ => ⟨S1x9216, .f32⟩
  | .hbm, ⟨11, _⟩ => ⟨S_, .f32⟩
  | .hbm, ⟨12, _⟩ => ⟨S1x9216, .f32⟩
  | .hbm, ⟨13, _⟩ => ⟨S1x9216, .f32⟩
  | .hbm, ⟨14, _⟩ => ⟨S1x9216, .f32⟩
  | .hbm, ⟨15, _⟩ => ⟨S_, .f32⟩
  | .hbm, ⟨16, _⟩ => ⟨S1x9216, .f32⟩
  | .hbm, ⟨17, _⟩ => ⟨S1x9216, .f32⟩
  | .hbm, ⟨18, _⟩ => ⟨S1x9216, .f32⟩
  | .hbm, ⟨19, _⟩ => ⟨S_, .f32⟩
  | .hbm, ⟨20, _⟩ => ⟨S1x9216, .f32⟩
  | .hbm, ⟨21, _⟩ => ⟨S1x9216, .f32⟩
  | .hbm, ⟨22, _⟩ => ⟨S1x9216, .f32⟩
  | .hbm, ⟨23, _⟩ => ⟨S_, .f32⟩
  | .hbm, ⟨24, _⟩ => ⟨S1x9216, .f32⟩
  | .hbm, ⟨25, _⟩ => ⟨S1x9216, .f32⟩
  | .hbm, ⟨26, _⟩ => ⟨S_, .f32⟩
  | .hbm, ⟨27, _⟩ => ⟨S1x9216, .f32⟩
  | .hbm, ⟨28, _⟩ => ⟨S1x9216, .f32⟩
  | .hbm, ⟨29, _⟩ => ⟨S1x9216, .f32⟩
  | .hbm, ⟨30, _⟩ => ⟨S_, .f32⟩
  | .hbm, ⟨31, _⟩ => ⟨S1x9216, .f32⟩
  | .hbm, ⟨32, _⟩ => ⟨S1x9216, .f32⟩
  | .hbm, ⟨33, _⟩ => ⟨S1x9216, .f32⟩
  | .hbm, ⟨34, _⟩ => ⟨S_, .f32⟩
  | .hbm, ⟨35, _⟩ => ⟨S1x9216, .f32⟩
  | .hbm, ⟨36, _⟩ => ⟨S1x9216, .f32⟩
  | .hbm, ⟨37, _⟩ => ⟨S1x9216, .f32⟩
  | .hbm, ⟨38, _⟩ => ⟨S_, .f32⟩
  | .hbm, ⟨39, _⟩ => ⟨S1x9216, .f32⟩
  | .hbm, ⟨40, _⟩ => ⟨S1x9216, .f32⟩
  | .hbm, ⟨41, _⟩ => ⟨S64x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1x128, .f32⟩
  | _, _ => ⟨S64x9344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_cst_11 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Step.lean ====
/- One query block's step of the kernel's body as a function on arrays, over any float instance: the probabilities of
   a block, the score cotangents, and what the step adds to the three gradients.  The state of the sweep over the
   query blocks is the pair of block accumulators (keys, values) and the whole array of query gradients. -/
module

public import proofs.«01_k».proof.Proof.Gen.KernelIdeal.Skeleton
public import Idealize.ShloMosaic.Lib.VecWindow

@[expose] public section

noncomputable section

namespace Cert.KernelIdeal.Bwd

open Idealize.ShloMosaic Cert.KernelIdeal.Gen

variable {F : FTy → Type} [FloatOps F] [Named F]

/-- A load at a unit-stride rectangle of canonical contents reads a window at the rectangle's closed offsets. -/
theorem readAt_at {Val : EltTy → Type} [∀ e, Nonempty (Val e)] {sg : RefSig} {κ : Kind} {sp : Space} {sh : Shape} {e : EltTy}
    (v : View sg κ sp sh e) (x : sh.Idx → Val e) {off off' size : Fin sh.rank → ℕ} (h : off = off')
    (inb : ∀ a, off a + size a ≤ sh.size a) :
    v.readAt Val (Rect.unit off size inb).toLoadRect (v.rep x) = VecWindow.window x off' size (h ▸ inb) :=
  View.readAt_rep_unit v x inb h _

/-- The rows of query block `b` of an array 256 wide. -/
abbrev rowsQ {e : EltTy} (X : S4096x256.Idx → Elt F e) (b : ℕ) (hb : b < 8) : S512x256.Idx → Elt F e :=
  VecWindow.window X ![512 * b, 0] S512x256.size (by intro a; fin_cases a <;> simp <;> omega)

/-- The rows of query block `b` of an array 128 wide. -/
abbrev rowsD {e : EltTy} (X : S4096x128.Idx → Elt F e) (b : ℕ) (hb : b < 8) : S512x128.Idx → Elt F e :=
  VecWindow.window X ![512 * b, 0] S512x128.size (by intro a; fin_cases a <;> simp <;> omega)

/-- A column of 128 equal lanes repeated to 512 columns. -/
def wide (l : FVec F S512x128 .f32) : FVec F S512x512 .f32 :=
  concatenate S512x512 1 [⟨S512x128, l⟩, ⟨S512x128, l⟩, ⟨S512x128, l⟩, ⟨S512x128, l⟩]
    concatenates_S512x128_S512x128_S512x128_S512x128_S512x512_d1

/-- Queries times keys. -/
def score (K q : FVec F S512x256 .bf16) : FVec F S512x512 .f32 :=
  matmul dot_S512x256_S512x256_S512x512_1_1_0_0_n_n none (shapeCast S512x256 q shapeCasts_S512x256_S512x256) K
    (constant S512x512 .f32 0x00000000#32)

/-- The probabilities of a block below the diagonal. -/
def probU (K q : FVec F S512x256 .bf16) (l : FVec F S512x128 .f32) : FVec F S512x512 .f32 :=
  exp2 (subf (score K q) (wide (shapeCast S512x128 l shapeCasts_S512x128_S512x128)))

/-- The probabilities of the diagonal block. -/
def probM (K q : FVec F S512x256 .bf16) (l : FVec F S512x128 .f32) : FVec F S512x512 .f32 :=
  select (cmpi .sle (iota .tc S512x512 32 [1] iota_S512x512_d1_w32) (iota .tc S512x512 32 [0] iota_S512x512_d0_w32))
    (probU K q l) (broadcast S512x512 (Scalar.ofBits .f32 0x00000000#32))

/-- The probabilities of a block. -/
def prob (masked : Bool) (K q : FVec F S512x256 .bf16) (l : FVec F S512x128 .f32) : FVec F S512x512 .f32 :=
  if masked then probM K q l else probU K q l

/-- Output cotangents times values. -/
def dprob (V : FVec F S512x128 .bf16) (d : FVec F S512x128 .f32) : FVec F S512x512 .f32 :=
  matmul dot_S512x128_S512x128_S512x512_1_1_0_0_n_n none (truncf .bf16 d bitsLt_bf16_f32) V
    (constant S512x512 .f32 0x00000000#32)

/-- The score cotangents of a block. -/
def dscore (V : FVec F S512x128 .bf16) (d dl : FVec F S512x128 .f32) (p : FVec F S512x512 .f32) : FVec F S512x512 .bf16 :=
  truncf .bf16 (mulf p (subf (dprob V d) (wide dl))) bitsLt_bf16_f32

/-- The value gradient after a block. -/
def stepV (d : FVec F S512x128 .f32) (p : FVec F S512x512 .f32) (acc : FVec F S512x128 .f32) : FVec F S512x128 .f32 :=
  shapeCast S512x128 (addf acc (matmul dot_S512x512_S512x128_S512x128_0_0_1_1_n_n none (truncf .bf16 p bitsLt_bf16_f32)
    (truncf .bf16 d bitsLt_bf16_f32) (constant S512x128 .f32 0x00000000#32))) shapeCasts_S512x128_S512x128

/-- The key gradient after a block. -/
def stepK (q : FVec F S512x256 .bf16) (ds : FVec F S512x512 .bf16) (acc : FVec F S512x256 .f32) : FVec F S512x256 .f32 :=
  shapeCast S512x256 (addf acc (matmul dot_S512x512_S512x256_S512x256_0_0_1_1_n_n none ds
    (shapeCast S512x256 q shapeCasts_S512x256_S512x256) (constant S512x256 .f32 0x00000000#32))) shapeCasts_S512x256_S512x256

/-- The query gradient of the block's rows after the block. -/
def stepQ (K : FVec F S512x256 .bf16) (ds : FVec F S512x512 .bf16) (acc : FVec F S512x256 .f32) : FVec F S512x256 .f32 :=
  shapeCast S512x256 (addf acc (mulf (matmul dot_S512x512_S512x256_S512x256_1_0_0_1_n_n none ds K
    (constant S512x256 .f32 0x00000000#32)) (broadcast S512x256 (Named.named κ "scale" 0x3D93CD3A#32))))
    shapeCasts_S512x256_S512x256

/-- What the steps of one key block read: the block's keys and values, the head's queries, output cotangents,
    log-sum-exps and row corrections. -/
structure Env (F : FTy → Type) where
  K : FVec F S512x256 .bf16
  V : FVec F S512x128 .bf16
  Q : S4096x256.Idx → Elt F .bf16
  D : S4096x128.Idx → Elt F .f32
  L : S4096x128.Idx → Elt F .f32
  C : S4096x128.Idx → Elt F .f32

/-- The three accumulators. -/
structure St (F : FTy → Type) where
  dq : S4096x256.Idx → Elt F .f32
  dk : S512x256.Idx → Elt F .f32
  dv : S512x128.Idx → Elt F .f32

/-- The probabilities of query block `b`. -/
def Env.p (e : Env F) (masked : Bool) (b : ℕ) (hb : b < 8) : FVec F S512x512 .f32 :=
  prob masked e.K (rowsQ (F := F) (e := .bf16) e.Q b hb) (rowsD (F := F) (e := .f32) e.L b hb)

/-- The score cotangents of query block `b`. -/
def Env.ds (e : Env F) (masked : Bool) (b : ℕ) (hb : b < 8) : FVec F S512x512 .bf16 :=
  dscore e.V (rowsD (F := F) (e := .f32) e.D b hb) (rowsD (F := F) (e := .f32) e.C b hb) (e.p masked b hb)

/-- One query block's step. -/
def Env.step (e : Env F) (masked : Bool) (b : ℕ) (hb : b < 8) (s : St F) : St F where
  dq := VecWindow.put s.dq ![512 * b, 0] S512x256.size (stepQ e.K (e.ds masked b hb) (rowsQ (F := F) (e := .f32) s.dq b hb))
  dk := stepK (rowsQ (F := F) (e := .bf16) e.Q b hb) (e.ds masked b hb) s.dk
  dv := stepV (rowsD (F := F) (e := .f32) e.D b hb) (e.p masked b hb) s.dv

/-- The sweep of key block `k`: its first `n` query blocks, the first of them on the diagonal; blocks past the last
    change nothing. -/
def Env.sweep (e : Env F) (k : ℕ) : ℕ → St F → St F
  | 0, s => s
  | n + 1, s => if h : k + n < 8 then e.step (decide (n = 0)) (k + n) h (e.sweep k n s) else e.sweep k n s

theorem Env.sweep_succ (e : Env F) (k n : ℕ) (h : k + n < 8) (s : St F) :
    e.sweep k (n + 1) s = e.step (decide (n = 0)) (k + n) h (e.sweep k n s) := dif_pos h

theorem Env.sweep_stop (e : Env F) (k n : ℕ) (h : ¬ k + n < 8) (s : St F) : e.sweep k (n + 1) s = e.sweep k n s := dif_neg h

/-- Past the last query block the sweep stands. -/
theorem Env.sweep_stand (e : Env F) (k n : ℕ) (h : 8 ≤ k + n) (s : St F) (j : ℕ) : e.sweep k (n + j) s = e.sweep k n s := by
  induction j with
  | zero => rfl
  | succ j ih => rw [← Nat.add_assoc, e.sweep_stop k (n + j) (by omega), ih]

end Cert.KernelIdeal.Bwd

end
-- ==== Proof.Pair.lean ====
/- One trip of the loop over pairs of query blocks, run at the contents the sweep has reached: the accumulators move
   by two steps of the sweep.  The loop's invariant is the sweep after `2 + 2k` blocks. -/
module

public import proofs.«01_k».proof.Proof.Step
public import Idealize.ShloMosaic.Lib.Pipeline.TableIdle

@[expose] public section

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! ## Where the trips of the pair loop read -/

theorem off9_eq : ∀ (i : grid0.Coords) (k : Fin (k0_t2_loop i).trips),
    k0_off9 i k = ![512 * ((i 1).val + (2 + 2 * k.val)), 0] := by decide +kernel
theorem off10_eq : ∀ (i : grid0.Coords) (k : Fin (k0_t2_loop i).trips),
    k0_off10 i k = ![512 * ((i 1).val + (2 + 2 * k.val)), 0] := by decide +kernel
theorem off11_eq : ∀ (i : grid0.Coords) (k : Fin (k0_t2_loop i).trips),
    k0_off11 i k = ![512 * ((i 1).val + (2 + 2 * k.val + 1)), 0] := by decide +kernel
theorem off12_eq : ∀ (i : grid0.Coords) (k : Fin (k0_t2_loop i).trips),
    k0_off12 i k = ![512 * ((i 1).val + (2 + 2 * k.val + 1)), 0] := by decide +kernel

instance (i : grid0.Coords) (k : Fin (k0_t2_loop i).trips) : ClosedOff (k0_off9 i k) := ⟨_, off9_eq i k⟩
instance (i : grid0.Coords) (k : Fin (k0_t2_loop i).trips) : ClosedOff (k0_off10 i k) := ⟨_, off10_eq i k⟩
instance (i : grid0.Coords) (k : Fin (k0_t2_loop i).trips) : ClosedOff (k0_off11 i k) := ⟨_, off11_eq i k⟩
instance (i : grid0.Coords) (k : Fin (k0_t2_loop i).trips) : ClosedOff (k0_off12 i k) := ⟨_, off12_eq i k⟩

/-- The trips stay inside the eight query blocks. -/
theorem pair_trips : ∀ (i : grid0.Coords), (k0_t2_loop i).trips = (6 - (i 1).val) / 2 := by decide +kernel

/-- What a trip holds: the four inputs it reads at an environment's arrays and the three accumulators at a state. -/
abbrev held (c : Dev nD) (arg2 : Memref sig .tc .vmem S4096x256 .bf16) (arg6 arg8 arg16 : Memref sig .tc .vmem S4096x128 .f32)
    (arg15 : Memref sig .tc .vmem S4096x256 .f32) (arg17 : Memref sig .tc .vmem S512x256 .f32)
    (arg18 : Memref sig .tc .vmem S512x128 .f32) (e : Env F) (s : St F) : sProp 𝕄G :=
  iprop(owns (c : Thread nD τ) arg2 fullShare e.Q ∗ owns (c : Thread nD τ) arg6 fullShare e.D
    ∗ owns (c : Thread nD τ) arg8 fullShare e.L ∗ owns (c : Thread nD τ) arg16 fullShare e.C
    ∗ owns (c : Thread nD τ) arg15 fullShare s.dq ∗ owns (c : Thread nD τ) arg17 fullShare s.dk
    ∗ owns (c : Thread nD τ) arg18 fullShare s.dv)

/-- One trip: two steps of the sweep. -/
theorem pair_trip (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (arg1 v18 c2_i32 v25 v30 : BitVec 32) (e : Env F) (s : St F) (k : Fin (k0_t2_loop i).trips)
    (hb : (i 1).val + (2 + 2 * k.val) < 8) (hb' : (i 1).val + (2 + 2 * k.val + 1) < 8) :
    held c arg2 arg6 arg8 arg16 arg15 arg17 arg18 e s
      ⊢ wp frame (wpE (defs₀ (F := F)) 𝒱 (c : Thread nD τ) bd) E
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 e.K e.V v18 c2_i32 v25 v30 k PUnit.unit)
          (fun _ => held c arg2 arg6 arg8 arg16 arg15 arg17 arg18 e
            (e.step false _ hb' (e.step false _ hb s))) := by
  unfold k0_t2_body held
  simp only [owns_eq_rep]
  iintro ⟨H2, H6, H8, H16, H15, H17, H18⟩
  sl_exec
  sl_step
  isplitl [H2]; · iexact H2
  isplitl [H6]; · iexact H6
  isplitl [H8]; · iexact H8
  isplitl [H16]; · iexact H16
  isplitl [H15]
  · iapply pointsTo_rep_of_read
    rotate_left
    · iexact H15
    rw [View.read_writes_cons_put (h := off11_eq i k), View.read_writes_rep_unit (h := off9_eq i k)]
    sl_unfold_run_names
    rw [readAt_at arg2.view e.Q (off9_eq i k), readAt_at arg2.view e.Q (off11_eq i k)]
    rw [readAt_at arg6.view e.D (off10_eq i k), readAt_at arg6.view e.D (off12_eq i k)]
    rw [readAt_at arg8.view e.L (off10_eq i k), readAt_at arg8.view e.L (off12_eq i k)]
    rw [readAt_at arg16.view e.C (off10_eq i k), readAt_at arg16.view e.C (off12_eq i k)]
    rw [readAt_at arg15.view s.dq (off9_eq i k), readAt_at arg15.view s.dq (off11_eq i k)]
    unfold Env.step rowsQ
    dsimp only
    rw [VecWindow.window_put_of_disjoint (a := 0) (ha := by right; simp; omega)]
    rfl
  isplitl [H17]
  · iapply pointsTo_rep_of_read
    rotate_left
    · iexact H17
    rw [View.read_writes_full]
    sl_unfold_run_names
    rw [View.readCov_full, View.readAt_rep_full]
    rw [readAt_at arg2.view e.Q (off9_eq i k), readAt_at arg2.view e.Q (off11_eq i k)]
    rw [readAt_at arg6.view e.D (off10_eq i k), readAt_at arg6.view e.D (off12_eq i k)]
    rw [readAt_at arg8.view e.L (off10_eq i k), readAt_at arg8.view e.L (off12_eq i k)]
    rw [readAt_at arg16.view e.C (off10_eq i k), readAt_at arg16.view e.C (off12_eq i k)]
    rfl
  iapply pointsTo_rep_of_read
  rotate_left
  · iexact H18
  rw [View.read_writes_full]
  sl_unfold_run_names
  rw [View.readCov_full, View.readAt_rep_full]
  rw [readAt_at arg2.view e.Q (off9_eq i k), readAt_at arg2.view e.Q (off11_eq i k)]
  rw [readAt_at arg6.view e.D (off10_eq i k), readAt_at arg6.view e.D (off12_eq i k)]
  rw [readAt_at arg8.view e.L (off10_eq i k), readAt_at arg8.view e.L (off12_eq i k)]
  rfl

end Cert.KernelIdeal.Bwd

end
-- ==== Proof.Arrays.lean ====
/- Arrays given by their row blocks: the row corrections the first point of a head computes, the zeros it starts the query
   gradient from, and the query gradient's output, each a function of the row block and the place in it. -/
module

public import proofs.«01_k».proof.Proof.Step

@[expose] public section

noncomputable section

namespace Cert.KernelIdeal.Bwd

open Idealize.ShloMosaic Cert.KernelIdeal.Gen

variable {F : FTy → Type} [FloatOps F] [Named F] {α : Type}

/-- The place of row `y 0` in its block, at column `j`. -/
def inBlock {n : ℕ} (r : ℕ) (j : Fin n) : Shape.Idx ⟨2, ![512, n]⟩ := Fin.cons ⟨r % 512, Nat.mod_lt _ (by decide)⟩ (Fin.cons j fun a => a.elim0)

theorem row_lt (y : S4096x128.Idx) : (y 0).val < 4096 := (y 0).isLt
theorem rowQ_lt (y : S4096x256.Idx) : (y 0).val < 4096 := (y 0).isLt

/-- An array 128 wide given by its eight row blocks. -/
def ofRows (f : (b : ℕ) → b < 8 → S512x128.Idx → α) : S4096x128.Idx → α :=
  fun y => f ((y 0).val / 512) (by have := row_lt y; omega) (inBlock (n := 128) (y 0).val (y 1))

/-- The block of an array 128 wide at a row block and a window's place is the array at the row. -/
theorem window_inBlock (X : S4096x128.Idx → α) (y : S4096x128.Idx) (inb) :
    VecWindow.window X ![512 * ((y 0).val / 512), 0] S512x128.size inb (inBlock (n := 128) (y 0).val (y 1)) = X y := by
  refine congrArg X (funext fun a => Fin.ext ?_)
  fin_cases a
  · show 512 * ((y 0).val / 512) + 1 * ((y 0).val % 512) = (y 0).val
    omega
  · show 0 + 1 * (y 1).val = (y 1).val
    omega

/-- Two arrays of equal row blocks are equal. -/
theorem eq_ofRows (X : S4096x128.Idx → α) (f : (b : ℕ) → b < 8 → S512x128.Idx → α)
    (h : ∀ (b : ℕ) (hb : b < 8) (inb), VecWindow.window X ![512 * b, 0] S512x128.size inb = f b hb) : X = ofRows f := by
  funext y
  have hy := row_lt y
  have inb : ∀ a, (![512 * ((y 0).val / 512), 0] : Fin 2 → ℕ) a + S512x128.size a ≤ S4096x128.size a := by
    intro a; fin_cases a <;> simp <;> omega
  rw [← window_inBlock X y inb, h _ (by omega) inb]
  rfl

/-- The row corrections: per row the sum of the output cotangent times the output, repeated along the lanes. -/
def corr (D : S4096x128.Idx → Elt F .f32) (O : S4096x128.Idx → Elt F .bf16) : S4096x128.Idx → Elt F .f32 :=
  ofRows fun b hb => k0_pay64 (rowsD (F := F) (e := .f32) D b hb) (rowsD (F := F) (e := .bf16) O b hb)

/-- The zeros the query gradient starts from. -/
def zerosQ : S4096x256.Idx → Elt F .f32 := fun _ => Scalar.ofBits .f32 0x00000000#32

/-- An array 256 wide whose row blocks are zero is zero. -/
theorem eq_zerosQ (X : S4096x256.Idx → Elt F .f32)
    (h : ∀ (b : ℕ) (_ : b < 8) (inb), VecWindow.window X ![512 * b, 0] S512x256.size inb = k0_pay65 (F := F)) :
    X = zerosQ (F := F) := by
  funext y
  have hy := rowQ_lt y
  have inb : ∀ a, (![512 * ((y 0).val / 512), 0] : Fin 2 → ℕ) a + S512x256.size a ≤ S4096x256.size a := by
    intro a; fin_cases a <;> simp <;> omega
  have e : VecWindow.window X ![512 * ((y 0).val / 512), 0] S512x256.size inb (inBlock (n := 256) (y 0).val (y 1)) = X y := by
    refine congrArg X (funext fun a => Fin.ext ?_)
    fin_cases a
    · show 512 * ((y 0).val / 512) + 1 * ((y 0).val % 512) = (y 0).val
      omega
    · show 0 + 1 * (y 1).val = (y 1).val
      omega
  rw [← e, h _ (by omega) inb]
  rfl

/-- The query gradient's output: the unrotated columns rounded, the rotary columns rotated back and rounded. -/
def outQ (dq : S4096x256.Idx → Elt F .f32) (cb sa sb : S4096x128.Idx → Elt F .f32) : S4096x256.Idx → Elt F .bf16 :=
  fun y =>
    have hy := rowQ_lt y
    if h : (y 1).val < 128 then
      k0_pay3 (VecWindow.window dq ![512 * ((y 0).val / 512), 0] S512x128.size (by intro a; fin_cases a <;> simp <;> omega))
        (inBlock (n := 128) (y 0).val ⟨(y 1).val, h⟩)
    else
      k0_pay4 (VecWindow.window dq ![512 * ((y 0).val / 512), 128] S512x128.size (by intro a; fin_cases a <;> simp <;> omega))
        (rowsD (F := F) (e := .f32) cb ((y 0).val / 512) (by omega)) (rowsD (F := F) (e := .f32) sa ((y 0).val / 512) (by omega))
        (rowsD (F := F) (e := .f32) sb ((y 0).val / 512) (by omega))
        (inBlock (n := 128) (y 0).val ⟨(y 1).val - 128, by have : (y 1).val < 256 := (y 1).isLt; omega⟩)

/-- An array whose windows are the output's is the output. -/
theorem eq_outQ (X : S4096x256.Idx → Elt F .bf16) (dq : S4096x256.Idx → Elt F .f32) (cb sa sb : S4096x128.Idx → Elt F .f32)
    (h0 : ∀ (b : ℕ) (_ : b < 8) (inb inb'), VecWindow.window X ![512 * b, 0] S512x128.size inb
      = k0_pay3 (VecWindow.window dq ![512 * b, 0] S512x128.size inb'))
    (h1 : ∀ (b : ℕ) (hb : b < 8) (inb inb'), VecWindow.window X ![512 * b, 128] S512x128.size inb
      = k0_pay4 (VecWindow.window dq ![512 * b, 128] S512x128.size inb') (rowsD (F := F) (e := .f32) cb b hb)
          (rowsD (F := F) (e := .f32) sa b hb) (rowsD (F := F) (e := .f32) sb b hb)) :
    X = outQ dq cb sa sb := by
  funext y
  have hy := rowQ_lt y
  have hc : (y 1).val < 256 := (y 1).isLt
  have inb : ∀ c ≤ 128, ∀ a, (![512 * ((y 0).val / 512), c] : Fin 2 → ℕ) a + S512x128.size a ≤ S4096x256.size a := by
    intro c hc a; fin_cases a <;> simp <;> omega
  unfold outQ
  by_cases hl : (y 1).val < 128
  · rw [dif_pos hl, ← h0 _ (by omega) (inb 0 (by omega))]
    refine congrArg X (funext fun a => Fin.ext ?_)
    fin_cases a
    · show (y 0).val = 512 * ((y 0).val / 512) + 1 * ((y 0).val % 512)
      omega
    · show (y 1).val = 0 + 1 * (y 1).val
      omega
  · rw [dif_neg hl, ← h1 _ (by omega) (inb 128 (by omega))]
    refine congrArg X (funext fun a => Fin.ext ?_)
    fin_cases a
    · show (y 0).val = 512 * ((y 0).val / 512) + 1 * ((y 0).val % 512)
      omega
    · show (y 1).val = 128 + 1 * ((y 1).val - 128)
      omega

end Cert.KernelIdeal.Bwd

end
-- ==== Proof.Prep.lean ====
/- The loop of the first point of a head, run trip by trip. -/
module

public import proofs.«01_k».proof.Proof.Arrays
public import proofs.«01_k».proof.Proof.Pair

@[expose] public section

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The loop of a head's first point: it writes the row corrections and zeroes the query gradient. -/
abbrev prepInv (c : Dev nD) (arg6 : Memref sig .tc .vmem S4096x128 .f32) (arg7 : Memref sig .tc .vmem S4096x128 .bf16)
    (arg15 : Memref sig .tc .vmem S4096x256 .f32) (arg16 : Memref sig .tc .vmem S4096x128 .f32)
    (D : S4096x128.Idx → Elt F .f32) (O : S4096x128.Idx → Elt F .bf16) (k : ℕ) (_ : Unit) : sProp 𝕄G :=
  iprop(owns (c : Thread nD τ) arg6 fullShare D ∗ owns (c : Thread nD τ) arg7 fullShare O
    ∗ ∃ (Y15 : S4096x256.Idx → Elt F .f32) (Y16 : S4096x128.Idx → Elt F .f32), ⌜(∀ (b : ℕ) (_ : b < k) (inb), VecWindow.window (s := S4096x256) Y15 ![512 * b, 0] S512x256.size inb = k0_pay65 (F := F))
        ∧ (∀ (b : ℕ) (_ : b < k) (hb : b < 8) (inb), VecWindow.window (s := S4096x128) Y16 ![512 * b, 0] S512x128.size inb
            = k0_pay64 (rowsD (F := F) (e := .f32) D b hb) (rowsD (F := F) (e := .bf16) O b hb))⌝
      ∗ owns (c : Thread nD τ) arg15 fullShare Y15 ∗ owns (c : Thread nD τ) arg16 fullShare Y16)

/-- The loop of a head's first point, whatever the two scratch arrays hold. -/
theorem prep_run (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (h1 : k0_cond1 i = 1#1) (D : S4096x128.Idx → Elt F .f32) (O : S4096x128.Idx → Elt F .bf16)
    (k : Fin k0_t1_loop.trips) :
    prepInv (F := F) c arg6 arg7 arg15 arg16 D O k.val ()
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 k PUnit.unit) (fun _ => prepInv (F := F) c arg6 arg7 arg15 arg16 D O (k.val + 1) ()) := by
  have hk : k.val < 8 := Nat.lt_of_lt_of_le k.isLt k0_t1_abs.2.1
  unfold k0_t1_body prepInv
  simp only [owns_eq_rep]
  iintro ⟨H6, H7, %Y15, %Y16, %hY, H15, H16⟩
  sl_exec
  sl_step
  isplitl [H6]; · iexact H6
  isplitl [H7]; · iexact H7
  iexists (VecWindow.put Y15 ![512 * k.val, 0] S512x256.size (k0_pay65 (F := F)))
  iexists (VecWindow.put Y16 ![512 * k.val, 0] S512x128.size
    (k0_pay64 (rowsD (F := F) (e := .f32) D k.val hk) (rowsD (F := F) (e := .bf16) O k.val hk)))
  isplitl []
  · ipureintro
    refine ⟨fun b hb inb => ?_, fun b hb hb8 inb => ?_⟩
    · by_cases h : b = k.val
      · subst h; rw [VecWindow.window_put_same]
      · rw [VecWindow.window_put_of_disjoint (a := 0) (ha := by left; simp; omega)]
        exact hY.1 b (by omega) inb
    · by_cases h : b = k.val
      · subst h; rw [VecWindow.window_put_same]
      · rw [VecWindow.window_put_of_disjoint (a := 0) (ha := by left; simp; omega)]
        exact hY.2 b (by omega) hb8 inb
  isplitl [H15]
  · iapply pointsTo_rep_of_read
    rotate_left
    · iexact H15
    rw [View.read_writes_rep_unit (h := k0_off1_eq k)]
  · iapply pointsTo_rep_of_read
    rotate_left
    · iexact H16
    rw [View.read_writes_rep_unit (h := k0_off1_eq k)]
    sl_unfold_run_names
    rw [readAt_at arg6.view _ (k0_off1_eq k), readAt_at arg7.view _ (k0_off1_eq k)]

end Cert.KernelIdeal.Bwd

end
-- ==== Proof.First.lean ====
/- The first blocks of a key block: its accumulators set to zero, then the diagonal block and, but for the last key block, the
   block below it. -/
module

public import proofs.«01_k».proof.Proof.Pair
public import proofs.«01_k».proof.Proof.Prep

@[expose] public section

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! ## Where the first blocks of the sweep lie -/

theorem off3 (i : grid0.Coords) : k0_off3 i = ![512 * ((i 1).val + 0), 0] := k0_off3_eq i
theorem off4 (i : grid0.Coords) : k0_off4 i = ![512 * ((i 1).val + 0), 0] := k0_off4_eq i
theorem off5 (i : grid0.Coords) : k0_off5 i = ![512 * ((i 1).val + 0), 0] := k0_off5_eq i
theorem off6 (i : grid0.Coords) : k0_off6 i = ![512 * ((i 1).val + 0), 0] := k0_off6_eq i
theorem off7 (i : grid0.Coords) : k0_off7 i = ![512 * ((i 1).val + 1), 0] := k0_off7_eq i
theorem off8 (i : grid0.Coords) : k0_off8 i = ![512 * ((i 1).val + 1), 0] := k0_off8_eq i

/-- A key block between the first and the last. -/
theorem part9_mid (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (h1 : ¬ k0_cond1 i = 1#1) (h2 : ¬ k0_cond2 i = 1#1) (h3 : k0_cond3 i = 1#1) (hb : (i 1).val < 7)
    (e : Env F) (X3 X4 X5 : S512x128.Idx → Elt F .bf16) (hK : e.K = k0_pay66 X3 X4) (hV : e.V = k0_pay67 X5) (s : St F) :
    iprop(owns (c : Thread nD τ) arg3 fullShare X3 ∗ owns (c : Thread nD τ) arg4 fullShare X4 ∗ owns (c : Thread nD τ) arg5 fullShare X5
        ∗ held c arg2 arg6 arg8 arg16 arg15 arg17 arg18 e s)
      ⊢ wp frame (wpE (defs₀ (F := F)) 𝒱 (c : Thread nD τ) bd) E
          (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun r => iprop((∃ w1 w2 w3 w4 w5, ⌜r = ⟨w1, e.K, e.V, w2, w3, w4, w5⟩⌝)
            ∗ owns (c : Thread nD τ) arg3 fullShare X3 ∗ owns (c : Thread nD τ) arg4 fullShare X4 ∗ owns (c : Thread nD τ) arg5 fullShare X5
            ∗ held c arg2 arg6 arg8 arg16 arg15 arg17 arg18 e (e.sweep (i 1).val 2 ⟨s.dq, k0_pay68, k0_pay69⟩))) := by
  have hi : (i 1).val < 8 := (i 1).isLt
  unfold held
  simp only [owns_eq_rep]
  iintro ⟨H3, H4, H5, H2, H6, H8, H16, H15, H17, H18⟩
  sl_unfold [k0_part9]
  sl_exec (disch := first | sl_exact h1 | sl_exact h2 | sl_exact h3)
  sl_step
  obtain ⟨K, V, Q, D, L, C⟩ := e
  dsimp only at hK hV
  subst hK hV
  isplitl []
  · iexists _, _, _, _, _
    ipureintro
    rw [View.readAt_rep_full arg3.view, View.readAt_rep_full arg4.view, View.readAt_rep_full arg5.view]
  isplitl [H3]; · iexact H3
  isplitl [H4]; · iexact H4
  isplitl [H5]; · iexact H5
  isplitl [H2]; · iexact H2
  isplitl [H6]; · iexact H6
  isplitl [H8]; · iexact H8
  isplitl [H16]; · iexact H16
  isplitl [H15]
  · iapply pointsTo_rep_of_read
    rotate_left
    · iexact H15
    rw [View.read_writes_cons_put (h := off7 i), View.read_writes_rep_unit (h := off5 i)]
    rw [Env.sweep_succ _ _ 1 (by omega), Env.sweep_succ _ _ 0 (by omega)]
    sl_unfold_run_names
    rw [View.readAt_rep_full arg3.view, View.readAt_rep_full arg4.view]
    rw [View.readAt_rep_full arg5.view]
    rw [readAt_at arg2.view _ (off5 i), readAt_at arg2.view _ (off7 i)]
    rw [readAt_at arg6.view _ (off6 i), readAt_at arg6.view _ (off8 i)]
    rw [readAt_at arg8.view _ (off6 i), readAt_at arg8.view _ (off8 i)]
    rw [readAt_at arg16.view _ (off6 i), readAt_at arg16.view _ (off8 i)]
    rw [readAt_at arg15.view _ (off5 i), readAt_at arg15.view _ (off7 i)]
    show _ = VecWindow.put (VecWindow.put s.dq ![512 * ((i 1).val + 0), 0] S512x256.size _) ![512 * ((i 1).val + 1), 0] S512x256.size
      (stepQ (F := F) _ _ (VecWindow.window (VecWindow.put s.dq ![512 * ((i 1).val + 0), 0] S512x256.size _) ![512 * ((i 1).val + 1), 0]
        S512x256.size _))
    rw [VecWindow.window_put_of_disjoint (a := 0) (ha := by right; simp; omega)]
    rfl
  isplitl [H17]
  · iapply pointsTo_rep_of_read
    rotate_left
    · iexact H17
    rw [View.read_writes_full]
    rw [Env.sweep_succ _ _ 1 (by omega), Env.sweep_succ _ _ 0 (by omega)]
    sl_unfold_run_names
    rw [View.readCov_full]
    try rw [View.readCov_full]
    rw [View.readAt_rep_full arg3.view, View.readAt_rep_full arg4.view]
    rw [View.readAt_rep_full arg5.view]
    rw [readAt_at arg2.view _ (off5 i), readAt_at arg2.view _ (off7 i)]
    rw [readAt_at arg6.view _ (off6 i), readAt_at arg6.view _ (off8 i)]
    rw [readAt_at arg8.view _ (off6 i), readAt_at arg8.view _ (off8 i)]
    rw [readAt_at arg16.view _ (off6 i), readAt_at arg16.view _ (off8 i)]
    rfl
  · iapply pointsTo_rep_of_read
    rotate_left
    · iexact H18
    rw [View.read_writes_full]
    rw [Env.sweep_succ _ _ 1 (by omega), Env.sweep_succ _ _ 0 (by omega)]
    sl_unfold_run_names
    rw [View.readCov_full]
    try rw [View.readCov_full]
    rw [View.readAt_rep_full arg3.view, View.readAt_rep_full arg4.view]
    rw [readAt_at arg2.view _ (off5 i), readAt_at arg2.view _ (off7 i)]
    rw [readAt_at arg6.view _ (off6 i), readAt_at arg6.view _ (off8 i)]
    rw [readAt_at arg8.view _ (off6 i), readAt_at arg8.view _ (off8 i)]
    rfl

/-- The last key block. -/
theorem part9_last (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (h1 : ¬ k0_cond1 i = 1#1) (h2 : k0_cond2 i = 1#1) (h3 : ¬ k0_cond3 i = 1#1) (hb : (i 1).val = 7)
    (e : Env F) (X3 X4 X5 : S512x128.Idx → Elt F .bf16) (hK : e.K = k0_pay66 X3 X4) (hV : e.V = k0_pay67 X5) (s : St F) :
    iprop(owns (c : Thread nD τ) arg3 fullShare X3 ∗ owns (c : Thread nD τ) arg4 fullShare X4 ∗ owns (c : Thread nD τ) arg5 fullShare X5
        ∗ held c arg2 arg6 arg8 arg16 arg15 arg17 arg18 e s)
      ⊢ wp frame (wpE (defs₀ (F := F)) 𝒱 (c : Thread nD τ) bd) E
          (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun r => iprop((∃ w1 w2 w3 w4 w5, ⌜r = ⟨w1, e.K, e.V, w2, w3, w4, w5⟩⌝)
            ∗ owns (c : Thread nD τ) arg3 fullShare X3 ∗ owns (c : Thread nD τ) arg4 fullShare X4 ∗ owns (c : Thread nD τ) arg5 fullShare X5
            ∗ held c arg2 arg6 arg8 arg16 arg15 arg17 arg18 e (e.sweep (i 1).val 2 ⟨s.dq, k0_pay68, k0_pay69⟩))) := by
  have hi : (i 1).val < 8 := (i 1).isLt
  unfold held
  simp only [owns_eq_rep]
  iintro ⟨H3, H4, H5, H2, H6, H8, H16, H15, H17, H18⟩
  sl_unfold [k0_part9]
  sl_exec (disch := first | sl_exact h1 | sl_exact h2 | sl_exact h3)
  sl_step
  obtain ⟨K, V, Q, D, L, C⟩ := e
  dsimp only at hK hV
  subst hK hV
  isplitl []
  · iexists _, _, _, _, _
    ipureintro
    rw [View.readAt_rep_full arg3.view, View.readAt_rep_full arg4.view, View.readAt_rep_full arg5.view]
  isplitl [H3]; · iexact H3
  isplitl [H4]; · iexact H4
  isplitl [H5]; · iexact H5
  isplitl [H2]; · iexact H2
  isplitl [H6]; · iexact H6
  isplitl [H8]; · iexact H8
  isplitl [H16]; · iexact H16
  isplitl [H15]
  · iapply pointsTo_rep_of_read
    rotate_left
    · iexact H15
    rw [View.read_writes_rep_unit (h := off3 i)]
    rw [Env.sweep_stop _ _ 1 (by omega), Env.sweep_succ _ _ 0 (by omega)]
    sl_unfold_run_names
    rw [View.readAt_rep_full arg3.view, View.readAt_rep_full arg4.view]
    rw [View.readAt_rep_full arg5.view]
    rw [readAt_at arg2.view _ (off3 i)]
    rw [readAt_at arg6.view _ (off4 i)]
    rw [readAt_at arg8.view _ (off4 i)]
    rw [readAt_at arg16.view _ (off4 i)]
    rw [readAt_at arg15.view _ (off3 i)]
    rfl
  isplitl [H17]
  · iapply pointsTo_rep_of_read
    rotate_left
    · iexact H17
    rw [View.read_writes_full]
    rw [Env.sweep_stop _ _ 1 (by omega), Env.sweep_succ _ _ 0 (by omega)]
    sl_unfold_run_names
    rw [View.readCov_full]
    try rw [View.readCov_full]
    rw [View.readAt_rep_full arg3.view, View.readAt_rep_full arg4.view]
    rw [View.readAt_rep_full arg5.view]
    rw [readAt_at arg2.view _ (off3 i)]
    rw [readAt_at arg6.view _ (off4 i)]
    rw [readAt_at arg8.view _ (off4 i)]
    rw [readAt_at arg16.view _ (off4 i)]
    rfl
  · iapply pointsTo_rep_of_read
    rotate_left
    · iexact H18
    rw [View.read_writes_full]
    rw [Env.sweep_stop _ _ 1 (by omega), Env.sweep_succ _ _ 0 (by omega)]
    sl_unfold_run_names
    rw [View.readCov_full]
    try rw [View.readCov_full]
    rw [View.readAt_rep_full arg3.view, View.readAt_rep_full arg4.view]
    rw [readAt_at arg2.view _ (off3 i)]
    rw [readAt_at arg6.view _ (off4 i)]
    rw [readAt_at arg8.view _ (off4 i)]
    rfl

/-- The first key block of a head: the row corrections and the zeroed query gradient are made here. -/
theorem part9_first (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (h1 : k0_cond1 i = 1#1) (h2 : ¬ k0_cond2 i = 1#1) (h3 : k0_cond3 i = 1#1) (hb : (i 1).val = 0)
    (e : Env F) (X3 X4 X5 : S512x128.Idx → Elt F .bf16) (hK : e.K = k0_pay66 X3 X4) (hV : e.V = k0_pay67 X5) (O : S4096x128.Idx → Elt F .bf16)
    (hC : e.C = corr e.D O) (X15 : S4096x256.Idx → Elt F .f32) (X16 : S4096x128.Idx → Elt F .f32) (X17 : S512x256.Idx → Elt F .f32)
    (X18 : S512x128.Idx → Elt F .f32) :
    iprop(owns (c : Thread nD τ) arg3 fullShare X3 ∗ owns (c : Thread nD τ) arg4 fullShare X4 ∗ owns (c : Thread nD τ) arg5 fullShare X5
        ∗ owns (c : Thread nD τ) arg7 fullShare O ∗ owns (c : Thread nD τ) arg2 fullShare e.Q ∗ owns (c : Thread nD τ) arg6 fullShare e.D
        ∗ owns (c : Thread nD τ) arg8 fullShare e.L ∗ owns (c : Thread nD τ) arg16 fullShare X16 ∗ owns (c : Thread nD τ) arg15 fullShare X15
        ∗ owns (c : Thread nD τ) arg17 fullShare X17 ∗ owns (c : Thread nD τ) arg18 fullShare X18)
      ⊢ wp frame (wpE (defs₀ (F := F)) 𝒱 (c : Thread nD τ) bd) E
          (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun r => iprop((∃ w1 w2 w3 w4 w5, ⌜r = ⟨w1, e.K, e.V, w2, w3, w4, w5⟩⌝)
            ∗ owns (c : Thread nD τ) arg3 fullShare X3 ∗ owns (c : Thread nD τ) arg4 fullShare X4 ∗ owns (c : Thread nD τ) arg5 fullShare X5
            ∗ owns (c : Thread nD τ) arg7 fullShare O
            ∗ held c arg2 arg6 arg8 arg16 arg15 arg17 arg18 e (e.sweep (i 1).val 2 ⟨zerosQ (F := F), k0_pay68, k0_pay69⟩))) := by
  have hi : (i 1).val < 8 := (i 1).isLt
  unfold held
  simp only [owns_eq_rep]
  iintro ⟨H3, H4, H5, H7, H2, H6, H8, H16, H15, H17, H18⟩
  sl_unfold [k0_part9]
  sl_exec (disch := sl_exact h1)
  sl_for (prepInv (F := F) c arg6 arg7 arg15 arg16 e.D O) $$ [H6 H7 H15 H16]
  case region =>
    intro k a
    exact prep_run 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 e.D O k
  · unfold prepInv
    simp only [owns_eq_rep]
    isplitl [H6]; · iexact H6
    isplitl [H7]; · iexact H7
    iexists X15, X16
    isplitl []
    · ipureintro
      exact ⟨fun b hb => absurd hb (Nat.not_lt_zero b), fun b hb => absurd hb (Nat.not_lt_zero b)⟩
    isplitl [H15]; · iexact H15
    iexact H16
  rw [show Scf.trips k0_t1_loop.lb k0_t1_loop.ub k0_t1_loop.st = 8 by decide +kernel]
  unfold prepInv
  simp only [owns_eq_rep]
  iintro %_ ⟨H6, H7, %Y15, %Y16, %hY, H15, H16⟩
  have e15 : Y15 = zerosQ (F := F) := eq_zerosQ Y15 hY.1
  have e16 : Y16 = e.C := by rw [hC]; exact eq_ofRows Y16 _ fun b hb inb => hY.2 b hb hb inb
  subst e15 e16
  sl_exec (disch := first | sl_exact h2 | sl_exact h3)
  sl_step

  obtain ⟨K, V, Q, D, L, C⟩ := e
  dsimp only at hK hV
  subst hK hV
  isplitl []
  · iexists _, _, _, _, _
    ipureintro
    rw [View.readAt_rep_full arg3.view, View.readAt_rep_full arg4.view, View.readAt_rep_full arg5.view]
  isplitl [H3]; · iexact H3
  isplitl [H4]; · iexact H4
  isplitl [H5]; · iexact H5
  isplitl [H7]; · iexact H7
  isplitl [H2]; · iexact H2
  isplitl [H6]; · iexact H6
  isplitl [H8]; · iexact H8
  isplitl [H16]; · iexact H16
  isplitl [H15]
  · iapply pointsTo_rep_of_read
    rotate_left
    · iexact H15
    rw [View.read_writes_cons_put (h := off7 i), View.read_writes_rep_unit (h := off5 i)]
    rw [Env.sweep_succ _ _ 1 (by omega), Env.sweep_succ _ _ 0 (by omega)]
    sl_unfold_run_names
    rw [View.readAt_rep_full arg3.view, View.readAt_rep_full arg4.view]
    rw [View.readAt_rep_full arg5.view]
    rw [readAt_at arg2.view _ (off5 i), readAt_at arg2.view _ (off7 i)]
    rw [readAt_at arg6.view _ (off6 i), readAt_at arg6.view _ (off8 i)]
    rw [readAt_at arg8.view _ (off6 i), readAt_at arg8.view _ (off8 i)]
    rw [readAt_at arg16.view _ (off6 i), readAt_at arg16.view _ (off8 i)]
    rw [readAt_at arg15.view _ (off5 i), readAt_at arg15.view _ (off7 i)]
    show _ = VecWindow.put (VecWindow.put (zerosQ (F := F)) ![512 * ((i 1).val + 0), 0] S512x256.size _) ![512 * ((i 1).val + 1), 0] S512x256.size
      (stepQ (F := F) _ _ (VecWindow.window (VecWindow.put (zerosQ (F := F)) ![512 * ((i 1).val + 0), 0] S512x256.size _) ![512 * ((i 1).val + 1), 0]
        S512x256.size _))
    rw [VecWindow.window_put_of_disjoint (a := 0) (ha := by right; simp; omega)]
    rfl
  isplitl [H17]
  · iapply pointsTo_rep_of_read
    rotate_left
    · iexact H17
    rw [View.read_writes_full]
    rw [Env.sweep_succ _ _ 1 (by omega), Env.sweep_succ _ _ 0 (by omega)]
    sl_unfold_run_names
    rw [View.readCov_full]
    try rw [View.readCov_full]
    rw [View.readAt_rep_full arg3.view, View.readAt_rep_full arg4.view]
    rw [View.readAt_rep_full arg5.view]
    rw [readAt_at arg2.view _ (off5 i), readAt_at arg2.view _ (off7 i)]
    rw [readAt_at arg6.view _ (off6 i), readAt_at arg6.view _ (off8 i)]
    rw [readAt_at arg8.view _ (off6 i), readAt_at arg8.view _ (off8 i)]
    rw [readAt_at arg16.view _ (off6 i), readAt_at arg16.view _ (off8 i)]
    rfl
  · iapply pointsTo_rep_of_read
    rotate_left
    · iexact H18
    rw [View.read_writes_full]
    rw [Env.sweep_succ _ _ 1 (by omega), Env.sweep_succ _ _ 0 (by omega)]
    sl_unfold_run_names
    rw [View.readCov_full]
    try rw [View.readCov_full]
    rw [View.readAt_rep_full arg3.view, View.readAt_rep_full arg4.view]
    rw [readAt_at arg2.view _ (off5 i), readAt_at arg2.view _ (off7 i)]
    rw [readAt_at arg6.view _ (off6 i), readAt_at arg6.view _ (off8 i)]
    rw [readAt_at arg8.view _ (off6 i), readAt_at arg8.view _ (off8 i)]
    rfl

end Cert.KernelIdeal.Bwd

end
-- ==== Proof.Rest.lean ====
/- The rest of a key block's sweep: the loop over pairs, and the single block an odd count leaves. -/
module

public import proofs.«01_k».proof.Proof.Pair
public import Idealize.ShloMosaic.Lib.LoopRemainder

@[expose] public section

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem last_off : (![3584, 0] : Fin 2 → ℕ) = ![512 * 7, 0] := by decide

/-- An even number of query blocks: the loop takes them all. -/
theorem part10_even (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (h4 : ¬ k0_cond4 i = 1#1) (hb : (i 1).val % 2 = 0 ∨ (i 1).val = 7) (arg1 v18 c2_i32 v25 v30 : BitVec 32) (e : Env F) (s : St F) :
    held c arg2 arg6 arg8 arg16 arg15 arg17 arg18 e (e.sweep (i 1).val 2 s)
      ⊢ wp frame (wpE (defs₀ (F := F)) 𝒱 (c : Thread nD τ) bd) E
          (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 e.K e.V v18 c2_i32 v25 v30)
          (fun r => iprop(⌜r = ⟨k0_pay78 (e.sweep (i 1).val 8 s).dk, k0_pay79 (e.sweep (i 1).val 8 s).dk⟩⌝
            ∗ held c arg2 arg6 arg8 arg16 arg15 arg17 arg18 e (e.sweep (i 1).val 8 s))) := by
  have hi : (i 1).val < 8 := (i 1).isLt
  have e8 : e.sweep (i 1).val 8 s = e.sweep (i 1).val (2 + 2 * ((6 - (i 1).val) / 2)) s := by
    have h := e.sweep_stand (i 1).val (2 + 2 * ((6 - (i 1).val) / 2)) (by omega) s (8 - (2 + 2 * ((6 - (i 1).val) / 2)))
    rwa [show 2 + 2 * ((6 - (i 1).val) / 2) + (8 - (2 + 2 * ((6 - (i 1).val) / 2))) = 8 by omega] at h
  have ht := pair_trips i
  have htt : Scf.trips (k0_t2_loop i).lb (k0_t2_loop i).ub (k0_t2_loop i).st = (6 - (i 1).val) / 2 := ht
  rw [e8]
  unfold held
  simp only [owns_eq_rep]
  iintro ⟨H2, H6, H8, H16, H15, H17, H18⟩
  sl_unfold [k0_part10]
  sl_exec
  sl_for (fun k (_ : Unit) => held c arg2 arg6 arg8 arg16 arg15 arg17 arg18 e (e.sweep (i 1).val (2 + 2 * k) s)) $$ [H2 H6 H8 H16 H15 H17 H18]
  case region =>
    intro k a
    have hk := k.isLt
    have hb : (i 1).val + (2 + 2 * k.val) < 8 := by omega
    have hb' : (i 1).val + (2 + 2 * k.val + 1) < 8 := by omega
    have es : e.sweep (i 1).val (2 + 2 * (k.val + 1)) s
        = e.step false _ hb' (e.step false _ hb (e.sweep (i 1).val (2 + 2 * k.val) s)) := by
      rw [show 2 + 2 * (k.val + 1) = 2 + 2 * k.val + 1 + 1 by omega, e.sweep_succ _ _ hb', e.sweep_succ _ _ hb,
        show decide (2 + 2 * k.val + 1 = 0) = false from decide_eq_false (by omega),
        show decide (2 + 2 * k.val = 0) = false from decide_eq_false (by omega)]
    rw [es]
    exact pair_trip 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ e _ k hb hb'
  · unfold held
    simp only [owns_eq_rep]
    isplitl [H2]; · iexact H2
    isplitl [H6]; · iexact H6
    isplitl [H8]; · iexact H8
    isplitl [H16]; · iexact H16
    isplitl [H15]; · iexact H15
    isplitl [H17]; · iexact H17
    iexact H18
  rw [htt]
  unfold held
  simp only [owns_eq_rep]
  iintro %_ ⟨H2, H6, H8, H16, H15, H17, H18⟩
  sl_exec (disch := sl_exact h4)
  sl_step
  isplitl []
  · ipureintro
    sl_unfold_run_names
    rw [View.readAt_rep_full]
  isplitl [H2]; · iexact H2
  isplitl [H6]; · iexact H6
  isplitl [H8]; · iexact H8
  isplitl [H16]; · iexact H16
  isplitl [H15]; · iexact H15
  isplitl [H17]; · iexact H17
  iexact H18

/-- An odd number of query blocks above one: the last is taken after the loop. -/
theorem part10_odd (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (h4 : k0_cond4 i = 1#1) (hb : (i 1).val % 2 = 1 ∧ (i 1).val < 7) (arg1 v18 c2_i32 v25 v30 : BitVec 32) (e : Env F) (s : St F) :
    held c arg2 arg6 arg8 arg16 arg15 arg17 arg18 e (e.sweep (i 1).val 2 s)
      ⊢ wp frame (wpE (defs₀ (F := F)) 𝒱 (c : Thread nD τ) bd) E
          (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 e.K e.V v18 c2_i32 v25 v30)
          (fun r => iprop(⌜r = ⟨k0_pay78 (e.sweep (i 1).val 8 s).dk, k0_pay79 (e.sweep (i 1).val 8 s).dk⟩⌝
            ∗ held c arg2 arg6 arg8 arg16 arg15 arg17 arg18 e (e.sweep (i 1).val 8 s))) := by
  have hi : (i 1).val < 8 := (i 1).isLt
  have e8 : e.sweep (i 1).val 8 s = e.step false 7 (by omega) (e.sweep (i 1).val (2 + 2 * ((6 - (i 1).val) / 2)) s) := by
    have h := e.sweep_stand (i 1).val (2 + 2 * ((6 - (i 1).val) / 2) + 1) (by omega) s (8 - (2 + 2 * ((6 - (i 1).val) / 2) + 1))
    rw [show 2 + 2 * ((6 - (i 1).val) / 2) + 1 + (8 - (2 + 2 * ((6 - (i 1).val) / 2) + 1)) = 8 by omega,
      e.sweep_succ (i 1).val (2 + 2 * ((6 - (i 1).val) / 2)) (by omega),
      show decide (2 + 2 * ((6 - (i 1).val) / 2) = 0) = false from decide_eq_false (by omega)] at h
    have move : ∀ (b : ℕ) (h8 : b < 8), b = 7 → ∀ t, e.step false b h8 t = e.step false 7 (by omega) t := by
      rintro b h8 rfl t; rfl
    rw [h]
    exact move _ _ (by omega) _
  have ht := pair_trips i
  have htt : Scf.trips (k0_t2_loop i).lb (k0_t2_loop i).ub (k0_t2_loop i).st = (6 - (i 1).val) / 2 := ht
  rw [e8]
  unfold held
  simp only [owns_eq_rep]
  iintro ⟨H2, H6, H8, H16, H15, H17, H18⟩
  sl_unfold [k0_part10]
  sl_exec
  sl_for (fun k (_ : Unit) => held c arg2 arg6 arg8 arg16 arg15 arg17 arg18 e (e.sweep (i 1).val (2 + 2 * k) s)) $$ [H2 H6 H8 H16 H15 H17 H18]
  case region =>
    intro k a
    have hk := k.isLt
    have hb : (i 1).val + (2 + 2 * k.val) < 8 := by omega
    have hb' : (i 1).val + (2 + 2 * k.val + 1) < 8 := by omega
    have es : e.sweep (i 1).val (2 + 2 * (k.val + 1)) s
        = e.step false _ hb' (e.step false _ hb (e.sweep (i 1).val (2 + 2 * k.val) s)) := by
      rw [show 2 + 2 * (k.val + 1) = 2 + 2 * k.val + 1 + 1 by omega, e.sweep_succ _ _ hb', e.sweep_succ _ _ hb,
        show decide (2 + 2 * k.val + 1 = 0) = false from decide_eq_false (by omega),
        show decide (2 + 2 * k.val = 0) = false from decide_eq_false (by omega)]
    rw [es]
    exact pair_trip 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ e _ k hb hb'
  · unfold held
    simp only [owns_eq_rep]
    isplitl [H2]; · iexact H2
    isplitl [H6]; · iexact H6
    isplitl [H8]; · iexact H8
    isplitl [H16]; · iexact H16
    isplitl [H15]; · iexact H15
    isplitl [H17]; · iexact H17
    iexact H18
  rw [htt]
  unfold held
  simp only [owns_eq_rep]
  iintro %_ ⟨H2, H6, H8, H16, H15, H17, H18⟩
  sl_exec (disch := sl_exact h4)
  sl_step
  isplitl []
  · ipureintro
    sl_unfold_run_names
    rw [View.readCov_full, View.readAt_rep_full arg17.view]
    rw [readAt_at arg2.view _ last_off]
    rw [readAt_at arg6.view _ last_off]
    rw [readAt_at arg8.view _ last_off]
    rw [readAt_at arg16.view _ last_off]
    rfl
  isplitl [H2]; · iexact H2
  isplitl [H6]; · iexact H6
  isplitl [H8]; · iexact H8
  isplitl [H16]; · iexact H16
  isplitl [H15]
  · iapply pointsTo_rep_of_read
    rotate_left
    · iexact H15
    sl_unfold_run_names
    rw [View.read_writes_rep_unit (h := last_off)]
    rw [readAt_at arg2.view _ last_off]
    rw [readAt_at arg6.view _ last_off]
    rw [readAt_at arg8.view _ last_off]
    rw [readAt_at arg16.view _ last_off]
    rw [readAt_at arg15.view _ last_off]
    rfl
  isplitl [H17]
  · iapply pointsTo_rep_of_read
    rotate_left
    · iexact H17
    sl_unfold_run_names
    rw [View.read_writes_full]
    rw [View.readAt_rep_full arg17.view]
    rw [readAt_at arg2.view _ last_off]
    rw [readAt_at arg6.view _ last_off]
    rw [readAt_at arg8.view _ last_off]
    rw [readAt_at arg16.view _ last_off]
    rfl
  · iapply pointsTo_rep_of_read
    rotate_left
    · iexact H18
    sl_unfold_run_names
    rw [View.read_writes_full]
    rw [View.readAt_rep_full arg18.view]
    rw [readAt_at arg2.view _ last_off]
    rw [readAt_at arg6.view _ last_off]
    rw [readAt_at arg8.view _ last_off]
    rfl

end Cert.KernelIdeal.Bwd

end
-- ==== Proof.Body.lean ====
/- The whole body at a point: what the three outputs and the two scratch arrays that live on hold after it. -/
module

public import proofs.«01_k».proof.Proof.First
public import proofs.«01_k».proof.Proof.Rest

@[expose] public section

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The block of key and value gradients a point emits. -/
def outKV (dk : S512x256.Idx → Elt F .f32) (dv : S512x128.Idx → Elt F .f32) : S512x256.Idx → Elt F .bf16 :=
  VecWindow.put (VecWindow.put (truncf .bf16 (constant S512x256 .f32 0x00000000#32) bitsLt_bf16_f32) ![0, 0] S512x128.size
    (k0_pay79 dk)) ![0, 128] S512x128.size (k0_pay2 dv)

/-- The block of shared-key gradients a point emits. -/
def outR (dk : S512x256.Idx → Elt F .f32) : S512x128.Idx → Elt F .f32 := k0_pay1 (k0_pay78 dk)

/-- The two halves put over any block leave the emitted block. -/
theorem outKV_eq (X : S512x256.Idx → Elt F .bf16) (dk : S512x256.Idx → Elt F .f32) (dv : S512x128.Idx → Elt F .f32) :
    VecWindow.put (VecWindow.put X ![0, 0] S512x128.size (k0_pay79 dk)) ![0, 128] S512x128.size (k0_pay2 dv) = outKV dk dv := by
  funext y
  have h0 : (y 0).val < 512 := (y 0).isLt
  have h1 : (y 1).val < 256 := (y 1).isLt
  unfold outKV VecWindow.put
  by_cases h : ∀ a, (![0, 128] : Fin 2 → ℕ) a ≤ (y a).val ∧ (y a).val < (![0, 128] : Fin 2 → ℕ) a + S512x128.size a
  · rw [dif_pos h, dif_pos h]
  · rw [dif_neg h, dif_neg h]
    have h' : ∀ a, (![0, 0] : Fin 2 → ℕ) a ≤ (y a).val ∧ (y a).val < (![0, 0] : Fin 2 → ℕ) a + S512x128.size a := by
      have : ¬ 128 ≤ (y 1).val := fun hc => h (by
        intro a; fin_cases a
        · exact ⟨Nat.zero_le _, by show (y 0).val < 0 + 512; omega⟩
        · exact ⟨hc, by show (y 1).val < 128 + 128; omega⟩)
      intro a; fin_cases a
      · exact ⟨Nat.zero_le _, by show (y 0).val < 0 + 512; omega⟩
      · exact ⟨Nat.zero_le _, by show (y 1).val < 0 + 128; omega⟩
    rw [dif_pos h', dif_pos h']

/-- The two stores of a point's block, over any contents, read as the emitted block. -/
theorem outKV_read {κ : Kind} {sp : Space} (v : View sig κ sp S512x256 .bf16) (g : v.ty.Contents (Elt F))
    (inb : ∀ a, (![0, 128] : Fin 2 → ℕ) a + S512x128.size a ≤ S512x256.size a)
    (inb' : ∀ a, (![0, 0] : Fin 2 → ℕ) a + S512x128.size a ≤ S512x256.size a)
    (dk : S512x256.Idx → Elt F .f32) (w dv : S512x128.Idx → Elt F .f32) (hw : w = dv) :
    v.read (Elt F) (v.writes (Elt F) g [⟨Rect.unit ![0, 128] S512x128.size inb, k0_pay2 w⟩,
      ⟨Rect.unit ![0, 0] S512x128.size inb', k0_pay79 dk⟩]) = outKV dk dv := by
  subst hw
  rw [View.read_writes_cons_put (h := rfl), View.read_writes_cons_put (h := rfl)]
  exact outKV_eq _ dk w

/-- The loop that emits the query gradient: its rows before trip `k` are the output's. -/
abbrev emitInv (c : Dev nD) (arg9 arg10 arg11 : Memref sig .tc .vmem S4096x128 .f32) (arg12 : Memref sig .tc .vmem S4096x256 .bf16)
    (arg15 : Memref sig .tc .vmem S4096x256 .f32) (A B C : S4096x128.Idx → Elt F .f32) (Q : S4096x256.Idx → Elt F .f32)
    (k : ℕ) (_ : Unit) : sProp 𝕄G :=
  iprop(owns (c : Thread nD τ) arg9 fullShare A ∗ owns (c : Thread nD τ) arg10 fullShare B ∗ owns (c : Thread nD τ) arg11 fullShare C ∗ owns (c : Thread nD τ) arg15 fullShare Q
    ∗ ∃ (Y : S4096x256.Idx → Elt F .bf16), ⌜(∀ (b : ℕ) (_ : b < k) (inb inb'), VecWindow.window (s := S4096x256) Y ![512 * b, 0] S512x128.size inb
          = k0_pay3 (VecWindow.window (s := S4096x256) Q ![512 * b, 0] S512x128.size inb'))
        ∧ (∀ (b : ℕ) (_ : b < k) (hb : b < 8) (inb inb'), VecWindow.window (s := S4096x256) Y ![512 * b, 128] S512x128.size inb
          = k0_pay4 (VecWindow.window (s := S4096x256) Q ![512 * b, 128] S512x128.size inb') (rowsD (F := F) (e := .f32) A b hb)
              (rowsD (F := F) (e := .f32) B b hb) (rowsD (F := F) (e := .f32) C b hb))⌝
      ∗ owns (c : Thread nD τ) arg12 fullShare Y)

/-- One trip of it. -/
theorem emit_run (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (h5 : k0_cond5 i = 1#1) (A B C : S4096x128.Idx → Elt F .f32) (Q : S4096x256.Idx → Elt F .f32) (k : Fin k0_t4_loop.trips) :
    emitInv (F := F) c arg9 arg10 arg11 arg12 arg15 A B C Q k.val ()
      ⊢ wp frame (wpE (defs₀ (F := F)) 𝒱 (c : Thread nD τ) bd) E
          (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 k PUnit.unit)
          (fun _ => emitInv (F := F) c arg9 arg10 arg11 arg12 arg15 A B C Q (k.val + 1) ()) := by
  have hk : k.val < 8 := Nat.lt_of_lt_of_le k.isLt k0_t4_abs.2.1
  have i0 : ∀ a, (![512 * k.val, 0] : Fin 2 → ℕ) a + S512x128.size a ≤ S4096x256.size a := k0_off17_eq k ▸ k0_off17_inb i k h5
  have i1 : ∀ a, (![512 * k.val, 128] : Fin 2 → ℕ) a + S512x128.size a ≤ S4096x256.size a := k0_off18_eq k ▸ k0_off18_inb i k h5
  unfold k0_t4_body emitInv
  simp only [owns_eq_rep]
  iintro ⟨H9, H10, H11, H15, %Y, %hY, H12⟩
  sl_exec
  sl_step
  isplitl [H9]; · iexact H9
  isplitl [H10]; · iexact H10
  isplitl [H11]; · iexact H11
  isplitl [H15]; · iexact H15
  iexists (VecWindow.put (VecWindow.put Y ![512 * k.val, 0] S512x128.size (k0_pay3 (VecWindow.window (s := S4096x256) Q ![512 * k.val, 0] S512x128.size i0)))
    ![512 * k.val, 128] S512x128.size (k0_pay4 (VecWindow.window (s := S4096x256) Q ![512 * k.val, 128] S512x128.size i1)
      (rowsD (F := F) (e := .f32) A k.val hk) (rowsD (F := F) (e := .f32) B k.val hk) (rowsD (F := F) (e := .f32) C k.val hk)))
  isplitl []
  · ipureintro
    refine ⟨fun b hb inb inb' => ?_, fun b hb hb8 inb inb' => ?_⟩
    · rw [VecWindow.window_put_of_disjoint (a := 1) (ha := by left; simp)]
      by_cases h : b = k.val
      · subst h; rw [VecWindow.window_put_same]
      · rw [VecWindow.window_put_of_disjoint (a := 0) (ha := by left; simp; omega)]
        exact hY.1 b (by omega) inb inb'
    · by_cases h : b = k.val
      · subst h; rw [VecWindow.window_put_same]
      · rw [VecWindow.window_put_of_disjoint (a := 0) (ha := by left; simp; omega),
          VecWindow.window_put_of_disjoint (a := 0) (ha := by left; simp; omega)]
        exact hY.2 b (by omega) hb8 inb inb'
  iapply pointsTo_rep_of_read
  rotate_left
  · iexact H12
  rw [View.read_writes_cons_put (h := k0_off18_eq k), View.read_writes_rep_unit (h := k0_off17_eq k)]
  sl_unfold_run_names
  rw [readAt_at arg15.view _ (k0_off17_eq k), readAt_at arg15.view _ (k0_off18_eq k), readAt_at arg9.view _ (k0_off19_eq k),
    readAt_at arg10.view _ (k0_off19_eq k), readAt_at arg11.view _ (k0_off19_eq k)]

/-- A point that is not a head's last: the query gradient stays in scratch. -/
theorem body_idle (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (h5 : ¬ k0_cond5 i = 1#1) (e : Env F) (f : St F) (PRE MID REST : sProp 𝕄G)
    (h9 : PRE ⊢ wp frame (wpE (defs₀ (F := F)) 𝒱 (c : Thread nD τ) bd) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun r => iprop((∃ w1 w2 w3 w4 w5, ⌜r = ⟨w1, e.K, e.V, w2, w3, w4, w5⟩⌝) ∗ REST ∗ MID)))
    (h10 : ∀ w1 w2 w3 w4 w5, MID ⊢ wp frame (wpE (defs₀ (F := F)) 𝒱 (c : Thread nD τ) bd) E
      (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w1 e.K e.V w2 w3 w4 w5)
      (fun r => iprop(⌜r = ⟨k0_pay78 f.dk, k0_pay79 f.dk⟩⌝ ∗ held c arg2 arg6 arg8 arg16 arg15 arg17 arg18 e f)))
    (X9 X10 X11 : S4096x128.Idx → Elt F .f32) (X12 : S4096x256.Idx → Elt F .bf16) (X13 : S512x256.Idx → Elt F .bf16)
    (X14 : S512x128.Idx → Elt F .f32) :
    iprop(PRE ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14)
      ⊢ wp frame (wpE (defs₀ (F := F)) 𝒱 (c : Thread nD τ) bd) E (cc0_mla_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(REST ∗ held c arg2 arg6 arg8 arg16 arg15 arg17 arg18 e f
            ∗ owns (c : Thread nD τ) arg9 fullShare X9 ∗ owns (c : Thread nD τ) arg10 fullShare X10 ∗ owns (c : Thread nD τ) arg11 fullShare X11 ∗ owns (c : Thread nD τ) arg12 fullShare X12
            ∗ owns (c : Thread nD τ) arg13 fullShare (outKV f.dk f.dv) ∗ owns (c : Thread nD τ) arg14 fullShare (outR f.dk))) := by
  rw [cc0_mla_bwd_eq_skeleton]
  unfold cc0_mla_bwd_skel
  rw [wp_bind]
  iintro ⟨HP, H9, H10, H11, H12, H13, H14⟩
  iapply (wp_wand_r Idealize.ShloMosaic.frame (wpE (defs₀ (F := F)) 𝒱 (c : Thread nD τ) bd) E)
  isplitl [HP]
  · iapply h9; iexact HP
  iintro %r ⟨⟨%w1, %w2, %w3, %w4, %w5, %hr⟩, HR, HM⟩
  subst hr
  dsimp only
  rw [wp_bind]
  iapply (wp_wand_r Idealize.ShloMosaic.frame (wpE (defs₀ (F := F)) 𝒱 (c : Thread nD τ) bd) E)
  isplitl [HM]
  · iapply (h10 w1 w2 w3 w4 w5); iexact HM
  iintro %r ⟨%hr, H2, H6, H8, H16, H15, H17, H18⟩
  subst hr
  dsimp only
  simp only [owns_eq_rep]
  sl_exec
  sl_step
  isplitl [HR]; · iexact HR
  isplitl [H2 H6 H8 H16 H15 H17 H18]
  · unfold held
    simp only [owns_eq_rep]
    isplitl [H2]; · iexact H2
    isplitl [H6]; · iexact H6
    isplitl [H8]; · iexact H8
    isplitl [H16]; · iexact H16
    isplitl [H15]; · iexact H15
    isplitl [H17]; · iexact H17
    iexact H18
  isplitl [H9]; · iexact H9
  isplitl [H10]; · iexact H10
  isplitl [H11]; · iexact H11
  isplitl [H12]; · iexact H12
  isplitl [H13]
  · iapply pointsTo_rep_of_read
    rotate_left
    · iexact H13
    exact outKV_read arg13.view _ _ _ f.dk _ f.dv (View.readAt_rep_full arg18.view f.dv _)
  iapply pointsTo_rep_of_read
  rotate_left
  · iexact H14
  exact View.read_writes_full arg14.view _ _ _ _

/-- A head's last point: the query gradient is emitted. -/
theorem body_emit (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (h5 : k0_cond5 i = 1#1) (e : Env F) (f : St F) (PRE MID REST : sProp 𝕄G)
    (h9 : PRE ⊢ wp frame (wpE (defs₀ (F := F)) 𝒱 (c : Thread nD τ) bd) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun r => iprop((∃ w1 w2 w3 w4 w5, ⌜r = ⟨w1, e.K, e.V, w2, w3, w4, w5⟩⌝) ∗ REST ∗ MID)))
    (h10 : ∀ w1 w2 w3 w4 w5, MID ⊢ wp frame (wpE (defs₀ (F := F)) 𝒱 (c : Thread nD τ) bd) E
      (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w1 e.K e.V w2 w3 w4 w5)
      (fun r => iprop(⌜r = ⟨k0_pay78 f.dk, k0_pay79 f.dk⟩⌝ ∗ held c arg2 arg6 arg8 arg16 arg15 arg17 arg18 e f)))
    (X9 X10 X11 : S4096x128.Idx → Elt F .f32) (X12 : S4096x256.Idx → Elt F .bf16) (X13 : S512x256.Idx → Elt F .bf16)
    (X14 : S512x128.Idx → Elt F .f32) :
    iprop(PRE ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14)
      ⊢ wp frame (wpE (defs₀ (F := F)) 𝒱 (c : Thread nD τ) bd) E (cc0_mla_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(REST ∗ held c arg2 arg6 arg8 arg16 arg15 arg17 arg18 e f
            ∗ owns (c : Thread nD τ) arg9 fullShare X9 ∗ owns (c : Thread nD τ) arg10 fullShare X10 ∗ owns (c : Thread nD τ) arg11 fullShare X11 ∗ owns (c : Thread nD τ) arg12 fullShare (outQ f.dq X9 X10 X11)
            ∗ owns (c : Thread nD τ) arg13 fullShare (outKV f.dk f.dv) ∗ owns (c : Thread nD τ) arg14 fullShare (outR f.dk))) := by
  rw [cc0_mla_bwd_eq_skeleton]
  unfold cc0_mla_bwd_skel
  rw [wp_bind]
  iintro ⟨HP, H9, H10, H11, H12, H13, H14⟩
  iapply (wp_wand_r Idealize.ShloMosaic.frame (wpE (defs₀ (F := F)) 𝒱 (c : Thread nD τ) bd) E)
  isplitl [HP]
  · iapply h9; iexact HP
  iintro %r ⟨⟨%w1, %w2, %w3, %w4, %w5, %hr⟩, HR, HM⟩
  subst hr
  dsimp only
  rw [wp_bind]
  iapply (wp_wand_r Idealize.ShloMosaic.frame (wpE (defs₀ (F := F)) 𝒱 (c : Thread nD τ) bd) E)
  isplitl [HM]
  · iapply (h10 w1 w2 w3 w4 w5); iexact HM
  iintro %r ⟨%hr, H2, H6, H8, H16, H15, H17, H18⟩
  subst hr
  dsimp only
  simp only [owns_eq_rep]
  sl_exec
  sl_for (emitInv (F := F) c arg9 arg10 arg11 arg12 arg15 X9 X10 X11 f.dq) $$ [H9 H10 H11 H12 H15]
  case region =>
    intro k a
    exact emit_run 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X9 X10 X11 f.dq k
  · unfold emitInv
    simp only [owns_eq_rep]
    isplitl [H9]; · iexact H9
    isplitl [H10]; · iexact H10
    isplitl [H11]; · iexact H11
    isplitl [H15]; · iexact H15
    iexists X12
    isplitl []
    · ipureintro
      exact ⟨fun b hb => absurd hb (Nat.not_lt_zero b), fun b hb => absurd hb (Nat.not_lt_zero b)⟩
    iexact H12
  rw [show Scf.trips k0_t4_loop.lb k0_t4_loop.ub k0_t4_loop.st = 8 by decide +kernel]
  unfold emitInv
  simp only [owns_eq_rep]
  iintro %_ ⟨H9, H10, H11, H15, %Y, %hY, H12⟩
  have e12 : Y = outQ f.dq X9 X10 X11 := eq_outQ Y f.dq X9 X10 X11 (fun b hb inb inb' => hY.1 b hb inb inb')
    (fun b hb inb inb' => hY.2 b hb hb inb inb')
  subst e12
  sl_exec
  sl_step
  isplitl [HR]; · iexact HR
  isplitl [H2 H6 H8 H16 H15 H17 H18]
  · unfold held
    simp only [owns_eq_rep]
    isplitl [H2]; · iexact H2
    isplitl [H6]; · iexact H6
    isplitl [H8]; · iexact H8
    isplitl [H16]; · iexact H16
    isplitl [H15]; · iexact H15
    isplitl [H17]; · iexact H17
    iexact H18
  isplitl [H9]; · iexact H9
  isplitl [H10]; · iexact H10
  isplitl [H11]; · iexact H11
  isplitl [H12]; · iexact H12
  isplitl [H13]
  · iapply pointsTo_rep_of_read
    rotate_left
    · iexact H13
    exact outKV_read arg13.view _ _ _ f.dk _ f.dv (View.readAt_rep_full arg18.view f.dv _)
  iapply pointsTo_rep_of_read
  rotate_left
  · iexact H14
  exact View.read_writes_full arg14.view _ _ _ _

end Cert.KernelIdeal.Bwd

end
-- ==== Proof.Point.lean ====
/- One grid point of the backward call, whichever it is: a head's first point starts the query gradient and the row
   corrections afresh, the others go on from what the point before left, and the last emits the query gradient. -/
module

public import proofs.«01_k».proof.Proof.Body

@[expose] public section

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem cond1_iff : ∀ i : grid0.Coords, k0_cond1 i = 1#1 ↔ (i 1).val = 0 := by decide +kernel
theorem cond2_iff : ∀ i : grid0.Coords, k0_cond2 i = 1#1 ↔ (i 1).val = 7 := by decide +kernel
theorem cond3_iff : ∀ i : grid0.Coords, k0_cond3 i = 1#1 ↔ (i 1).val < 7 := by decide +kernel
theorem cond4_iff : ∀ i : grid0.Coords, k0_cond4 i = 1#1 ↔ (i 1).val % 2 = 1 ∧ (i 1).val < 7 := by decide +kernel
theorem cond5_iff : ∀ i : grid0.Coords, k0_cond5 i = 1#1 ↔ (i 1).val = 7 := by decide +kernel

/-- What a point reads: its blocks, and the query gradient and row corrections found in scratch. -/
structure Found (F : FTy → Type) where
  Q : S4096x256.Idx → Elt F .bf16
  KN : S512x128.Idx → Elt F .bf16
  KR : S512x128.Idx → Elt F .bf16
  V : S512x128.Idx → Elt F .bf16
  D : S4096x128.Idx → Elt F .f32
  O : S4096x128.Idx → Elt F .bf16
  L : S4096x128.Idx → Elt F .f32
  DQ : S4096x256.Idx → Elt F .f32
  DL : S4096x128.Idx → Elt F .f32

/-- The arrays a point's sweep works from, at key block `k`. -/
def Found.env (x : Found F) (k : ℕ) : Env F :=
  ⟨k0_pay66 x.KN x.KR, k0_pay67 x.V, x.Q, x.D, x.L, if k = 0 then corr x.D x.O else x.DL⟩

/-- What the accumulators hold before a point's sweep. -/
def Found.start (x : Found F) (k : ℕ) : St F := ⟨if k = 0 then zerosQ (F := F) else x.DQ, k0_pay68, k0_pay69⟩

/-- What they hold after it. -/
def Found.final (x : Found F) (k : ℕ) : St F := (x.env k).sweep k 8 (x.start k)

set_option maxHeartbeats 1600000 in
/-- A head's first point. -/
theorem point_first (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (hb : (i 1).val = 0) (x : Found F)
    (A B C : S4096x128.Idx → Elt F .f32) (X12 : S4096x256.Idx → Elt F .bf16) (X13 : S512x256.Idx → Elt F .bf16)
    (X14 : S512x128.Idx → Elt F .f32) (X15 : S4096x256.Idx → Elt F .f32) (X16 : S4096x128.Idx → Elt F .f32)
    (X17 : S512x256.Idx → Elt F .f32) (X18 : S512x128.Idx → Elt F .f32)  :
    (iprop(owns (c : Thread nD τ) arg2 fullShare x.Q ∗ owns (c : Thread nD τ) arg3 fullShare x.KN ∗ owns (c : Thread nD τ) arg4 fullShare x.KR ∗ owns (c : Thread nD τ) arg5 fullShare x.V ∗ owns (c : Thread nD τ) arg6 fullShare x.D ∗ owns (c : Thread nD τ) arg7 fullShare x.O ∗ owns (c : Thread nD τ) arg8 fullShare x.L ∗ owns (c : Thread nD τ) arg9 fullShare A ∗ owns (c : Thread nD τ) arg10 fullShare B ∗ owns (c : Thread nD τ) arg11 fullShare C ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18) : sProp 𝕄G)
      ⊢ wp frame (wpE (defs₀ (F := F)) 𝒱 (c : Thread nD τ) bd) E (cc0_mla_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(owns (c : Thread nD τ) arg2 fullShare x.Q ∗ owns (c : Thread nD τ) arg3 fullShare x.KN ∗ owns (c : Thread nD τ) arg4 fullShare x.KR ∗ owns (c : Thread nD τ) arg5 fullShare x.V ∗ owns (c : Thread nD τ) arg6 fullShare x.D ∗ owns (c : Thread nD τ) arg7 fullShare x.O ∗ owns (c : Thread nD τ) arg8 fullShare x.L ∗ owns (c : Thread nD τ) arg9 fullShare A ∗ owns (c : Thread nD τ) arg10 fullShare B ∗ owns (c : Thread nD τ) arg11 fullShare C ∗ owns (c : Thread nD τ) arg12 fullShare X12 ∗ owns (c : Thread nD τ) arg13 fullShare (outKV (x.final (i 1).val).dk (x.final (i 1).val).dv) ∗ owns (c : Thread nD τ) arg14 fullShare (outR (x.final (i 1).val).dk) ∗ owns (c : Thread nD τ) arg15 fullShare (x.final (i 1).val).dq ∗ owns (c : Thread nD τ) arg16 fullShare (x.env (i 1).val).C ∗ (∃ Y17, owns (c : Thread nD τ) arg17 fullShare Y17) ∗ (∃ Y18, owns (c : Thread nD τ) arg18 fullShare Y18))) := by
  have h9 : (iprop(owns (c : Thread nD τ) arg3 fullShare x.KN ∗ owns (c : Thread nD τ) arg4 fullShare x.KR ∗ owns (c : Thread nD τ) arg5 fullShare x.V ∗ owns (c : Thread nD τ) arg7 fullShare x.O ∗ owns (c : Thread nD τ) arg2 fullShare x.Q ∗ owns (c : Thread nD τ) arg6 fullShare x.D ∗ owns (c : Thread nD τ) arg8 fullShare x.L ∗ owns (c : Thread nD τ) arg16 fullShare X16 ∗ owns (c : Thread nD τ) arg15 fullShare X15 ∗ owns (c : Thread nD τ) arg17 fullShare X17 ∗ owns (c : Thread nD τ) arg18 fullShare X18) : sProp 𝕄G) ⊢ wp frame (wpE (defs₀ (F := F)) 𝒱 (c : Thread nD τ) bd) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun r => iprop((∃ w1 w2 w3 w4 w5, ⌜r = ⟨w1, (x.env (i 1).val).K, (x.env (i 1).val).V, w2, w3, w4, w5⟩⌝) ∗ (iprop(owns (c : Thread nD τ) arg3 fullShare x.KN ∗ owns (c : Thread nD τ) arg4 fullShare x.KR ∗ owns (c : Thread nD τ) arg5 fullShare x.V ∗ owns (c : Thread nD τ) arg7 fullShare x.O) : sProp 𝕄G) ∗ (held c arg2 arg6 arg8 arg16 arg15 arg17 arg18 (x.env (i 1).val) ((x.env (i 1).val).sweep (i 1).val 2 (x.start (i 1).val))))) := by
    rw [show x.start (i 1).val = ⟨zerosQ (F := F), k0_pay68, k0_pay69⟩ from by unfold Found.start; rw [if_pos hb]]
    iintro H
    iapply (wp_wand_r Idealize.ShloMosaic.frame (wpE (defs₀ (F := F)) 𝒱 (c : Thread nD τ) bd) E)
    isplitl [H]
    · iapply (part9_first 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ((cond1_iff i).2 hb) (fun h => by have := (cond2_iff i).1 h; omega) ((cond3_iff i).2 (by omega)) hb (x.env (i 1).val) x.KN x.KR x.V rfl rfl x.O (if_pos hb) X15 X16 X17 X18)
      iexact H
    iintro %r ⟨Hr, H3, H4, H5, H7, HM⟩
    isplitl [Hr]; · iexact Hr
    isplitl [H3 H4 H5 H7]
    · isplitl [H3]; · iexact H3
      isplitl [H4]; · iexact H4
      isplitl [H5]; · iexact H5
      iexact H7
    iexact HM
  have h10 : ∀ w1 w2 w3 w4 w5, (held c arg2 arg6 arg8 arg16 arg15 arg17 arg18 (x.env (i 1).val) ((x.env (i 1).val).sweep (i 1).val 2 (x.start (i 1).val))) ⊢ wp frame (wpE (defs₀ (F := F)) 𝒱 (c : Thread nD τ) bd) E
      (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w1 (x.env (i 1).val).K (x.env (i 1).val).V w2 w3 w4 w5)
      (fun r => iprop(⌜r = ⟨k0_pay78 (x.final (i 1).val).dk, k0_pay79 (x.final (i 1).val).dk⟩⌝ ∗ held c arg2 arg6 arg8 arg16 arg15 arg17 arg18 (x.env (i 1).val) (x.final (i 1).val))) :=
    fun w1 w2 w3 w4 w5 => part10_even 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => by have := (cond4_iff i).1 h; omega) (by omega) w1 w2 w3 w4 w5 (x.env (i 1).val) (x.start (i 1).val)
  iintro ⟨H2, H3, H4, H5, H6, H7, H8, H9, H10, H11, H12, H13, H14, H15, H16, H17, H18⟩
  iapply (wp_wand_r Idealize.ShloMosaic.frame (wpE (defs₀ (F := F)) 𝒱 (c : Thread nD τ) bd) E)
  isplitl [H2 H3 H4 H5 H6 H7 H8 H9 H10 H11 H12 H13 H14 H15 H16 H17 H18]
  · iapply (body_idle 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => by have := (cond5_iff i).1 h; omega) (x.env (i 1).val) (x.final (i 1).val) _ _ _ h9 h10 A B C X12 X13 X14)
    isplitl [H2 H3 H4 H5 H6 H7 H8 H15 H16 H17 H18]
    · isplitl [H3]; · iexact H3
      isplitl [H4]; · iexact H4
      isplitl [H5]; · iexact H5
      isplitl [H7]; · iexact H7
      isplitl [H2]; · iexact H2
      isplitl [H6]; · iexact H6
      isplitl [H8]; · iexact H8
      isplitl [H16]; · iexact H16
      isplitl [H15]; · iexact H15
      isplitl [H17]; · iexact H17
      iexact H18
    isplitl [H9]; · iexact H9
    isplitl [H10]; · iexact H10
    isplitl [H11]; · iexact H11
    isplitl [H12]; · iexact H12
    isplitl [H13]; · iexact H13
    iexact H14
  iintro %_ ⟨⟨H3, H4, H5, H7⟩, ⟨H2, H6, H8, H16, H15, H17, H18⟩, H9, H10, H11, H12, H13, H14⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iexists _; iexact H18

set_option maxHeartbeats 1600000 in
/-- A middle point at an even key block. -/
theorem point_even (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (hb : (i 1).val % 2 = 0) (hb0 : (i 1).val ≠ 0) (hb7 : (i 1).val < 7) (x : Found F)
    (A B C : S4096x128.Idx → Elt F .f32) (X12 : S4096x256.Idx → Elt F .bf16) (X13 : S512x256.Idx → Elt F .bf16)
    (X14 : S512x128.Idx → Elt F .f32) (X15 : S4096x256.Idx → Elt F .f32) (X16 : S4096x128.Idx → Elt F .f32)
    (X17 : S512x256.Idx → Elt F .f32) (X18 : S512x128.Idx → Elt F .f32) (hQ : X15 = x.DQ) (hL : X16 = x.DL) :
    (iprop(owns (c : Thread nD τ) arg2 fullShare x.Q ∗ owns (c : Thread nD τ) arg3 fullShare x.KN ∗ owns (c : Thread nD τ) arg4 fullShare x.KR ∗ owns (c : Thread nD τ) arg5 fullShare x.V ∗ owns (c : Thread nD τ) arg6 fullShare x.D ∗ owns (c : Thread nD τ) arg7 fullShare x.O ∗ owns (c : Thread nD τ) arg8 fullShare x.L ∗ owns (c : Thread nD τ) arg9 fullShare A ∗ owns (c : Thread nD τ) arg10 fullShare B ∗ owns (c : Thread nD τ) arg11 fullShare C ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18) : sProp 𝕄G)
      ⊢ wp frame (wpE (defs₀ (F := F)) 𝒱 (c : Thread nD τ) bd) E (cc0_mla_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(owns (c : Thread nD τ) arg2 fullShare x.Q ∗ owns (c : Thread nD τ) arg3 fullShare x.KN ∗ owns (c : Thread nD τ) arg4 fullShare x.KR ∗ owns (c : Thread nD τ) arg5 fullShare x.V ∗ owns (c : Thread nD τ) arg6 fullShare x.D ∗ owns (c : Thread nD τ) arg7 fullShare x.O ∗ owns (c : Thread nD τ) arg8 fullShare x.L ∗ owns (c : Thread nD τ) arg9 fullShare A ∗ owns (c : Thread nD τ) arg10 fullShare B ∗ owns (c : Thread nD τ) arg11 fullShare C ∗ owns (c : Thread nD τ) arg12 fullShare X12 ∗ owns (c : Thread nD τ) arg13 fullShare (outKV (x.final (i 1).val).dk (x.final (i 1).val).dv) ∗ owns (c : Thread nD τ) arg14 fullShare (outR (x.final (i 1).val).dk) ∗ owns (c : Thread nD τ) arg15 fullShare (x.final (i 1).val).dq ∗ owns (c : Thread nD τ) arg16 fullShare (x.env (i 1).val).C ∗ (∃ Y17, owns (c : Thread nD τ) arg17 fullShare Y17) ∗ (∃ Y18, owns (c : Thread nD τ) arg18 fullShare Y18))) := by
  have hC : (x.env (i 1).val).C = X16 := by rw [hL]; exact if_neg (by omega)
  rw [hQ]
  have h9 : (iprop(owns (c : Thread nD τ) arg3 fullShare x.KN ∗ owns (c : Thread nD τ) arg4 fullShare x.KR ∗ owns (c : Thread nD τ) arg5 fullShare x.V ∗ held c arg2 arg6 arg8 arg16 arg15 arg17 arg18 (x.env (i 1).val) ⟨x.DQ, X17, X18⟩) : sProp 𝕄G) ⊢ wp frame (wpE (defs₀ (F := F)) 𝒱 (c : Thread nD τ) bd) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun r => iprop((∃ w1 w2 w3 w4 w5, ⌜r = ⟨w1, (x.env (i 1).val).K, (x.env (i 1).val).V, w2, w3, w4, w5⟩⌝) ∗ (iprop(owns (c : Thread nD τ) arg3 fullShare x.KN ∗ owns (c : Thread nD τ) arg4 fullShare x.KR ∗ owns (c : Thread nD τ) arg5 fullShare x.V) : sProp 𝕄G) ∗ (held c arg2 arg6 arg8 arg16 arg15 arg17 arg18 (x.env (i 1).val) ((x.env (i 1).val).sweep (i 1).val 2 (x.start (i 1).val))))) := by
    rw [show x.start (i 1).val = ⟨x.DQ, k0_pay68, k0_pay69⟩ from by unfold Found.start; rw [if_neg (by omega)]]
    iintro H
    iapply (wp_wand_r Idealize.ShloMosaic.frame (wpE (defs₀ (F := F)) 𝒱 (c : Thread nD τ) bd) E)
    isplitl [H]
    · iapply (part9_mid 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => by have := (cond1_iff i).1 h; omega) (fun h => by have := (cond2_iff i).1 h; omega) ((cond3_iff i).2 (by omega)) (by omega) (x.env (i 1).val) x.KN x.KR x.V rfl rfl ⟨x.DQ, X17, X18⟩)
      iexact H
    iintro %r ⟨Hr, H3, H4, H5, HM⟩
    isplitl [Hr]; · iexact Hr
    isplitl [H3 H4 H5]
    · isplitl [H3]; · iexact H3
      isplitl [H4]; · iexact H4
      iexact H5
    iexact HM
  have h10 : ∀ w1 w2 w3 w4 w5, (held c arg2 arg6 arg8 arg16 arg15 arg17 arg18 (x.env (i 1).val) ((x.env (i 1).val).sweep (i 1).val 2 (x.start (i 1).val))) ⊢ wp frame (wpE (defs₀ (F := F)) 𝒱 (c : Thread nD τ) bd) E
      (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w1 (x.env (i 1).val).K (x.env (i 1).val).V w2 w3 w4 w5)
      (fun r => iprop(⌜r = ⟨k0_pay78 (x.final (i 1).val).dk, k0_pay79 (x.final (i 1).val).dk⟩⌝ ∗ held c arg2 arg6 arg8 arg16 arg15 arg17 arg18 (x.env (i 1).val) (x.final (i 1).val))) :=
    fun w1 w2 w3 w4 w5 => part10_even 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => by have := (cond4_iff i).1 h; omega) (by omega) w1 w2 w3 w4 w5 (x.env (i 1).val) (x.start (i 1).val)
  iintro ⟨H2, H3, H4, H5, H6, H7, H8, H9, H10, H11, H12, H13, H14, H15, H16, H17, H18⟩
  iapply (wp_wand_r Idealize.ShloMosaic.frame (wpE (defs₀ (F := F)) 𝒱 (c : Thread nD τ) bd) E)
  isplitl [H2 H3 H4 H5 H6 H8 H9 H10 H11 H12 H13 H14 H15 H16 H17 H18]
  · iapply (body_idle 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => by have := (cond5_iff i).1 h; omega) (x.env (i 1).val) (x.final (i 1).val) _ _ _ h9 h10 A B C X12 X13 X14)
    isplitl [H2 H3 H4 H5 H6 H8 H15 H16 H17 H18]
    · isplitl [H3]; · iexact H3
      isplitl [H4]; · iexact H4
      isplitl [H5]; · iexact H5
      unfold held
      rw [hC]
      isplitl [H2]; · iexact H2
      isplitl [H6]; · iexact H6
      isplitl [H8]; · iexact H8
      isplitl [H16]; · iexact H16
      isplitl [H15]; · iexact H15
      isplitl [H17]; · iexact H17
      iexact H18
    isplitl [H9]; · iexact H9
    isplitl [H10]; · iexact H10
    isplitl [H11]; · iexact H11
    isplitl [H12]; · iexact H12
    isplitl [H13]; · iexact H13
    iexact H14
  iintro %_ ⟨⟨H3, H4, H5⟩, ⟨H2, H6, H8, H16, H15, H17, H18⟩, H9, H10, H11, H12, H13, H14⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iexists _; iexact H18

set_option maxHeartbeats 1600000 in
/-- A middle point at an odd key block. -/
theorem point_odd (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (hb : (i 1).val % 2 = 1) (hb7 : (i 1).val < 7) (x : Found F)
    (A B C : S4096x128.Idx → Elt F .f32) (X12 : S4096x256.Idx → Elt F .bf16) (X13 : S512x256.Idx → Elt F .bf16)
    (X14 : S512x128.Idx → Elt F .f32) (X15 : S4096x256.Idx → Elt F .f32) (X16 : S4096x128.Idx → Elt F .f32)
    (X17 : S512x256.Idx → Elt F .f32) (X18 : S512x128.Idx → Elt F .f32) (hQ : X15 = x.DQ) (hL : X16 = x.DL) :
    (iprop(owns (c : Thread nD τ) arg2 fullShare x.Q ∗ owns (c : Thread nD τ) arg3 fullShare x.KN ∗ owns (c : Thread nD τ) arg4 fullShare x.KR ∗ owns (c : Thread nD τ) arg5 fullShare x.V ∗ owns (c : Thread nD τ) arg6 fullShare x.D ∗ owns (c : Thread nD τ) arg7 fullShare x.O ∗ owns (c : Thread nD τ) arg8 fullShare x.L ∗ owns (c : Thread nD τ) arg9 fullShare A ∗ owns (c : Thread nD τ) arg10 fullShare B ∗ owns (c : Thread nD τ) arg11 fullShare C ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18) : sProp 𝕄G)
      ⊢ wp frame (wpE (defs₀ (F := F)) 𝒱 (c : Thread nD τ) bd) E (cc0_mla_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(owns (c : Thread nD τ) arg2 fullShare x.Q ∗ owns (c : Thread nD τ) arg3 fullShare x.KN ∗ owns (c : Thread nD τ) arg4 fullShare x.KR ∗ owns (c : Thread nD τ) arg5 fullShare x.V ∗ owns (c : Thread nD τ) arg6 fullShare x.D ∗ owns (c : Thread nD τ) arg7 fullShare x.O ∗ owns (c : Thread nD τ) arg8 fullShare x.L ∗ owns (c : Thread nD τ) arg9 fullShare A ∗ owns (c : Thread nD τ) arg10 fullShare B ∗ owns (c : Thread nD τ) arg11 fullShare C ∗ owns (c : Thread nD τ) arg12 fullShare X12 ∗ owns (c : Thread nD τ) arg13 fullShare (outKV (x.final (i 1).val).dk (x.final (i 1).val).dv) ∗ owns (c : Thread nD τ) arg14 fullShare (outR (x.final (i 1).val).dk) ∗ owns (c : Thread nD τ) arg15 fullShare (x.final (i 1).val).dq ∗ owns (c : Thread nD τ) arg16 fullShare (x.env (i 1).val).C ∗ (∃ Y17, owns (c : Thread nD τ) arg17 fullShare Y17) ∗ (∃ Y18, owns (c : Thread nD τ) arg18 fullShare Y18))) := by
  have hC : (x.env (i 1).val).C = X16 := by rw [hL]; exact if_neg (by omega)
  rw [hQ]
  have h9 : (iprop(owns (c : Thread nD τ) arg3 fullShare x.KN ∗ owns (c : Thread nD τ) arg4 fullShare x.KR ∗ owns (c : Thread nD τ) arg5 fullShare x.V ∗ held c arg2 arg6 arg8 arg16 arg15 arg17 arg18 (x.env (i 1).val) ⟨x.DQ, X17, X18⟩) : sProp 𝕄G) ⊢ wp frame (wpE (defs₀ (F := F)) 𝒱 (c : Thread nD τ) bd) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun r => iprop((∃ w1 w2 w3 w4 w5, ⌜r = ⟨w1, (x.env (i 1).val).K, (x.env (i 1).val).V, w2, w3, w4, w5⟩⌝) ∗ (iprop(owns (c : Thread nD τ) arg3 fullShare x.KN ∗ owns (c : Thread nD τ) arg4 fullShare x.KR ∗ owns (c : Thread nD τ) arg5 fullShare x.V) : sProp 𝕄G) ∗ (held c arg2 arg6 arg8 arg16 arg15 arg17 arg18 (x.env (i 1).val) ((x.env (i 1).val).sweep (i 1).val 2 (x.start (i 1).val))))) := by
    rw [show x.start (i 1).val = ⟨x.DQ, k0_pay68, k0_pay69⟩ from by unfold Found.start; rw [if_neg (by omega)]]
    iintro H
    iapply (wp_wand_r Idealize.ShloMosaic.frame (wpE (defs₀ (F := F)) 𝒱 (c : Thread nD τ) bd) E)
    isplitl [H]
    · iapply (part9_mid 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => by have := (cond1_iff i).1 h; omega) (fun h => by have := (cond2_iff i).1 h; omega) ((cond3_iff i).2 (by omega)) (by omega) (x.env (i 1).val) x.KN x.KR x.V rfl rfl ⟨x.DQ, X17, X18⟩)
      iexact H
    iintro %r ⟨Hr, H3, H4, H5, HM⟩
    isplitl [Hr]; · iexact Hr
    isplitl [H3 H4 H5]
    · isplitl [H3]; · iexact H3
      isplitl [H4]; · iexact H4
      iexact H5
    iexact HM
  have h10 : ∀ w1 w2 w3 w4 w5, (held c arg2 arg6 arg8 arg16 arg15 arg17 arg18 (x.env (i 1).val) ((x.env (i 1).val).sweep (i 1).val 2 (x.start (i 1).val))) ⊢ wp frame (wpE (defs₀ (F := F)) 𝒱 (c : Thread nD τ) bd) E
      (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w1 (x.env (i 1).val).K (x.env (i 1).val).V w2 w3 w4 w5)
      (fun r => iprop(⌜r = ⟨k0_pay78 (x.final (i 1).val).dk, k0_pay79 (x.final (i 1).val).dk⟩⌝ ∗ held c arg2 arg6 arg8 arg16 arg15 arg17 arg18 (x.env (i 1).val) (x.final (i 1).val))) :=
    fun w1 w2 w3 w4 w5 => part10_odd 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ((cond4_iff i).2 (by omega)) (by omega) w1 w2 w3 w4 w5 (x.env (i 1).val) (x.start (i 1).val)
  iintro ⟨H2, H3, H4, H5, H6, H7, H8, H9, H10, H11, H12, H13, H14, H15, H16, H17, H18⟩
  iapply (wp_wand_r Idealize.ShloMosaic.frame (wpE (defs₀ (F := F)) 𝒱 (c : Thread nD τ) bd) E)
  isplitl [H2 H3 H4 H5 H6 H8 H9 H10 H11 H12 H13 H14 H15 H16 H17 H18]
  · iapply (body_idle 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => by have := (cond5_iff i).1 h; omega) (x.env (i 1).val) (x.final (i 1).val) _ _ _ h9 h10 A B C X12 X13 X14)
    isplitl [H2 H3 H4 H5 H6 H8 H15 H16 H17 H18]
    · isplitl [H3]; · iexact H3
      isplitl [H4]; · iexact H4
      isplitl [H5]; · iexact H5
      unfold held
      rw [hC]
      isplitl [H2]; · iexact H2
      isplitl [H6]; · iexact H6
      isplitl [H8]; · iexact H8
      isplitl [H16]; · iexact H16
      isplitl [H15]; · iexact H15
      isplitl [H17]; · iexact H17
      iexact H18
    isplitl [H9]; · iexact H9
    isplitl [H10]; · iexact H10
    isplitl [H11]; · iexact H11
    isplitl [H12]; · iexact H12
    isplitl [H13]; · iexact H13
    iexact H14
  iintro %_ ⟨⟨H3, H4, H5⟩, ⟨H2, H6, H8, H16, H15, H17, H18⟩, H9, H10, H11, H12, H13, H14⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iexists _; iexact H18

set_option maxHeartbeats 1600000 in
/-- A head's last point. -/
theorem point_last (𝒱 : Variants) (c : Dev nD) (bd : Option 𝒱.V) (E : Set ℕ) (i : grid0.Coords) (arg2 : Memref sig .tc .vmem S4096x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S4096x256 .f32) (harg15 : arg15.IsWhole) (arg16 : Memref sig .tc .vmem S4096x128 .f32) (harg16 : arg16.IsWhole) (arg17 : Memref sig .tc .vmem S512x256 .f32) (harg17 : arg17.IsWhole) (arg18 : Memref sig .tc .vmem S512x128 .f32) (harg18 : arg18.IsWhole)
    (hb : (i 1).val = 7) (x : Found F)
    (A B C : S4096x128.Idx → Elt F .f32) (X12 : S4096x256.Idx → Elt F .bf16) (X13 : S512x256.Idx → Elt F .bf16)
    (X14 : S512x128.Idx → Elt F .f32) (X15 : S4096x256.Idx → Elt F .f32) (X16 : S4096x128.Idx → Elt F .f32)
    (X17 : S512x256.Idx → Elt F .f32) (X18 : S512x128.Idx → Elt F .f32) (hQ : X15 = x.DQ) (hL : X16 = x.DL) :
    (iprop(owns (c : Thread nD τ) arg2 fullShare x.Q ∗ owns (c : Thread nD τ) arg3 fullShare x.KN ∗ owns (c : Thread nD τ) arg4 fullShare x.KR ∗ owns (c : Thread nD τ) arg5 fullShare x.V ∗ owns (c : Thread nD τ) arg6 fullShare x.D ∗ owns (c : Thread nD τ) arg7 fullShare x.O ∗ owns (c : Thread nD τ) arg8 fullShare x.L ∗ owns (c : Thread nD τ) arg9 fullShare A ∗ owns (c : Thread nD τ) arg10 fullShare B ∗ owns (c : Thread nD τ) arg11 fullShare C ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18) : sProp 𝕄G)
      ⊢ wp frame (wpE (defs₀ (F := F)) 𝒱 (c : Thread nD τ) bd) E (cc0_mla_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(owns (c : Thread nD τ) arg2 fullShare x.Q ∗ owns (c : Thread nD τ) arg3 fullShare x.KN ∗ owns (c : Thread nD τ) arg4 fullShare x.KR ∗ owns (c : Thread nD τ) arg5 fullShare x.V ∗ owns (c : Thread nD τ) arg6 fullShare x.D ∗ owns (c : Thread nD τ) arg7 fullShare x.O ∗ owns (c : Thread nD τ) arg8 fullShare x.L ∗ owns (c : Thread nD τ) arg9 fullShare A ∗ owns (c : Thread nD τ) arg10 fullShare B ∗ owns (c : Thread nD τ) arg11 fullShare C ∗ owns (c : Thread nD τ) arg12 fullShare (outQ (x.final (i 1).val).dq A B C) ∗ owns (c : Thread nD τ) arg13 fullShare (outKV (x.final (i 1).val).dk (x.final (i 1).val).dv) ∗ owns (c : Thread nD τ) arg14 fullShare (outR (x.final (i 1).val).dk) ∗ owns (c : Thread nD τ) arg15 fullShare (x.final (i 1).val).dq ∗ owns (c : Thread nD τ) arg16 fullShare (x.env (i 1).val).C ∗ (∃ Y17, owns (c : Thread nD τ) arg17 fullShare Y17) ∗ (∃ Y18, owns (c : Thread nD τ) arg18 fullShare Y18))) := by
  have hC : (x.env (i 1).val).C = X16 := by rw [hL]; exact if_neg (by omega)
  rw [hQ]
  have h9 : (iprop(owns (c : Thread nD τ) arg3 fullShare x.KN ∗ owns (c : Thread nD τ) arg4 fullShare x.KR ∗ owns (c : Thread nD τ) arg5 fullShare x.V ∗ held c arg2 arg6 arg8 arg16 arg15 arg17 arg18 (x.env (i 1).val) ⟨x.DQ, X17, X18⟩) : sProp 𝕄G) ⊢ wp frame (wpE (defs₀ (F := F)) 𝒱 (c : Thread nD τ) bd) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun r => iprop((∃ w1 w2 w3 w4 w5, ⌜r = ⟨w1, (x.env (i 1).val).K, (x.env (i 1).val).V, w2, w3, w4, w5⟩⌝) ∗ (iprop(owns (c : Thread nD τ) arg3 fullShare x.KN ∗ owns (c : Thread nD τ) arg4 fullShare x.KR ∗ owns (c : Thread nD τ) arg5 fullShare x.V) : sProp 𝕄G) ∗ (held c arg2 arg6 arg8 arg16 arg15 arg17 arg18 (x.env (i 1).val) ((x.env (i 1).val).sweep (i 1).val 2 (x.start (i 1).val))))) := by
    rw [show x.start (i 1).val = ⟨x.DQ, k0_pay68, k0_pay69⟩ from by unfold Found.start; rw [if_neg (by omega)]]
    iintro H
    iapply (wp_wand_r Idealize.ShloMosaic.frame (wpE (defs₀ (F := F)) 𝒱 (c : Thread nD τ) bd) E)
    isplitl [H]
    · iapply (part9_last 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => by have := (cond1_iff i).1 h; omega) ((cond2_iff i).2 hb) (fun h => by have := (cond3_iff i).1 h; omega) hb (x.env (i 1).val) x.KN x.KR x.V rfl rfl ⟨x.DQ, X17, X18⟩)
      iexact H
    iintro %r ⟨Hr, H3, H4, H5, HM⟩
    isplitl [Hr]; · iexact Hr
    isplitl [H3 H4 H5]
    · isplitl [H3]; · iexact H3
      isplitl [H4]; · iexact H4
      iexact H5
    iexact HM
  have h10 : ∀ w1 w2 w3 w4 w5, (held c arg2 arg6 arg8 arg16 arg15 arg17 arg18 (x.env (i 1).val) ((x.env (i 1).val).sweep (i 1).val 2 (x.start (i 1).val))) ⊢ wp frame (wpE (defs₀ (F := F)) 𝒱 (c : Thread nD τ) bd) E
      (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w1 (x.env (i 1).val).K (x.env (i 1).val).V w2 w3 w4 w5)
      (fun r => iprop(⌜r = ⟨k0_pay78 (x.final (i 1).val).dk, k0_pay79 (x.final (i 1).val).dk⟩⌝ ∗ held c arg2 arg6 arg8 arg16 arg15 arg17 arg18 (x.env (i 1).val) (x.final (i 1).val))) :=
    fun w1 w2 w3 w4 w5 => part10_even 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => by have := (cond4_iff i).1 h; omega) (by omega) w1 w2 w3 w4 w5 (x.env (i 1).val) (x.start (i 1).val)
  iintro ⟨H2, H3, H4, H5, H6, H7, H8, H9, H10, H11, H12, H13, H14, H15, H16, H17, H18⟩
  iapply (wp_wand_r Idealize.ShloMosaic.frame (wpE (defs₀ (F := F)) 𝒱 (c : Thread nD τ) bd) E)
  isplitl [H2 H3 H4 H5 H6 H8 H9 H10 H11 H12 H13 H14 H15 H16 H17 H18]
  · iapply (body_emit 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ((cond5_iff i).2 hb) (x.env (i 1).val) (x.final (i 1).val) _ _ _ h9 h10 A B C X12 X13 X14)
    isplitl [H2 H3 H4 H5 H6 H8 H15 H16 H17 H18]
    · isplitl [H3]; · iexact H3
      isplitl [H4]; · iexact H4
      isplitl [H5]; · iexact H5
      unfold held
      rw [hC]
      isplitl [H2]; · iexact H2
      isplitl [H6]; · iexact H6
      isplitl [H8]; · iexact H8
      isplitl [H16]; · iexact H16
      isplitl [H15]; · iexact H15
      isplitl [H17]; · iexact H17
      iexact H18
    isplitl [H9]; · iexact H9
    isplitl [H10]; · iexact H10
    isplitl [H11]; · iexact H11
    isplitl [H12]; · iexact H12
    isplitl [H13]; · iexact H13
    iexact H14
  iintro %_ ⟨⟨H3, H4, H5⟩, ⟨H2, H6, H8, H16, H15, H17, H18⟩, H9, H10, H11, H12, H13, H14⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iexists _; iexact H18

end Cert.KernelIdeal.Bwd

end
-- ==== Proof.Sound.lean ====
/- The proof data of the launch: what each point finds and leaves, the invariant that carries the query gradient and the row
   corrections from point to point, and what the body does at each point. -/
module

public import proofs.«01_k».proof.Proof.Point
public import proofs.«01_k».proof.Proof.Gen.KernelIdeal.Frame

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The key block of a point. -/
theorem coord1 : ∀ t : Fin cfg0.N, (grid0.coords t 1).val = t.val % 8 := by decide +kernel

/-- What point `t` reads, with the given arrays in scratch. -/
def found (c : Dev nD) (t : Fin cfg0.N) (dq : S4096x256.Idx → Elt F .f32) (dl : S4096x128.Idx → Elt F .f32) : Found F :=
  ⟨iblk m c 0 t, iblk m c 1 t, iblk m c 2 t, iblk m c 3 t, iblk m c 4 t, iblk m c 5 t, iblk m c 6 t, dq, dl⟩

/-- The query gradient and the row corrections before point `n`. -/
def carry (c : Dev nD) : ℕ → (S4096x256.Idx → Elt F .f32) × (S4096x128.Idx → Elt F .f32)
  | 0 => (zerosQ (F := F), constant S4096x128 .f32 0x00000000#32)
  | n + 1 => if h : n < cfg0.N then
      (((found m c ⟨n, h⟩ (carry c n).1 (carry c n).2).final (n % 8)).dq, ((found m c ⟨n, h⟩ (carry c n).1 (carry c n).2).env (n % 8)).C)
    else carry c n

/-- What point `t` reads. -/
def at_ (c : Dev nD) (t : Fin cfg0.N) : Found F := found m c t (carry m c t.val).1 (carry m c t.val).2

theorem carry_succ (c : Dev nD) (t : Fin cfg0.N) :
    carry m c (t.val + 1) = (((at_ m c t).final (t.val % 8)).dq, ((at_ m c t).env (t.val % 8)).C) := by
  rw [carry, dif_pos t.isLt]; rfl

/-- The invariant before point `n`: inside a head the query gradient and the corrections are what the points so far made. -/
def PhiS (c : Dev nD) (n : ℕ) (h : n ≤ cfg0.N) : sProp 𝕄G :=
  iprop((∃ X15 X16, ⌜n % 8 ≠ 0 → X15 = (carry m c n).1 ∧ X16 = (carry m c n).2⌝
      ∗ owns (c : Thread nD τ) (Memref.whole cc0_scratch0) fullShare X15 ∗ owns (c : Thread nD τ) (Memref.whole cc0_scratch1) fullShare X16)
    ∗ (∃ X17, owns (c : Thread nD τ) (Memref.whole cc0_scratch2) fullShare X17)
    ∗ (∃ X18, owns (c : Thread nD τ) (Memref.whole cc0_scratch3) fullShare X18) ∗ ∃ r, prngReg c r)

/-- The proof data: the inputs stay, the outputs are what the point's sweep leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outQ ((at_ m c t).final (t.val % 8)).dq (iblk m c 7 t) (iblk m c 8 t) (iblk m c 9 t)
    | ⟨11, _⟩ => outKV ((at_ m c t).final (t.val % 8)).dk ((at_ m c t).final (t.val % 8)).dv
    | ⟨12, _⟩ => outR ((at_ m c t).final (t.val % 8)).dk
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) :
    (dats m 0 c).after 10 t = outQ ((at_ m c t).final (t.val % 8)).dq (iblk m c 7 t) (iblk m c 8 t) (iblk m c 9 t) := by dsimp only [dats]
theorem after_11 (c : Dev nD) (t : Fin cfg0.N) :
    (dats m 0 c).after 11 t = outKV ((at_ m c t).final (t.val % 8)).dk ((at_ m c t).final (t.val % 8)).dv := by dsimp only [dats]
theorem after_12 (c : Dev nD) (t : Fin cfg0.N) : (dats m 0 c).after 12 t = outR ((at_ m c t).final (t.val % 8)).dk := by dsimp only [dats]

set_option maxHeartbeats 1600000 in
/-- A head's first point. -/
theorem sound_first (c : Dev nD) (t : Fin cfg0.N) (hb : t.val % 8 = 0) :
    (iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d))) : sProp 𝕄G)
      ⊢ wp frame (wpE (defs₀ (F := F)) Variants.none (c : Thread nD τ) none) Set.univ (bodyAt0 (F := F) t)
          (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ d, owns (c : Thread nD τ) (st0_10 t) fullShare ((dats m 0 c).before 10 t d)) ∗ owns (c : Thread nD τ) (st0_11 t) fullShare ((dats m 0 c).after 11 t) ∗ owns (c : Thread nD τ) (st0_12 t) fullShare ((dats m 0 c).after 12 t))) := by
  rw [show (dats m 0 c).owesAt () t.succ = (dats m 0 c).owesAt () t.castSucc from rfl,
    show (dats m 0 c).Φ t.succ = PhiS m c (t.val + 1) t.isLt from rfl, PhiS_castSucc]
  unfold PhiS
  rw [carry_succ]
  simp only [before_0, before_1, before_2, before_3, before_4, before_5, before_6, before_7, before_8, before_9, after_0, after_1, after_2, after_3, after_4, after_5, after_6, after_7, after_8, after_9, after_10, after_11, after_12]
  iintro ⟨⟨⟨%X15, %X16, %hX, HS15, HS16⟩, ⟨%X17, HS17⟩, ⟨%X18, HS18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r Idealize.ShloMosaic.frame (wpE (defs₀ (F := F)) Variants.none (c : Thread nD τ) none) Set.univ)
  isplitl [H0 H1 H2 H3 H4 H5 H6 H7 H8 H9 H10 H11 H12 HS15 HS16 HS17 HS18]
  · iapply (point_first Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _)
      (by rw [coord1]; exact hb) (at_ m c t) (iblk m c 7 t) (iblk m c 8 t) (iblk m c 9 t) ((dats m 0 c).before 10 t d10) ((dats m 0 c).before 11 t d11) ((dats m 0 c).before 12 t d12) X15 X16 X17 X18 )
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS15]; · iexact HS15
    isplitl [HS16]; · iexact HS16
    isplitl [HS17]; · iexact HS17
    iexact HS18
  rw [coord1]
  iintro %_ ⟨H0, H1, H2, H3, H4, H5, H6, H7, H8, H9, H10, H11, H12, HS15, HS16, HS17, HS18⟩
  isplitl [HS15 HS16 HS17 HS18 Hg]
  · isplitl [HS15 HS16]
    · iexists _, _
      isplitl []
      · ipureintro; exact fun _ => ⟨rfl, rfl⟩
      isplitl [HS15]; · iexact HS15
      iexact HS16
    isplitl [HS17]; · iexact HS17
    isplitl [HS18]; · iexact HS18
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists d10; iexact H10
  isplitl [H11]; · iexact H11
  iexact H12

set_option maxHeartbeats 1600000 in
/-- A middle point, even. -/
theorem sound_even (c : Dev nD) (t : Fin cfg0.N) (hb : t.val % 8 % 2 = 0) (hb0 : t.val % 8 ≠ 0) (hb7 : t.val % 8 < 7) :
    (iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d))) : sProp 𝕄G)
      ⊢ wp frame (wpE (defs₀ (F := F)) Variants.none (c : Thread nD τ) none) Set.univ (bodyAt0 (F := F) t)
          (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ d, owns (c : Thread nD τ) (st0_10 t) fullShare ((dats m 0 c).before 10 t d)) ∗ owns (c : Thread nD τ) (st0_11 t) fullShare ((dats m 0 c).after 11 t) ∗ owns (c : Thread nD τ) (st0_12 t) fullShare ((dats m 0 c).after 12 t))) := by
  rw [show (dats m 0 c).owesAt () t.succ = (dats m 0 c).owesAt () t.castSucc from rfl,
    show (dats m 0 c).Φ t.succ = PhiS m c (t.val + 1) t.isLt from rfl, PhiS_castSucc]
  unfold PhiS
  rw [carry_succ]
  simp only [before_0, before_1, before_2, before_3, before_4, before_5, before_6, before_7, before_8, before_9, after_0, after_1, after_2, after_3, after_4, after_5, after_6, after_7, after_8, after_9, after_10, after_11, after_12]
  iintro ⟨⟨⟨%X15, %X16, %hX, HS15, HS16⟩, ⟨%X17, HS17⟩, ⟨%X18, HS18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r Idealize.ShloMosaic.frame (wpE (defs₀ (F := F)) Variants.none (c : Thread nD τ) none) Set.univ)
  isplitl [H0 H1 H2 H3 H4 H5 H6 H7 H8 H9 H10 H11 H12 HS15 HS16 HS17 HS18]
  · iapply (point_even Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _)
      (by rw [coord1]; exact hb) (by rw [coord1]; exact hb0) (by rw [coord1]; exact hb7) (at_ m c t) (iblk m c 7 t) (iblk m c 8 t) (iblk m c 9 t) ((dats m 0 c).before 10 t d10) ((dats m 0 c).before 11 t d11) ((dats m 0 c).before 12 t d12) X15 X16 X17 X18 (hX hb0).1 (hX hb0).2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS15]; · iexact HS15
    isplitl [HS16]; · iexact HS16
    isplitl [HS17]; · iexact HS17
    iexact HS18
  rw [coord1]
  iintro %_ ⟨H0, H1, H2, H3, H4, H5, H6, H7, H8, H9, H10, H11, H12, HS15, HS16, HS17, HS18⟩
  isplitl [HS15 HS16 HS17 HS18 Hg]
  · isplitl [HS15 HS16]
    · iexists _, _
      isplitl []
      · ipureintro; exact fun _ => ⟨rfl, rfl⟩
      isplitl [HS15]; · iexact HS15
      iexact HS16
    isplitl [HS17]; · iexact HS17
    isplitl [HS18]; · iexact HS18
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists d10; iexact H10
  isplitl [H11]; · iexact H11
  iexact H12

set_option maxHeartbeats 1600000 in
/-- A middle point, odd. -/
theorem sound_odd (c : Dev nD) (t : Fin cfg0.N) (hb : t.val % 8 % 2 = 1) (hb7 : t.val % 8 < 7) :
    (iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d))) : sProp 𝕄G)
      ⊢ wp frame (wpE (defs₀ (F := F)) Variants.none (c : Thread nD τ) none) Set.univ (bodyAt0 (F := F) t)
          (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ d, owns (c : Thread nD τ) (st0_10 t) fullShare ((dats m 0 c).before 10 t d)) ∗ owns (c : Thread nD τ) (st0_11 t) fullShare ((dats m 0 c).after 11 t) ∗ owns (c : Thread nD τ) (st0_12 t) fullShare ((dats m 0 c).after 12 t))) := by
  rw [show (dats m 0 c).owesAt () t.succ = (dats m 0 c).owesAt () t.castSucc from rfl,
    show (dats m 0 c).Φ t.succ = PhiS m c (t.val + 1) t.isLt from rfl, PhiS_castSucc]
  unfold PhiS
  rw [carry_succ]
  simp only [before_0, before_1, before_2, before_3, before_4, before_5, before_6, before_7, before_8, before_9, after_0, after_1, after_2, after_3, after_4, after_5, after_6, after_7, after_8, after_9, after_10, after_11, after_12]
  iintro ⟨⟨⟨%X15, %X16, %hX, HS15, HS16⟩, ⟨%X17, HS17⟩, ⟨%X18, HS18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r Idealize.ShloMosaic.frame (wpE (defs₀ (F := F)) Variants.none (c : Thread nD τ) none) Set.univ)
  isplitl [H0 H1 H2 H3 H4 H5 H6 H7 H8 H9 H10 H11 H12 HS15 HS16 HS17 HS18]
  · iapply (point_odd Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _)
      (by rw [coord1]; exact hb) (by rw [coord1]; exact hb7) (at_ m c t) (iblk m c 7 t) (iblk m c 8 t) (iblk m c 9 t) ((dats m 0 c).before 10 t d10) ((dats m 0 c).before 11 t d11) ((dats m 0 c).before 12 t d12) X15 X16 X17 X18 (hX (by omega)).1 (hX (by omega)).2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS15]; · iexact HS15
    isplitl [HS16]; · iexact HS16
    isplitl [HS17]; · iexact HS17
    iexact HS18
  rw [coord1]
  iintro %_ ⟨H0, H1, H2, H3, H4, H5, H6, H7, H8, H9, H10, H11, H12, HS15, HS16, HS17, HS18⟩
  isplitl [HS15 HS16 HS17 HS18 Hg]
  · isplitl [HS15 HS16]
    · iexists _, _
      isplitl []
      · ipureintro; exact fun _ => ⟨rfl, rfl⟩
      isplitl [HS15]; · iexact HS15
      iexact HS16
    isplitl [HS17]; · iexact HS17
    isplitl [HS18]; · iexact HS18
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists d10; iexact H10
  isplitl [H11]; · iexact H11
  iexact H12

set_option maxHeartbeats 1600000 in
/-- A head's last point. -/
theorem sound_last (c : Dev nD) (t : Fin cfg0.N) (hb : t.val % 8 = 7) :
    (iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d))) : sProp 𝕄G)
      ⊢ wp frame (wpE (defs₀ (F := F)) Variants.none (c : Thread nD τ) none) Set.univ (bodyAt0 (F := F) t)
          (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t))) := by
  rw [show (dats m 0 c).owesAt () t.succ = (dats m 0 c).owesAt () t.castSucc from rfl,
    show (dats m 0 c).Φ t.succ = PhiS m c (t.val + 1) t.isLt from rfl, PhiS_castSucc]
  unfold PhiS
  rw [carry_succ]
  simp only [before_0, before_1, before_2, before_3, before_4, before_5, before_6, before_7, before_8, before_9, after_0, after_1, after_2, after_3, after_4, after_5, after_6, after_7, after_8, after_9, after_10, after_11, after_12]
  iintro ⟨⟨⟨%X15, %X16, %hX, HS15, HS16⟩, ⟨%X17, HS17⟩, ⟨%X18, HS18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r Idealize.ShloMosaic.frame (wpE (defs₀ (F := F)) Variants.none (c : Thread nD τ) none) Set.univ)
  isplitl [H0 H1 H2 H3 H4 H5 H6 H7 H8 H9 H10 H11 H12 HS15 HS16 HS17 HS18]
  · iapply (point_last Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _)
      (by rw [coord1]; exact hb) (at_ m c t) (iblk m c 7 t) (iblk m c 8 t) (iblk m c 9 t) ((dats m 0 c).before 10 t d10) ((dats m 0 c).before 11 t d11) ((dats m 0 c).before 12 t d12) X15 X16 X17 X18 (hX (by omega)).1 (hX (by omega)).2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS15]; · iexact HS15
    isplitl [HS16]; · iexact HS16
    isplitl [HS17]; · iexact HS17
    iexact HS18
  rw [coord1]
  iintro %_ ⟨H0, H1, H2, H3, H4, H5, H6, H7, H8, H9, H10, H11, H12, HS15, HS16, HS17, HS18⟩
  isplitl [HS15 HS16 HS17 HS18 Hg]
  · isplitl [HS15 HS16]
    · iexists _, _
      isplitl []
      · ipureintro; exact fun _ => ⟨rfl, rfl⟩
      isplitl [HS15]; · iexact HS15
      iexact HS16
    isplitl [HS17]; · iexact HS17
    isplitl [HS18]; · iexact HS18
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Bwd

end
-- ==== Proof.Run.lean ====
/- The run of the whole call: the body obligation at every point, and the two ends of the invariant. -/
module

public import proofs.«01_k».proof.Proof.Sound

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

theorem idle_of : ∀ t : Fin cfg0.N, cfg0.idle 10 (cfg0.grid.coords t) = !decide (t.val % 8 = 7) := by decide +kernel
theorem flush_of : ∀ t : Fin cfg0.N, (cfg0.win 10).flush t = decide (t.val % 8 = 7) := by decide +kernel

/-- The body table's row at point `t`'s slots is the body at the point. -/
theorem defs_row (t : Fin cfg0.N) : defs₀ (F := F) .tc cfg0.body (cfg0.bodyArgs t (cfg0.slots t)) = bodyAt0 (F := F) t := by
  unfold defs₀; rw [Defs.onTc_tc]

set_option maxHeartbeats 4000000 in
/-- The body obligation, at every point. -/
theorem body_obligation (c : Dev nD) : BodyObligation (dats m 0 c) (defs₀ (F := F)) Variants.none () Set.univ := fun t => by
  rw [bigSep_W0, bigSep_W0, defs_row]
  by_cases h7 : t.val % 8 = 7
  · rw [show cfg0.idle 10 (cfg0.grid.coords t) = false by rw [idle_of]; simp [h7]]
    exact triple_restated (sound_last m c t h7) rfl .rfl fun _ => .rfl
  · rw [show cfg0.idle 10 (cfg0.grid.coords t) = true by rw [idle_of]; simp [h7],
      show (cfg0.win 10).flush t = false by rw [flush_of]; simp [h7]]
    by_cases h0 : t.val % 8 = 0
    · exact triple_restated (sound_first m c t h0) rfl .rfl fun _ => .rfl
    · by_cases h2 : t.val % 8 % 2 = 0
      · exact triple_restated (sound_even m c t h2 h0 (by omega)) rfl .rfl fun _ => .rfl
      · exact triple_restated (sound_odd m c t (by omega) (by omega)) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl]
  unfold PhiS Pipeline.ΦA
  rw [scopedRest0_eq]
  simp only [owns_whole]
  iintro ⟨⟨⟨%f15, H15⟩, ⟨%f16, H16⟩, H17, H18⟩, Hg⟩
  isplitl [H15 H16]
  · iexists f15, f16
    isplitl []
    · ipureintro; exact fun h => absurd rfl h
    isplitl [H15]; · iexact H15
    iexact H16
  isplitl [H17]; · iexact H17
  isplitl [H18]; · iexact H18
  iexact Hg

/-- After the last point the invariant gives back what the launch takes. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  unfold PhiS Pipeline.ΦA
  rw [scopedRest0_eq]
  simp only [owns_whole]
  iintro ⟨⟨%f15, %f16, %_, H15, H16⟩, H17, H18, Hg⟩
  isplitl [H15 H16 H17 H18]
  · isplitl [H15]; · iexists f15; iexact H15
    isplitl [H16]; · iexists f16; iexact H16
    isplitl [H17]; · iexact H17
    iexact H18
  iexact Hg

/-- The run of the whole call: every array as the launch leaves it, every counter back at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)
    (Q' := fun r => Pipeline.FramePost cfgs (dats m) 0 (V m) r ∧ r.2.sem = fun _ => 0) (hQ' := fun _ h => h)

/-- The launch leaves the arguments as they were. -/
theorem args_kept (r) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c)))⟩

/-- The frame: the call runs to its end, its arguments kept and its counters back at zero. -/
theorem frame : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨args_kept m r h.1, h.2⟩) (run_main m ρ)

end Cert.KernelIdeal.Bwd

end
-- ==== Proof.Attention.lean ====
/- The causal attention of one head and its gradients as functions on real numbers, indexed by natural numbers: `i` is
   a query's row, `j` a key's row, `h` the head and `d` a column. -/
module

public import Idealize.ShloMosaic.Lib.Pointwise

@[expose] public section

noncomputable section

namespace Cert.Attention

open Finset

/-- The inputs: the queries before rotation, the keys and values of each head, the shared rotary key, the angles and
    the cotangent of the mixed output. -/
structure Data where
  a : ℕ → ℕ → ℕ → ℝ
  b : ℕ → ℕ → ℕ → ℝ
  r : ℕ → ℕ → ℝ
  w : ℕ → ℕ → ℝ
  g : ℕ → ℕ → ℝ

namespace Data

variable (x : Data)

/-- The rotated queries, 192 columns and zero from there on. -/
def qf (i h d : ℕ) : ℝ :=
  if d < 128 then x.a i h d
  else if d < 160 then x.a i h d * Real.cos (x.w i (d - 128)) - x.a i h (d + 32) * Real.sin (x.w i (d - 128))
  else if d < 192 then x.a i h d * Real.cos (x.w i (d - 160)) + x.a i h (d - 32) * Real.sin (x.w i (d - 160))
  else 0

/-- The keys: 128 columns of the head, then the 64 shared rotary columns, zero from there on. -/
def kf (j h d : ℕ) : ℝ := if d < 128 then x.b j h d else if d < 192 then x.r j (d - 128) else 0

/-- The values. -/
def v (j h d : ℕ) : ℝ := x.b j h (128 + d)

/-- The cotangent of the head's output. -/
def ct (i h d : ℕ) : ℝ := x.g i (1024 + 128 * h + d)

/-- The scores. -/
def S (h i j : ℕ) : ℝ := (∑ d ∈ range 192, x.qf i h d * x.kf j h d) * (√192)⁻¹

/-- A row's largest score. -/
def M (h i : ℕ) : ℝ :=
  (univ.fold max (⊥ : EReal) fun j : Fin 4096 => if (j : ℕ) ≤ i then (x.S h i j : EReal) else ⊥).toReal

/-- The shifted exponentials, zero beyond the diagonal. -/
def E (h i j : ℕ) : ℝ := if j ≤ i then Real.exp (x.S h i j - x.M h i) else 0

/-- A row's normalizer. -/
def D (h i : ℕ) : ℝ := ∑ j ∈ range 4096, x.E h i j

/-- The probabilities. -/
def P (h i j : ℕ) : ℝ := x.E h i j / x.D h i

/-- The output. -/
def o (i h d : ℕ) : ℝ := ∑ j ∈ range 4096, x.P h i j * x.v j h d

/-- A row's log-sum-exp in base 2. -/
def lse (h i : ℕ) : ℝ := (x.M h i + Real.log (x.D h i)) / Real.log 2

/-- The cotangent of the probabilities. -/
def dP (h i j : ℕ) : ℝ := ∑ d ∈ range 128, x.ct i h d * x.v j h d

/-- A row's correction. -/
def dl (h i : ℕ) : ℝ := ∑ d ∈ range 128, x.ct i h d * x.o i h d

/-- The cotangent of the scores. -/
def dS (h i j : ℕ) : ℝ := x.P h i j * (x.dP h i j - x.dl h i)

/-- The gradient of the values. -/
def dV (j h d : ℕ) : ℝ := ∑ i ∈ range 4096, x.P h i j * x.ct i h d

/-- The gradient of the keys. -/
def dK (j h d : ℕ) : ℝ := (∑ i ∈ range 4096, x.dS h i j * x.qf i h d) * (√192)⁻¹

/-- The gradient of the rotated queries. -/
def dQ (i h d : ℕ) : ℝ := (∑ j ∈ range 4096, x.dS h i j * x.kf j h d) * (√192)⁻¹

/-- The gradient of the queries. -/
def dA (i h d : ℕ) : ℝ :=
  if d < 128 then x.dQ i h d
  else if d < 160 then x.dQ i h d * Real.cos (x.w i (d - 128)) + x.dQ i h (d + 32) * Real.sin (x.w i (d - 128))
  else if d < 192 then x.dQ i h d * Real.cos (x.w i (d - 160)) - x.dQ i h (d - 32) * Real.sin (x.w i (d - 160))
  else 0

theorem kf_zero {j h d : ℕ} (hd : 192 ≤ d) : x.kf j h d = 0 := by
  unfold kf; rw [if_neg (by omega), if_neg (by omega)]

theorem qf_zero {i h d : ℕ} (hd : 192 ≤ d) : x.qf i h d = 0 := by
  unfold qf; rw [if_neg (by omega), if_neg (by omega), if_neg (by omega)]

theorem dQ_zero {i h d : ℕ} (hd : 192 ≤ d) : x.dQ i h d = 0 := by
  unfold dQ; simp [x.kf_zero hd]

theorem dK_zero {j h d : ℕ} (hd : 192 ≤ d) : x.dK j h d = 0 := by
  unfold dK; simp [x.qf_zero hd]

theorem E_zero {h i j : ℕ} (hj : i < j) : x.E h i j = 0 := if_neg (by omega)

theorem P_zero {h i j : ℕ} (hj : i < j) : x.P h i j = 0 := by unfold P; rw [x.E_zero hj, zero_div]

theorem dS_zero {h i j : ℕ} (hj : i < j) : x.dS h i j = 0 := by unfold dS; rw [x.P_zero hj, zero_mul]

theorem E_nonneg (h i j : ℕ) : 0 ≤ x.E h i j := by unfold E; split <;> positivity

theorem D_pos {h i : ℕ} (hi : i < 4096) : 0 < x.D h i := by
  refine sum_pos' (fun j _ => x.E_nonneg h i j) ⟨i, mem_range.mpr hi, ?_⟩
  unfold E; rw [if_pos le_rfl]; positivity

theorem D_ne {h i : ℕ} (hi : i < 4096) : x.D h i ≠ 0 := (x.D_pos hi).ne'

/-- The largest of finitely many scores, of which the row's own is one, is a real number. -/
theorem coe_M {h i : ℕ} (hi : i < 4096) :
    (univ.fold max (⊥ : EReal) fun j : Fin 4096 => if (j : ℕ) ≤ i then (x.S h i j : EReal) else ⊥) = (x.M h i : EReal) := by
  refine (EReal.coe_toReal ?_ ?_).symm
  · refine ne_of_lt ((fold_max_lt _).mpr ⟨bot_lt_top, fun j _ => ?_⟩)
    split
    · exact EReal.coe_lt_top _
    · exact bot_lt_top
  · refine ne_of_gt ((lt_fold_max _).mpr (Or.inr ⟨⟨i, hi⟩, mem_univ _, ?_⟩))
    rw [if_pos le_rfl]; exact EReal.bot_lt_coe _

/-- The base-2 form of a probability. -/
theorem P_exp2 {h i j : ℕ} (hi : i < 4096) (hj : j ≤ i) :
    Real.rpow 2 (x.S h i j / Real.log 2 - x.lse h i) = x.P h i j := by
  have h2 : Real.log 2 ≠ 0 := (Real.log_pos (by norm_num)).ne'
  unfold lse P E
  rw [if_pos hj, ← sub_div, show Real.rpow 2 _ = (2 : ℝ) ^ ((x.S h i j - (x.M h i + Real.log (x.D h i))) / Real.log 2) from rfl,
    Real.rpow_def_of_pos (by norm_num), mul_div_cancel₀ _ h2, ← sub_sub, Real.exp_sub, Real.exp_log (x.D_pos hi)]

/-- A row's correction is the sum of the probabilities against their cotangents. -/
theorem dl_eq (h i : ℕ) : x.dl h i = ∑ j ∈ range 4096, x.P h i j * x.dP h i j := by
  unfold dl o dP
  simp only [mul_sum]
  rw [sum_comm]
  exact sum_congr rfl fun j _ => sum_congr rfl fun d _ => by ring

end Data

end Cert.Attention

end
-- ==== Proof.Literals.lean ====
/- The printed literals of the two programs as real numbers, and the real forms of the operations on extended reals. -/
module

public import Idealize.ShloMosaic.Lib.Pointwise

@[expose] public section

noncomputable section

namespace Cert.Attention

open Idealize.ShloMosaic

theorem ofBits_192 : Ideal.ofBits .f32 0x43400000#32 = ((192 : ℝ) : EReal) := by
  simp [Ideal.ofBits, Ideal.ieee]; rw [← EReal.coe_mul]; norm_num

theorem ofBits_2 : Ideal.ofBits .f32 0x40000000#32 = ((2 : ℝ) : EReal) := by
  simp [Ideal.ofBits, Ideal.ieee]; rw [← EReal.coe_mul]; norm_num

theorem ofBits_64 : Ideal.ofBits .f32 0x42800000#32 = ((64 : ℝ) : EReal) := by
  simp [Ideal.ofBits, Ideal.ieee]; rw [← EReal.coe_mul]; norm_num

theorem ofBits_500000 : Ideal.ofBits .f32 0x48F42400#32 = ((500000 : ℝ) : EReal) := by
  simp [Ideal.ofBits, Ideal.ieee]; rw [← EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- A sum over `Fin n` of a real function of the value. -/
theorem sum_fin {n : ℕ} (f : ℕ → ℝ) : ∑ k : Fin n, ((f k : ℝ) : EReal) = ((∑ k ∈ Finset.range n, f k : ℝ) : EReal) := by
  rw [Finset.sum_range]
  exact (map_sum (⟨⟨fun r : ℝ => (r : EReal), rfl⟩, EReal.coe_add⟩ : ℝ →+ EReal) (fun k : Fin n => f k) Finset.univ).symm

/-- A sum over `Fin n` of real numbers. -/
theorem sum_coe {n : ℕ} (f : Fin n → ℝ) : ∑ k : Fin n, ((f k : ℝ) : EReal) = ((∑ k, f k : ℝ) : EReal) :=
  (map_sum (⟨⟨fun r : ℝ => (r : EReal), rfl⟩, EReal.coe_add⟩ : ℝ →+ EReal) f Finset.univ).symm

/-- Division by a real number that is not zero. -/
theorem div_real (a : ℝ) {b : ℝ} (hb : b ≠ 0) : Ideal.div (a : EReal) (b : EReal) = ((a / b : ℝ) : EReal) := by
  rw [Ideal.div_coe hb, ← EReal.coe_mul]; congr 1; ring

end Cert.Attention

end
-- ==== Proof.Finite.lean ====
/- What the precondition says: the arguments are the real numbers of a `Data`. -/
module

public import proofs.«01_k».proof.Proof.Attention
public import proofs.«01_k».proof.Proof.Literals
public import proofs.«01_k».proof.Pre_finite
public import Idealize.ShloMosaic.Lib.ReduceAll

@[expose] public section

noncomputable section

namespace Cert.Attention

open Idealize.ShloMosaic

/-- The argument arrays hold the numbers of `x`. -/
structure Holds (x : Data) (q : FVec Ideal ⟨3, ![4096, 8, 192]⟩ .f32) (kv : FVec Ideal ⟨3, ![4096, 8, 256]⟩ .f32)
    (kr : FVec Ideal ⟨2, ![4096, 64]⟩ .f32) (pos : IVec ⟨1, ![4096]⟩ 32) (dm : FVec Ideal ⟨2, ![4096, 2048]⟩ .f32) : Prop where
  q : ∀ (i : Fin 4096) (h : Fin 8) (d : Fin 192), q (ix3 i h d) = ((x.a i h d : ℝ) : EReal)
  kv : ∀ (j : Fin 4096) (h : Fin 8) (d : Fin 256), kv (ix3 j h d) = ((x.b j h d : ℝ) : EReal)
  kr : ∀ (j : Fin 4096) (d : Fin 64), kr (ix2 j d) = ((x.r j d : ℝ) : EReal)
  pos : ∀ (i : Fin 4096) (d : Fin 32), x.w i d = ((pos (ix1 i)).toInt : ℝ) * Real.rpow 500000 (-(2 * (d : ℕ) : ℝ) / 64)
  dm : ∀ (i : Fin 4096) (d : Fin 2048), dm (ix2 i d) = ((x.g i d : ℝ) : EReal)

/-- An angle as both programs compute it. -/
theorem Holds.angle_eq {x : Data} {q : FVec Ideal ⟨3, ![4096, 8, 192]⟩ .f32} {kv : FVec Ideal ⟨3, ![4096, 8, 256]⟩ .f32}
    {kr : FVec Ideal ⟨2, ![4096, 64]⟩ .f32} {pos : IVec ⟨1, ![4096]⟩ 32} {dm : FVec Ideal ⟨2, ![4096, 2048]⟩ .f32}
    (H : Holds x q kv kr pos dm) (i : Fin 4096) (d : Fin 32) :
    (FloatOps.sitofp (F := Ideal) FTy.f32 (pos (ix1 i)) : EReal) *
      Ideal.pow (Ideal.ofBits FTy.f32 0x48F42400#32)
        (Ideal.div (-(Ideal.ofBits FTy.f32 0x40000000#32 * (FloatOps.sitofp (F := Ideal) FTy.f32 (BitVec.ofNat 32 ↑d) : EReal)))
          (Ideal.ofBits FTy.f32 0x42800000#32)) = ((x.w i d : ℝ) : EReal) := by
  have hd : (BitVec.ofNat 32 (d : ℕ)).toInt = (d : ℕ) := by
    have := d.isLt
    rw [BitVec.toInt_eq_toNat_of_lt (by rw [BitVec.toNat_ofNat]; omega), BitVec.toNat_ofNat]; omega
  rw [show (FloatOps.sitofp (F := Ideal) FTy.f32 (pos (ix1 i)) : EReal) = (((pos (ix1 i)).toInt : ℝ) : EReal) from rfl,
    show (FloatOps.sitofp (F := Ideal) FTy.f32 (BitVec.ofNat 32 ↑d) : EReal) = (((BitVec.ofNat 32 ↑d).toInt : ℝ) : EReal) from rfl,
    hd, ofBits_500000, ofBits_2, ofBits_64, ← EReal.coe_mul, ← EReal.coe_neg, div_real _ (by norm_num), Ideal.pow_coe_coe,
    ← EReal.coe_mul, H.pos i d]
  norm_cast

/-- The causal mask's choice. -/
theorem select_le (i j : Fin 4096) (a b : EReal) :
    Scalar.select (IntOp.cmpi .sle (BitVec.ofNat 32 (j : ℕ)) (BitVec.ofNat 32 (i : ℕ))) a b = if (j : ℕ) ≤ i then a else b := by
  have e (k : Fin 4096) : (BitVec.ofNat 32 (k : ℕ)).toInt = (k : ℕ) := by
    have := k.isLt
    rw [BitVec.toInt_eq_toNat_of_lt (by rw [BitVec.toNat_ofNat]; omega), BitVec.toNat_ofNat]; omega
  unfold Scalar.select IntOp.cmpi
  simp only [BitVec.sle, e, Int.ofNat_le]
  by_cases h : (j : ℕ) ≤ i <;> simp [h]

/-- The shifted exponentials from the masked scores. -/
theorem Data.coe_E (x : Data) (h i j : ℕ) :
    Ideal.exp ((if j ≤ i then ((x.S h i j : ℝ) : EReal) else ⊥) - ((x.M h i : ℝ) : EReal)) = ((x.E h i j : ℝ) : EReal) := by
  unfold Data.E
  split
  · rw [← EReal.coe_sub, Ideal.exp_coe]
  · simp

/-- A number whose absolute value is below infinity is real. -/
theorem real_of_abs_lt (v : EReal) (h : FloatOps.cmpf (F := Ideal) .olt (FloatOps.hostAbsf v) (Ideal.ofBits .f32 0x7F800000#32 : Ideal .f32) = 1#1) :
    v = ((v.toReal : ℝ) : EReal) := by
  rw [ofBits_top] at h
  have h' : max v (-v) < ⊤ := by
    by_contra hn
    have : FloatOps.cmpf (F := Ideal) (φ := .f32) .olt (max v (-v) : EReal) (⊤ : EReal) = 0#1 := by
      simp [Ideal.cmpf_def, Ideal.cmp, hn]
    exact absurd (this.symm.trans h) (by decide)
  refine (EReal.coe_toReal ?_ ?_).symm
  · rintro rfl; simp at h'
  · rintro rfl; simp at h'

/-- The numbers of the argument arrays. -/
def dataOf (q : FVec Ideal ⟨3, ![4096, 8, 192]⟩ .f32) (kv : FVec Ideal ⟨3, ![4096, 8, 256]⟩ .f32)
    (kr : FVec Ideal ⟨2, ![4096, 64]⟩ .f32) (pos : IVec ⟨1, ![4096]⟩ 32) (dm : FVec Ideal ⟨2, ![4096, 2048]⟩ .f32) : Data where
  a i h d := if H : i < 4096 ∧ h < 8 ∧ d < 192 then EReal.toReal (q (ix3 ⟨i, H.1⟩ ⟨h, H.2.1⟩ ⟨d, H.2.2⟩)) else 0
  b j h d := if H : j < 4096 ∧ h < 8 ∧ d < 256 then EReal.toReal (kv (ix3 ⟨j, H.1⟩ ⟨h, H.2.1⟩ ⟨d, H.2.2⟩)) else 0
  r j d := if H : j < 4096 ∧ d < 64 then EReal.toReal (kr (ix2 ⟨j, H.1⟩ ⟨d, H.2⟩)) else 0
  w i d := if H : i < 4096 then ((pos (ix1 ⟨i, H⟩)).toInt : ℝ) * Real.rpow 500000 (-(2 * (d : ℕ) : ℝ) / 64) else 0
  g i d := if H : i < 4096 ∧ d < 2048 then EReal.toReal (dm (ix2 ⟨i, H.1⟩ ⟨d, H.2⟩)) else 0

/-- Where the precondition holds, the arguments are real. -/
theorem holds_of_finite [Cert.Pre_finite.Facts] (q : FVec Ideal ⟨3, ![4096, 8, 192]⟩ .f32) (kv : FVec Ideal ⟨3, ![4096, 8, 256]⟩ .f32)
    (kr : FVec Ideal ⟨2, ![4096, 64]⟩ .f32) (pos : IVec ⟨1, ![4096]⟩ 32) (dm : FVec Ideal ⟨2, ![4096, 2048]⟩ .f32)
    (h : Cert.Pre_finite.fn (F := Ideal) q kv kr pos dm = fun _ => 1#1) : Holds (dataOf q kv kr pos dm) q kv kr pos dm := by
  have h0 := congrFun h ix0
  dsimp only [Cert.Pre_finite.fn, Cert.Pre_finite.fn_part1] at h0
  obtain ⟨h123, h4⟩ := IntOp.andi_eq_one.1 h0
  obtain ⟨h12, h3⟩ := IntOp.andi_eq_one.1 h123
  obtain ⟨h1, h2⟩ := IntOp.andi_eq_one.1 h12
  haveI : Subsingleton Cert.Pre_finite.S_.Idx := ⟨fun a b => funext fun k => k.elim0⟩
  refine ⟨fun i h d => ?_, fun j h d => ?_, fun j d => ?_, fun i d => ?_, fun i d => ?_⟩
  · have e := Host.reduce_andi_all _ _ _ _ ix0 h1 (ix3 i h d)
    refine (real_of_abs_lt _ e).trans (congrArg _ ?_)
    simp [dataOf]
  · have e := Host.reduce_andi_all _ _ _ _ ix0 h2 (ix3 j h d)
    refine (real_of_abs_lt _ e).trans (congrArg _ ?_)
    simp [dataOf]
  · have e := Host.reduce_andi_all _ _ _ _ ix0 h3 (ix2 j d)
    refine (real_of_abs_lt _ e).trans (congrArg _ ?_)
    simp [dataOf]
  · simp [dataOf]
  · have e := Host.reduce_andi_all _ _ _ _ ix0 h4 (ix2 i d)
    refine (real_of_abs_lt _ e).trans (congrArg _ ?_)
    simp [dataOf]

end Cert.Attention

end
-- ==== Proof.StepReal.lean ====
/- One query block's step on arrays that hold real numbers: the probabilities, the score cotangents and the three
   products are those of the attention. -/
module

public import proofs.«01_k».proof.Proof.Step
public import proofs.«01_k».proof.Proof.Finite

@[expose] public section

set_option maxRecDepth 16384

noncomputable section

namespace Cert.Attention.Data

/-- The queries as the kernel is given them: scaled for a softmax in base 2. -/
def qs (x : Data) (i h d : ℕ) : ℝ := x.qf i h d / (√192 * Real.log 2)

/-- The scores in base 2. -/
theorem score_qs (x : Data) (i h j : ℕ) : ∑ d ∈ Finset.range 256, x.qs i h d * x.kf j h d = x.S h i j / Real.log 2 := by
  rw [show (256 : ℕ) = 192 + 64 from rfl, Finset.sum_range_add]
  rw [show (∑ d ∈ Finset.range 64, x.qs i h (192 + d) * x.kf j h (192 + d)) = 0 from
    Finset.sum_eq_zero fun d _ => by rw [x.kf_zero (by omega), mul_zero]]
  unfold qs S
  rw [add_zero, div_eq_mul_inv _ (Real.log 2), mul_assoc, ← mul_inv, Finset.sum_mul]
  exact Finset.sum_congr rfl fun d _ => by ring

end Cert.Attention.Data

namespace Cert.KernelIdeal.Bwd

open Idealize.ShloMosaic Cert.KernelIdeal.Gen Cert.Attention

/-- What the steps of key block `k` of head `h` read. -/
structure EnvHolds (x : Data) (h k : ℕ) (e : Env Ideal) : Prop where
  K : ∀ (r : Fin 512) (d : Fin 256), e.K (ix2 r d) = ((x.kf (512 * k + r) h d : ℝ) : EReal)
  V : ∀ (r : Fin 512) (d : Fin 128), e.V (ix2 r d) = ((x.v (512 * k + r) h d : ℝ) : EReal)
  Q : ∀ (i : Fin 4096) (d : Fin 256), e.Q (ix2 i d) = ((x.qs i h d : ℝ) : EReal)
  D : ∀ (i : Fin 4096) (d : Fin 128), e.D (ix2 i d) = ((x.ct i h d : ℝ) : EReal)
  L : ∀ (i : Fin 4096) (z : Fin 128), e.L (ix2 i z) = ((x.lse h i : ℝ) : EReal)
  C : ∀ (i : Fin 4096) (z : Fin 128), e.C (ix2 i z) = ((x.dl h i : ℝ) : EReal)

theorem rowsQ_apply {e : EltTy} (X : S4096x256.Idx → Elt Ideal e) (b : ℕ) (hb : b < 8) (r : Fin 512) (d : Fin 256) :
    rowsQ X b hb (ix2 r d) = X (ix2 ⟨512 * b + r, by omega⟩ d) := by
  unfold rowsQ VecWindow.window
  congr 1; funext a
  fin_cases a <;> apply Fin.ext <;> simp [ix2]

theorem rowsD_apply {e : EltTy} (X : S4096x128.Idx → Elt Ideal e) (b : ℕ) (hb : b < 8) (r : Fin 512) (d : Fin 128) :
    rowsD X b hb (ix2 r d) = X (ix2 ⟨512 * b + r, by omega⟩ d) := by
  unfold rowsD VecWindow.window
  congr 1; funext a
  fin_cases a <;> apply Fin.ext <;> simp [ix2]

theorem wide_apply (l : FVec Ideal S512x128 .f32) (v : EReal) (r : Fin 512) (hl : ∀ z : Fin 128, l (ix2 r z) = v) (s : Fin 512) :
    wide l (ix2 r s) = v := by
  pointwise [wide]
  split
  · exact hl _
  · split
    · exact hl _
    · split <;> exact hl _

/-- A sum of products of real numbers. -/
theorem sum_mul_coe {n : ℕ} (u v : Fin n → EReal) (f g : ℕ → ℝ) (hu : ∀ i, u i = ((f i : ℝ) : EReal)) (hv : ∀ i, v i = ((g i : ℝ) : EReal)) :
    ∑ i, u i * v i = ((∑ i ∈ Finset.range n, f i * g i : ℝ) : EReal) :=
  (Finset.sum_congr rfl fun i _ => (congrArg₂ (· * ·) (hu i) (hv i)).trans (EReal.coe_mul _ _).symm).trans (sum_fin fun i => f i * g i)

theorem named_scale : (Named.named (F := Ideal) (φ := .f32) κ "scale" 0x3D93CD3A#32 : EReal) = (((√192)⁻¹ : ℝ) : EReal) :=
  IdealRules.named_const.ideal_named_scalar _ _ _ _ rfl

theorem named_ln2 : (Named.named (F := Ideal) (φ := .f32) κ "ln2" 0x3F317218#32 : EReal) = ((Real.log 2 : ℝ) : EReal) :=
  IdealRules.named_const.ideal_named_scalar _ _ _ _ rfl

variable {x : Data} {h k : ℕ} {e : Env Ideal} (H : EnvHolds x h k e)

include H

theorem rows_q (b : ℕ) (hb : b < 8) (r : Fin 512) (d : Fin 256) :
    rowsQ (F := Ideal) (e := .bf16) e.Q b hb (ix2 r d) = ((x.qs (512 * b + r) h d : ℝ) : EReal) :=
  (rowsQ_apply _ b hb r d).trans (H.Q _ d)

theorem rows_d (b : ℕ) (hb : b < 8) (r : Fin 512) (d : Fin 128) :
    rowsD (F := Ideal) (e := .f32) e.D b hb (ix2 r d) = ((x.ct (512 * b + r) h d : ℝ) : EReal) :=
  (rowsD_apply _ b hb r d).trans (H.D _ d)

theorem score_apply (b : ℕ) (hb : b < 8) (r s : Fin 512) :
    score e.K (rowsQ (F := Ideal) (e := .bf16) e.Q b hb) (ix2 r s)
      = ((x.S h (512 * b + r) (512 * k + s) / Real.log 2 : ℝ) : EReal) := by
  unfold score
  pointwise
  rw [← x.score_qs]
  exact sum_mul_coe _ _ (fun d => x.qs (512 * b + r) h d) (fun d => x.kf (512 * k + s) h d) (rows_q H b hb r) (H.K s)

theorem probU_apply (b : ℕ) (hb : b < 8) (r s : Fin 512) :
    probU e.K (rowsQ (F := Ideal) (e := .bf16) e.Q b hb) (rowsD (F := Ideal) (e := .f32) e.L b hb) (ix2 r s)
      = ((Real.rpow 2 (x.S h (512 * b + r) (512 * k + s) / Real.log 2 - x.lse h (512 * b + r)) : ℝ) : EReal) := by
  have hw := wide_apply (rowsD (F := Ideal) (e := .f32) e.L b hb)
    ((x.lse h (512 * b + r) : ℝ) : EReal) r (fun z => by rw [rowsD_apply, H.L]) s
  unfold probU
  pointwise
  rw [hw, score_apply H, ← EReal.coe_sub]; rfl

/-- The probabilities of a query block at or after the key block; the mask is set exactly on the diagonal. -/
theorem p_apply (b : ℕ) (hb : b < 8) (hk : k ≤ b) (masked : Bool) (hm : masked = decide (b = k)) (r s : Fin 512) :
    e.p masked b hb (ix2 r s) = ((x.P h (512 * b + r) (512 * k + s) : ℝ) : EReal) := by
  unfold Env.p prob
  by_cases hbk : b = k
  · rw [hm, if_pos (by simpa using hbk)]
    unfold probM
    pointwise
    rw [probU_apply H]
    rw [select_le ⟨r, by omega⟩ ⟨s, by omega⟩]
    subst hbk
    by_cases hs : (s : ℕ) ≤ r
    · rw [if_pos hs, x.P_exp2 (by omega) (by omega)]
    · rw [if_neg hs, x.P_zero (by omega)]; rfl
  · rw [hm, if_neg (by simpa using hbk), probU_apply H, x.P_exp2 (by omega) (by omega)]

theorem ds_apply (b : ℕ) (hb : b < 8) (hk : k ≤ b) (masked : Bool) (hm : masked = decide (b = k)) (r s : Fin 512) :
    e.ds masked b hb (ix2 r s) = ((x.dS h (512 * b + r) (512 * k + s) : ℝ) : EReal) := by
  have hw := wide_apply (rowsD (F := Ideal) (e := .f32) e.C b hb)
    ((x.dl h (512 * b + r) : ℝ) : EReal) r (fun z => by rw [rowsD_apply, H.C]) s
  have hd : dprob e.V (rowsD (F := Ideal) (e := .f32) e.D b hb) (ix2 r s) = ((x.dP h (512 * b + r) (512 * k + s) : ℝ) : EReal) := by
    unfold dprob
    pointwise
    exact sum_mul_coe _ _ (fun d => x.ct (512 * b + r) h d) (fun d => x.v (512 * k + s) h d) (rows_d H b hb r) (H.V s)
  unfold Env.ds dscore
  pointwise
  rw [p_apply H b hb hk masked hm, hd, hw, ← EReal.coe_sub, ← EReal.coe_mul]; rfl

/-- What a step adds to the key gradient. -/
theorem stepK_apply (b : ℕ) (hb : b < 8) (hk : k ≤ b) (masked : Bool) (hm : masked = decide (b = k))
    (acc : FVec Ideal S512x256 .f32) (a : ℝ) (s : Fin 512) (d : Fin 256) (ha : acc (ix2 s d) = (a : EReal)) :
    stepK (rowsQ (F := Ideal) (e := .bf16) e.Q b hb) (e.ds masked b hb) acc (ix2 s d)
      = ((a + ∑ r ∈ Finset.range 512, x.dS h (512 * b + r) (512 * k + s) * x.qs (512 * b + r) h d : ℝ) : EReal) := by
  unfold stepK
  pointwise
  rw [ha, EReal.coe_add]
  exact congrArg _ (sum_mul_coe _ _ (fun r => x.dS h (512 * b + r) (512 * k + s)) (fun r => x.qs (512 * b + r) h d)
    (fun r => ds_apply H b hb hk masked hm r s) (fun r => rows_q H b hb r d))

/-- What a step adds to the value gradient. -/
theorem stepV_apply (b : ℕ) (hb : b < 8) (hk : k ≤ b) (masked : Bool) (hm : masked = decide (b = k))
    (acc : FVec Ideal S512x128 .f32) (a : ℝ) (s : Fin 512) (d : Fin 128) (ha : acc (ix2 s d) = (a : EReal)) :
    stepV (rowsD (F := Ideal) (e := .f32) e.D b hb) (e.p masked b hb) acc (ix2 s d)
      = ((a + ∑ r ∈ Finset.range 512, x.P h (512 * b + r) (512 * k + s) * x.ct (512 * b + r) h d : ℝ) : EReal) := by
  unfold stepV
  pointwise
  rw [ha, EReal.coe_add]
  exact congrArg _ (sum_mul_coe _ _ (fun r => x.P h (512 * b + r) (512 * k + s)) (fun r => x.ct (512 * b + r) h d)
    (fun r => p_apply H b hb hk masked hm r s) (fun r => rows_d H b hb r d))

/-- What a step adds to the query gradient of the block's rows. -/
theorem stepQ_apply (b : ℕ) (hb : b < 8) (hk : k ≤ b) (masked : Bool) (hm : masked = decide (b = k))
    (acc : FVec Ideal S512x256 .f32) (a : ℝ) (r : Fin 512) (d : Fin 256) (ha : acc (ix2 r d) = (a : EReal)) :
    stepQ e.K (e.ds masked b hb) acc (ix2 r d)
      = ((a + (∑ s ∈ Finset.range 512, x.dS h (512 * b + r) (512 * k + s) * x.kf (512 * k + s) h d) * (√192)⁻¹ : ℝ) : EReal) := by
  unfold stepQ
  pointwise
  simp only [ha, H.K, ds_apply H b hb hk masked hm, ← EReal.coe_mul]
  rw [sum_fin (fun s => x.dS h (512 * b + r) (512 * k + s) * x.kf (512 * k + s) h d)]
  rw [named_scale, ← EReal.coe_mul, ← EReal.coe_add]

end Cert.KernelIdeal.Bwd

end
-- ==== Proof.SweepReal.lean ====
/- A key block's sweep over the query blocks on arrays that hold real numbers: the key and value gradients are the sums
   over the query rows, and the query gradient gains the block's keys. -/
module

public import proofs.«01_k».proof.Proof.StepReal

@[expose] public section

set_option maxRecDepth 16384

noncomputable section

namespace Cert.Attention.Data

open Finset

variable (x : Data)

/-- The query gradient from the keys of the first `k` blocks. -/
def partQ (h k i d : ℕ) : ℝ := (∑ j ∈ range (512 * k), x.dS h i j * x.kf j h d) * (√192)⁻¹

/-- The key gradient in the kernel's scale from the query rows of the blocks from `k` to `k + n`. -/
def partK (h k n s d : ℕ) : ℝ := ∑ i ∈ Ico (512 * k) (512 * (k + n)), x.dS h i (512 * k + s) * x.qs i h d

/-- The value gradient from the query rows of the blocks from `k` to `k + n`. -/
def partV (h k n s d : ℕ) : ℝ := ∑ i ∈ Ico (512 * k) (512 * (k + n)), x.P h i (512 * k + s) * x.ct i h d

theorem partQ_succ (h k i d : ℕ) :
    x.partQ h (k + 1) i d = x.partQ h k i d + (∑ s ∈ range 512, x.dS h i (512 * k + s) * x.kf (512 * k + s) h d) * (√192)⁻¹ := by
  unfold partQ
  rw [show 512 * (k + 1) = 512 * k + 512 by ring, sum_range_add, add_mul]

theorem partQ_stop (h k i d : ℕ) (hi : i / 512 < k) : x.partQ h (k + 1) i d = x.partQ h k i d := by
  rw [x.partQ_succ, show (∑ s ∈ range 512, x.dS h i (512 * k + s) * x.kf (512 * k + s) h d) = 0 from
    sum_eq_zero fun s _ => by rw [x.dS_zero (by omega), zero_mul], zero_mul, add_zero]

theorem partQ_zero (h i d : ℕ) : x.partQ h 0 i d = 0 := by simp [partQ]

theorem partQ_all (h i d : ℕ) : x.partQ h 8 i d = x.dQ i h d := rfl

theorem ico_block (f : ℕ → ℝ) (k n : ℕ) :
    ∑ i ∈ Ico (512 * k) (512 * (k + (n + 1))), f i = ∑ i ∈ Ico (512 * k) (512 * (k + n)), f i + ∑ r ∈ range 512, f (512 * (k + n) + r) := by
  rw [← sum_Ico_consecutive f (show 512 * k ≤ 512 * (k + n) by omega) (show 512 * (k + n) ≤ 512 * (k + (n + 1)) by omega),
    sum_Ico_eq_sum_range f (512 * (k + n)), show 512 * (k + (n + 1)) - 512 * (k + n) = 512 by omega]

theorem ico_all (f : ℕ → ℝ) (k s : ℕ) (hk : k ≤ 8) (hf : ∀ i < 512 * k + s, f i = 0) :
    ∑ i ∈ Ico (512 * k) (512 * (k + (8 - k))), f i = ∑ i ∈ range 4096, f i := by
  have h0 : ∑ i ∈ range (512 * k), f i = 0 := sum_eq_zero fun i hi => hf i (by have := mem_range.1 hi; omega)
  rw [show 512 * (k + (8 - k)) = 4096 by omega, ← sum_range_add_sum_Ico f (show 512 * k ≤ 4096 by omega), h0, zero_add]

theorem partK_all (h k s d : ℕ) (hk : k ≤ 8) : x.partK h k (8 - k) s d * Real.log 2 = x.dK (512 * k + s) h d := by
  have h2 : Real.log 2 ≠ 0 := (Real.log_pos (by norm_num)).ne'
  unfold partK dK
  rw [ico_all _ k s hk fun i hi => by rw [x.dS_zero hi, zero_mul], sum_mul, sum_mul]
  refine sum_congr rfl fun i _ => ?_
  unfold qs
  field_simp

theorem partV_all (h k s d : ℕ) (hk : k ≤ 8) : x.partV h k (8 - k) s d = x.dV (512 * k + s) h d :=
  ico_all _ k s hk fun i hi => by rw [x.P_zero hi, zero_mul]

end Cert.Attention.Data

namespace Cert.KernelIdeal.Bwd

open Idealize.ShloMosaic Cert.KernelIdeal.Gen Cert.Attention

/-- What the accumulators hold after `n` query blocks of key block `k`. -/
structure StHolds (x : Data) (h k n : ℕ) (s : St Ideal) : Prop where
  dq : ∀ (i : Fin 4096) (d : Fin 256),
    s.dq (ix2 i d) = ((if (i : ℕ) / 512 < k + n then x.partQ h (k + 1) i d else x.partQ h k i d : ℝ) : EReal)
  dk : ∀ (j : Fin 512) (d : Fin 256), s.dk (ix2 j d) = ((x.partK h k n j d : ℝ) : EReal)
  dv : ∀ (j : Fin 512) (d : Fin 128), s.dv (ix2 j d) = ((x.partV h k n j d : ℝ) : EReal)

/-- Rows put over a row block, read at a row. -/
theorem put_rows (X : S4096x256.Idx → EReal) (w : S512x256.Idx → EReal) (b : ℕ) (hb : b < 8) (i : Fin 4096) (d : Fin 256) :
    VecWindow.put X ![512 * b, 0] S512x256.size w (ix2 i d)
      = if (i : ℕ) / 512 = b then w (ix2 ⟨i % 512, by omega⟩ d) else X (ix2 i d) := by
  unfold VecWindow.put
  by_cases hi : (i : ℕ) / 512 = b
  · have hc : ∀ a, (![512 * b, 0] : Fin 2 → ℕ) a ≤ (ix2 i d a).val ∧ (ix2 i d a).val < (![512 * b, 0] : Fin 2 → ℕ) a + S512x256.size a := by
      intro a; fin_cases a
      · show 512 * b ≤ (i : ℕ) ∧ (i : ℕ) < 512 * b + 512
        omega
      · show 0 ≤ (d : ℕ) ∧ (d : ℕ) < 0 + 256
        omega
    rw [dif_pos hc, if_pos hi]
    refine congrArg w (funext fun a => Fin.ext ?_)
    fin_cases a
    · show (i : ℕ) - 512 * b = (i : ℕ) % 512
      omega
    · show (d : ℕ) - 0 = (d : ℕ)
      omega
  · rw [if_neg hi, dif_neg]
    intro hc
    have h0 : 512 * b ≤ (i : ℕ) ∧ (i : ℕ) < 512 * b + 512 := hc 0
    omega

theorem step_holds {x : Data} {h k n : ℕ} {e : Env Ideal} (H : EnvHolds x h k e) (hb : k + n < 8) {s : St Ideal}
    (S : StHolds x h k n s) : StHolds x h k (n + 1) (e.step (decide (n = 0)) (k + n) hb s) := by
  have hm : decide (n = 0) = decide (k + n = k) := by simp
  refine ⟨fun i d => ?_, fun j d => ?_, fun j d => ?_⟩
  · refine (put_rows _ _ (k + n) hb i d).trans ?_
    by_cases hi : (i : ℕ) / 512 = k + n
    · rw [if_pos hi, if_pos (by omega), stepQ_apply H (k + n) hb (by omega) _ hm _ (x.partQ h k i d)]
      · have ei : 512 * (k + n) + (i : ℕ) % 512 = i := by omega
        simp only [ei]
        rw [x.partQ_succ]
      · rw [rowsQ_apply]
        have ei : (⟨512 * (k + n) + (i : ℕ) % 512, by omega⟩ : Fin 4096) = i := Fin.ext (by show 512 * (k + n) + (i : ℕ) % 512 = i; omega)
        refine (congrArg (fun z => s.dq (ix2 z d)) ei).trans ((S.dq i d).trans ?_)
        rw [if_neg (by omega)]
    · rw [if_neg hi, S.dq]
      congr 2
      simp only [eq_iff_iff]
      omega
  · refine (stepK_apply H (k + n) hb (by omega) _ hm _ _ j d (S.dk j d)).trans ?_
    unfold Data.partK
    rw [Data.ico_block]
  · refine (stepV_apply H (k + n) hb (by omega) _ hm _ _ j d (S.dv j d)).trans ?_
    unfold Data.partV
    rw [Data.ico_block]

theorem sweep_holds {x : Data} {h k : ℕ} {e : Env Ideal} (H : EnvHolds x h k e) {s : St Ideal} (S : StHolds x h k 0 s) :
    ∀ n, k + n ≤ 8 → StHolds x h k n (e.sweep k n s)
  | 0, _ => S
  | n + 1, hn => by
    rw [Env.sweep_succ e k n (by omega)]
    exact step_holds H (by omega) (sweep_holds H S n (by omega))

/-- The whole sweep of a key block. -/
theorem sweep_all {x : Data} {h k : ℕ} {e : Env Ideal} (H : EnvHolds x h k e) (hk : k < 8) {s : St Ideal} (S : StHolds x h k 0 s) :
    StHolds x h k (8 - k) (e.sweep k 8 s) := by
  have this := e.sweep_stand k (8 - k) (by omega) s k
  rw [show 8 - k + k = 8 by omega] at this
  rw [this]
  exact sweep_holds H S _ (by omega)

end Cert.KernelIdeal.Bwd

end
-- ==== Proof.HostVals.lean ====
/- What the kernel's host operations compute before the launch, one definition per operation, as functions of the
   arguments `x0` … `x3` (queries, keys and values, shared key, positions). -/
module

public import proofs.«01_k».proof.Proof.Gen.KernelIdeal.Frame

@[expose] public section

noncomputable section

namespace Cert.KernelIdeal.Bwd

open Idealize.ShloMosaic Cert.KernelIdeal.Gen

def at_v0 : FVec Ideal S32 .f32 :=
  sitofp .f32 (iotaInDim S32 32 0)

def at_cst : FVec Ideal S_ .f32 :=
  constant S_ .f32 0x40000000#32

def at_v1 : FVec Ideal S32 .f32 :=
  broadcastInDim S32 ![] bcast_S_S32 at_cst

def at_v2 : FVec Ideal S32 .f32 :=
  mulf at_v1 at_v0

def at_cst_0 : FVec Ideal S_ .f32 :=
  constant S_ .f32 0x00000000#32

def at_v3 : FVec Ideal S32 .f32 :=
  broadcastInDim S32 ![] bcast_S_S32 at_cst_0

def at_v4 : FVec Ideal S32 .f32 :=
  addf at_v3 at_v2

def at_v5 : FVec Ideal S32 .f32 :=
  Host.negf at_v4

def at_cst_1 : FVec Ideal S_ .f32 :=
  constant S_ .f32 0x42800000#32

def at_v6 : FVec Ideal S32 .f32 :=
  broadcastInDim S32 ![] bcast_S_S32 at_cst_1

def at_v7 : FVec Ideal S32 .f32 :=
  Host.divf at_v5 at_v6

def at_cst_2 : FVec Ideal S_ .f32 :=
  constant S_ .f32 0x48F42400#32

def at_v8 : FVec Ideal S32 .f32 :=
  broadcastInDim S32 ![] bcast_S_S32 at_cst_2

def at_v9 : FVec Ideal S32 .f32 :=
  Host.powf at_v8 at_v7

def at_v10 (x3 : IVec S4096 32) : FVec Ideal S4096 .f32 :=
  sitofp .f32 x3

def at_v11 (x3 : IVec S4096 32) : FVec Ideal S4096x1 .f32 :=
  broadcastInDim S4096x1 ![0] bcast_S4096_S4096x1_0 (at_v10 x3)

def at_v12 : FVec Ideal S1x32 .f32 :=
  broadcastInDim S1x32 ![1] bcast_S32_S1x32_1 at_v9

def at_v13 (x3 : IVec S4096 32) : FVec Ideal S4096x32 .f32 :=
  broadcastInDim S4096x32 ![0, 1] bcast_S4096x1_S4096x32_0_1 (at_v11 x3)

def at_v14 : FVec Ideal S4096x32 .f32 :=
  broadcastInDim S4096x32 ![0, 1] bcast_S1x32_S4096x32_0_1 at_v12

def at_v15 (x3 : IVec S4096 32) : FVec Ideal S4096x32 .f32 :=
  mulf (at_v13 x3) at_v14

def at_v16 (x3 : IVec S4096 32) : FVec Ideal S4096x32 .f32 :=
  Host.cos (at_v15 x3)

def at_v17 (x3 : IVec S4096 32) : FVec Ideal S4096x32 .f32 :=
  Host.sin (at_v15 x3)

def at_cst_3 : FVec Ideal S_ .f32 :=
  constant S_ .f32 0x3F800000#32

def at_v18 : FVec Ideal S4096x64 .f32 :=
  broadcastInDim S4096x64 ![] bcast_S_S4096x64 at_cst_3

def at_cst_4 : FVec Ideal S_ .f32 :=
  constant S_ .f32 0x00000000#32

def at_v19 : FVec Ideal S4096x32 .f32 :=
  broadcastInDim S4096x32 ![] bcast_S_S4096x32 at_cst_4

def at_cst_5 : FVec Ideal S_ .f32 :=
  constant S_ .f32 0x00000000#32

def at_v20 : FVec Ideal S4096x64 .f32 :=
  broadcastInDim S4096x64 ![] bcast_S_S4096x64 at_cst_5

def at_v21 (x3 : IVec S4096 32) : FVec Ideal S4096x128 .f32 :=
  concatenate S4096x128 1 [⟨S4096x32, (at_v16 x3)⟩, ⟨S4096x32, (at_v16 x3)⟩, ⟨S4096x64, at_v18⟩] concatenates_S4096x32_S4096x32_S4096x64_S4096x128_d1

def at_v22 (x3 : IVec S4096 32) : FVec Ideal S4096x32 .f32 :=
  Host.negf (at_v17 x3)

def at_v23 (x3 : IVec S4096 32) : FVec Ideal S4096x128 .f32 :=
  concatenate S4096x128 1 [⟨S4096x32, (at_v22 x3)⟩, ⟨S4096x32, at_v19⟩, ⟨S4096x64, at_v20⟩] concatenates_S4096x32_S4096x32_S4096x64_S4096x128_d1

def at_v24 (x3 : IVec S4096 32) : FVec Ideal S4096x128 .f32 :=
  concatenate S4096x128 1 [⟨S4096x32, at_v19⟩, ⟨S4096x32, (at_v17 x3)⟩, ⟨S4096x64, at_v20⟩] concatenates_S4096x32_S4096x32_S4096x64_S4096x128_d1

def at_v25 (x0 : FVec Ideal S4096x8x192 .f32) : FVec Ideal S4096x8x32 .f32 :=
  extractStridedSlice S4096x8x32 ![0, 0, 128] x0 slices_S4096x8x192_S4096x8x32_0_0_128

def at_v26 (x0 : FVec Ideal S4096x8x192 .f32) : FVec Ideal S4096x8x32 .f32 :=
  extractStridedSlice S4096x8x32 ![0, 0, 160] x0 slices_S4096x8x192_S4096x8x32_0_0_160

def at_v27 (x3 : IVec S4096 32) : FVec Ideal S4096x1x32 .f32 :=
  broadcastInDim S4096x1x32 ![0, 2] bcast_S4096x32_S4096x1x32_0_2 (at_v16 x3)

def at_v28 (x3 : IVec S4096 32) : FVec Ideal S4096x1x32 .f32 :=
  broadcastInDim S4096x1x32 ![0, 2] bcast_S4096x32_S4096x1x32_0_2 (at_v17 x3)

def at_v29 (x0 : FVec Ideal S4096x8x192 .f32) : FVec Ideal S4096x8x128 .f32 :=
  extractStridedSlice S4096x8x128 ![0, 0, 0] x0 slices_S4096x8x192_S4096x8x128_0_0_0

def at_v30 (x3 : IVec S4096 32) : FVec Ideal S4096x8x32 .f32 :=
  broadcastInDim S4096x8x32 ![0, 1, 2] bcast_S4096x1x32_S4096x8x32_0_1_2 (at_v27 x3)

def at_v31 (x0 : FVec Ideal S4096x8x192 .f32) (x3 : IVec S4096 32) : FVec Ideal S4096x8x32 .f32 :=
  mulf (at_v25 x0) (at_v30 x3)

def at_v32 (x3 : IVec S4096 32) : FVec Ideal S4096x8x32 .f32 :=
  broadcastInDim S4096x8x32 ![0, 1, 2] bcast_S4096x1x32_S4096x8x32_0_1_2 (at_v28 x3)

def at_v33 (x0 : FVec Ideal S4096x8x192 .f32) (x3 : IVec S4096 32) : FVec Ideal S4096x8x32 .f32 :=
  mulf (at_v26 x0) (at_v32 x3)

def at_v34 (x0 : FVec Ideal S4096x8x192 .f32) (x3 : IVec S4096 32) : FVec Ideal S4096x8x32 .f32 :=
  subf (at_v31 x0 x3) (at_v33 x0 x3)

def at_v35 (x3 : IVec S4096 32) : FVec Ideal S4096x8x32 .f32 :=
  broadcastInDim S4096x8x32 ![0, 1, 2] bcast_S4096x1x32_S4096x8x32_0_1_2 (at_v27 x3)

def at_v36 (x0 : FVec Ideal S4096x8x192 .f32) (x3 : IVec S4096 32) : FVec Ideal S4096x8x32 .f32 :=
  mulf (at_v26 x0) (at_v35 x3)

def at_v37 (x3 : IVec S4096 32) : FVec Ideal S4096x8x32 .f32 :=
  broadcastInDim S4096x8x32 ![0, 1, 2] bcast_S4096x1x32_S4096x8x32_0_1_2 (at_v28 x3)

def at_v38 (x0 : FVec Ideal S4096x8x192 .f32) (x3 : IVec S4096 32) : FVec Ideal S4096x8x32 .f32 :=
  mulf (at_v25 x0) (at_v37 x3)

def at_v39 (x0 : FVec Ideal S4096x8x192 .f32) (x3 : IVec S4096 32) : FVec Ideal S4096x8x32 .f32 :=
  addf (at_v36 x0 x3) (at_v38 x0 x3)

def at_v40 (x0 : FVec Ideal S4096x8x192 .f32) (x3 : IVec S4096 32) : FVec Ideal S4096x8x192 .f32 :=
  concatenate S4096x8x192 2 [⟨S4096x8x128, (at_v29 x0)⟩, ⟨S4096x8x32, (at_v34 x0 x3)⟩, ⟨S4096x8x32, (at_v39 x0 x3)⟩] concatenates_S4096x8x128_S4096x8x32_S4096x8x32_S4096x8x192_d2

def at_v41 (x1 : FVec Ideal S4096x8x256 .f32) : FVec Ideal S4096x8x128 .f32 :=
  extractStridedSlice S4096x8x128 ![0, 0, 0] x1 slices_S4096x8x256_S4096x8x128_0_0_0

def at_v42 (x2 : FVec Ideal S4096x64 .f32) : FVec Ideal S4096x1x64 .f32 :=
  broadcastInDim S4096x1x64 ![0, 2] bcast_S4096x64_S4096x1x64_0_2 x2

def at_v43 (x2 : FVec Ideal S4096x64 .f32) : FVec Ideal S4096x8x64 .f32 :=
  broadcastInDim S4096x8x64 ![0, 1, 2] bcast_S4096x1x64_S4096x8x64_0_1_2 (at_v42 x2)

def at_v44 (x1 : FVec Ideal S4096x8x256 .f32) (x2 : FVec Ideal S4096x64 .f32) : FVec Ideal S4096x8x192 .f32 :=
  concatenate S4096x8x192 2 [⟨S4096x8x128, (at_v41 x1)⟩, ⟨S4096x8x64, (at_v43 x2)⟩] concatenates_S4096x8x128_S4096x8x64_S4096x8x192_d2

def at_v45 (x0 : FVec Ideal S4096x8x192 .f32) (x1 : FVec Ideal S4096x8x256 .f32) (x2 : FVec Ideal S4096x64 .f32) (x3 : IVec S4096 32) : FVec Ideal S8x4096x4096 .f32 :=
  Host.dotGeneral dot_S4096x8x192_S4096x8x192_S8x4096x4096_2_2_0_0_1_1 none (at_v40 x0 x3) (at_v44 x1 x2)

def at_cst_6 : FVec Ideal S_ .f32 :=
  constant S_ .f32 0x43400000#32

def at_v46 : FVec Ideal S_ .f32 :=
  Host.sqrt at_cst_6

def at_v47 : FVec Ideal S8x4096x4096 .f32 :=
  broadcastInDim S8x4096x4096 ![] bcast_S_S8x4096x4096 at_v46

def at_v48 (x0 : FVec Ideal S4096x8x192 .f32) (x1 : FVec Ideal S4096x8x256 .f32) (x2 : FVec Ideal S4096x64 .f32) (x3 : IVec S4096 32) : FVec Ideal S8x4096x4096 .f32 :=
  Host.divf (at_v45 x0 x1 x2 x3) at_v47

def at_v49 : IVec S4096 32 :=
  iotaInDim S4096 32 0

def at_v50 : IVec S1x4096 32 :=
  broadcastInDim S1x4096 ![1] bcast_S4096_S1x4096_1 at_v49

def at_v51 : IVec S4096x1 32 :=
  broadcastInDim S4096x1 ![0] bcast_S4096_S4096x1_0 at_v49

def at_v52 : IVec S4096x4096 32 :=
  broadcastInDim S4096x4096 ![0, 1] bcast_S1x4096_S4096x4096_0_1 at_v50

def at_v53 : IVec S4096x4096 32 :=
  broadcastInDim S4096x4096 ![0, 1] bcast_S4096x1_S4096x4096_0_1 at_v51

def at_v54 : IVec S4096x4096 1 :=
  cmpi .sle at_v52 at_v53

def at_v55 : IVec S1x4096x4096 1 :=
  broadcastInDim S1x4096x4096 ![1, 2] bcast_S4096x4096_S1x4096x4096_1_2 at_v54

def at_cst_7 : FVec Ideal S_ .f32 :=
  constant S_ .f32 0xFF800000#32

def at_call0_v0 : FVec Ideal S_ .f32 :=
  at_cst_7

def at_call0_v1 : IVec S8x4096x4096 1 :=
  (broadcastInDim S8x4096x4096 ![0, 1, 2] bcast_S1x4096x4096_S8x4096x4096_0_1_2) at_v55

def at_call0_v2 : FVec Ideal S8x4096x4096 .f32 :=
  (broadcastInDim S8x4096x4096 ![] bcast_S_S8x4096x4096) at_call0_v0

def at_v56 (x0 : FVec Ideal S4096x8x192 .f32) (x1 : FVec Ideal S4096x8x256 .f32) (x2 : FVec Ideal S4096x64 .f32) (x3 : IVec S4096 32) : FVec Ideal S8x4096x4096 .f32 :=
  select at_call0_v1 (at_v48 x0 x1 x2 x3) at_call0_v2

def at_cst_8 : FVec Ideal S_ .f32 :=
  constant S_ .f32 0xFF800000#32

def at_v57 (x0 : FVec Ideal S4096x8x192 .f32) (x1 : FVec Ideal S4096x8x256 .f32) (x2 : FVec Ideal S4096x64 .f32) (x3 : IVec S4096 32) : FVec Ideal S8x4096 .f32 :=
  Host.reduce FloatOps.maximumf (at_v56 x0 x1 x2 x3) at_cst_8 reducesTo_S8x4096x4096_S8x4096_d2 h_S_

def at_v58 (x0 : FVec Ideal S4096x8x192 .f32) (x1 : FVec Ideal S4096x8x256 .f32) (x2 : FVec Ideal S4096x64 .f32) (x3 : IVec S4096 32) : FVec Ideal S8x4096x1 .f32 :=
  broadcastInDim S8x4096x1 ![0, 1] bcast_S8x4096_S8x4096x1_0_1 (at_v57 x0 x1 x2 x3)

def at_v59 (x0 : FVec Ideal S4096x8x192 .f32) (x1 : FVec Ideal S4096x8x256 .f32) (x2 : FVec Ideal S4096x64 .f32) (x3 : IVec S4096 32) : FVec Ideal S8x4096x4096 .f32 :=
  broadcastInDim S8x4096x4096 ![0, 1, 2] bcast_S8x4096x1_S8x4096x4096_0_1_2 (at_v58 x0 x1 x2 x3)

def at_v60 (x0 : FVec Ideal S4096x8x192 .f32) (x1 : FVec Ideal S4096x8x256 .f32) (x2 : FVec Ideal S4096x64 .f32) (x3 : IVec S4096 32) : FVec Ideal S8x4096x4096 .f32 :=
  subf (at_v56 x0 x1 x2 x3) (at_v59 x0 x1 x2 x3)

def at_v61 (x0 : FVec Ideal S4096x8x192 .f32) (x1 : FVec Ideal S4096x8x256 .f32) (x2 : FVec Ideal S4096x64 .f32) (x3 : IVec S4096 32) : FVec Ideal S8x4096x4096 .f32 :=
  Host.exp (at_v60 x0 x1 x2 x3)

def at_cst_9 : FVec Ideal S_ .f32 :=
  constant S_ .f32 0x00000000#32

def at_v62 (x0 : FVec Ideal S4096x8x192 .f32) (x1 : FVec Ideal S4096x8x256 .f32) (x2 : FVec Ideal S4096x64 .f32) (x3 : IVec S4096 32) : FVec Ideal S8x4096 .f32 :=
  Host.reduceAdd (at_v61 x0 x1 x2 x3) at_cst_9 reducesTo_S8x4096x4096_S8x4096_d2 h_S_

def at_v63 (x0 : FVec Ideal S4096x8x192 .f32) (x1 : FVec Ideal S4096x8x256 .f32) (x2 : FVec Ideal S4096x64 .f32) (x3 : IVec S4096 32) : FVec Ideal S8x4096x1 .f32 :=
  broadcastInDim S8x4096x1 ![0, 1] bcast_S8x4096_S8x4096x1_0_1 (at_v62 x0 x1 x2 x3)

def at_v64 (x0 : FVec Ideal S4096x8x192 .f32) (x1 : FVec Ideal S4096x8x256 .f32) (x2 : FVec Ideal S4096x64 .f32) (x3 : IVec S4096 32) : FVec Ideal S8x4096x4096 .f32 :=
  broadcastInDim S8x4096x4096 ![0, 1, 2] bcast_S8x4096x1_S8x4096x4096_0_1_2 (at_v63 x0 x1 x2 x3)

def at_v65 (x0 : FVec Ideal S4096x8x192 .f32) (x1 : FVec Ideal S4096x8x256 .f32) (x2 : FVec Ideal S4096x64 .f32) (x3 : IVec S4096 32) : FVec Ideal S8x4096x4096 .f32 :=
  Host.divf (at_v61 x0 x1 x2 x3) (at_v64 x0 x1 x2 x3)

def at_v66 (x1 : FVec Ideal S4096x8x256 .f32) : FVec Ideal S4096x8x128 .f32 :=
  extractStridedSlice S4096x8x128 ![0, 0, 128] x1 slices_S4096x8x256_S4096x8x128_0_0_128

def at_v67 (x0 : FVec Ideal S4096x8x192 .f32) (x1 : FVec Ideal S4096x8x256 .f32) (x2 : FVec Ideal S4096x64 .f32) (x3 : IVec S4096 32) : FVec Ideal S8x128x4096 .f32 :=
  Host.dotGeneral dot_S4096x8x128_S8x4096x4096_S8x128x4096_0_2_2_1_1_0 none (at_v66 x1) (at_v65 x0 x1 x2 x3)

def at_v68 (x0 : FVec Ideal S4096x8x192 .f32) (x1 : FVec Ideal S4096x8x256 .f32) (x2 : FVec Ideal S4096x64 .f32) (x3 : IVec S4096 32) : FVec Ideal S4096x8x128 .f32 :=
  transpose S4096x8x128 [2, 0, 1] (at_v67 x0 x1 x2 x3) transposes_S8x128x4096_S4096x8x128_2_0_1

def at_v69 (x0 : FVec Ideal S4096x8x192 .f32) (x1 : FVec Ideal S4096x8x256 .f32) (x2 : FVec Ideal S4096x64 .f32) (x3 : IVec S4096 32) : FVec Ideal S4096x1024 .f32 :=
  shapeCast S4096x1024 (at_v68 x0 x1 x2 x3) shapeCasts_S4096x8x128_S4096x1024

def at_v70 (x0 : FVec Ideal S4096x8x192 .f32) (x1 : FVec Ideal S4096x8x256 .f32) (x2 : FVec Ideal S4096x64 .f32) (x3 : IVec S4096 32) : FVec Ideal S8x4096x1 .f32 :=
  Host.log (at_v63 x0 x1 x2 x3)

def at_v71 (x0 : FVec Ideal S4096x8x192 .f32) (x1 : FVec Ideal S4096x8x256 .f32) (x2 : FVec Ideal S4096x64 .f32) (x3 : IVec S4096 32) : FVec Ideal S8x4096x1 .f32 :=
  addf (at_v58 x0 x1 x2 x3) (at_v70 x0 x1 x2 x3)

def at_cst_10 : FVec Ideal S_ .f32 :=
  constant S_ .f32 0x40000000#32

def at_v72 : FVec Ideal S_ .f32 :=
  Host.log at_cst_10

def at_v73 : FVec Ideal S8x4096x1 .f32 :=
  broadcastInDim S8x4096x1 ![] bcast_S_S8x4096x1 at_v72

def at_v74 (x0 : FVec Ideal S4096x8x192 .f32) (x1 : FVec Ideal S4096x8x256 .f32) (x2 : FVec Ideal S4096x64 .f32) (x3 : IVec S4096 32) : FVec Ideal S8x4096x1 .f32 :=
  Host.divf (at_v71 x0 x1 x2 x3) at_v73

def at_v75 (x0 : FVec Ideal S4096x8x192 .f32) (x1 : FVec Ideal S4096x8x256 .f32) (x2 : FVec Ideal S4096x64 .f32) (x3 : IVec S4096 32) : FVec Ideal S4096x8x1 .f32 :=
  transpose S4096x8x1 [1, 0, 2] (at_v74 x0 x1 x2 x3) transposes_S8x4096x1_S4096x8x1_1_0_2

def at_v76 (x0 : FVec Ideal S4096x8x192 .f32) (x1 : FVec Ideal S4096x8x256 .f32) (x2 : FVec Ideal S4096x64 .f32) (x3 : IVec S4096 32) : FVec Ideal S4096x8x128 .f32 :=
  broadcastInDim S4096x8x128 ![0, 1, 2] bcast_S4096x8x1_S4096x8x128_0_1_2 (at_v75 x0 x1 x2 x3)

def at_v77 (x0 : FVec Ideal S4096x8x192 .f32) (x1 : FVec Ideal S4096x8x256 .f32) (x2 : FVec Ideal S4096x64 .f32) (x3 : IVec S4096 32) : FVec Ideal S4096x1024 .f32 :=
  shapeCast S4096x1024 (at_v76 x0 x1 x2 x3) shapeCasts_S4096x8x128_S4096x1024

def at_cst_11 : FVec Ideal S_ .f32 :=
  constant S_ .f32 0x00000000#32

def at_v78 : FVec Ideal S4096x1024 .f32 :=
  broadcastInDim S4096x1024 ![] bcast_S_S4096x1024 at_cst_11

def at_v79 (x0 : FVec Ideal S4096x8x192 .f32) (x1 : FVec Ideal S4096x8x256 .f32) (x2 : FVec Ideal S4096x64 .f32) (x3 : IVec S4096 32) : FVec Ideal S4096x2048 .f32 :=
  concatenate S4096x2048 1 [⟨S4096x1024, at_v78⟩, ⟨S4096x1024, (at_v69 x0 x1 x2 x3)⟩] concatenates_S4096x1024_S4096x1024_S4096x2048_d1

def at_v80 (x0 : FVec Ideal S4096x8x192 .f32) (x1 : FVec Ideal S4096x8x256 .f32) (x2 : FVec Ideal S4096x64 .f32) (x3 : IVec S4096 32) : FVec Ideal S4096x2048 .bf16 :=
  truncf .bf16 (at_v79 x0 x1 x2 x3) bitsLt_bf16_f32

def at_cst_12 : FVec Ideal S_ .f32 :=
  constant S_ .f32 0x43400000#32

def at_v81 : FVec Ideal S_ .f32 :=
  Host.sqrt at_cst_12

def at_cst_13 : FVec Ideal S_ .f32 :=
  constant S_ .f32 0x40000000#32

def at_v82 : FVec Ideal S_ .f32 :=
  Host.log at_cst_13

def at_v83 : FVec Ideal S_ .f32 :=
  mulf at_v81 at_v82

def at_v84 : FVec Ideal S4096x8x192 .f32 :=
  broadcastInDim S4096x8x192 ![] bcast_S_S4096x8x192 at_v83

def at_v85 (x0 : FVec Ideal S4096x8x192 .f32) (x3 : IVec S4096 32) : FVec Ideal S4096x8x192 .f32 :=
  Host.divf (at_v40 x0 x3) at_v84

def at_cst_14 : FVec Ideal S_ .f32 :=
  constant S_ .f32 0x00000000#32

def at_v86 : FVec Ideal S4096x8x64 .f32 :=
  broadcastInDim S4096x8x64 ![] bcast_S_S4096x8x64 at_cst_14

def at_v87 (x0 : FVec Ideal S4096x8x192 .f32) (x3 : IVec S4096 32) : FVec Ideal S4096x8x256 .f32 :=
  concatenate S4096x8x256 2 [⟨S4096x8x192, (at_v85 x0 x3)⟩, ⟨S4096x8x64, at_v86⟩] concatenates_S4096x8x192_S4096x8x64_S4096x8x256_d2

def at_v88 (x0 : FVec Ideal S4096x8x192 .f32) (x3 : IVec S4096 32) : FVec Ideal S4096x2048 .f32 :=
  shapeCast S4096x2048 (at_v87 x0 x3) shapeCasts_S4096x8x256_S4096x2048

def at_v89 (x0 : FVec Ideal S4096x8x192 .f32) (x3 : IVec S4096 32) : FVec Ideal S4096x2048 .bf16 :=
  truncf .bf16 (at_v88 x0 x3) bitsLt_bf16_f32

def at_v90 (x2 : FVec Ideal S4096x64 .f32) : FVec Ideal S4096x128 .f32 :=
  concatenate S4096x128 1 [⟨S4096x64, x2⟩, ⟨S4096x64, at_v20⟩] concatenates_S4096x64_S4096x64_S4096x128_d1

def at_v91 (x2 : FVec Ideal S4096x64 .f32) : FVec Ideal S4096x128 .bf16 :=
  truncf .bf16 (at_v90 x2) bitsLt_bf16_f32

def at_v92 (x1 : FVec Ideal S4096x8x256 .f32) : FVec Ideal S4096x2048 .f32 :=
  shapeCast S4096x2048 x1 shapeCasts_S4096x8x256_S4096x2048

def at_v93 (x1 : FVec Ideal S4096x8x256 .f32) : FVec Ideal S4096x2048 .bf16 :=
  truncf .bf16 (at_v92 x1) bitsLt_bf16_f32

end Cert.KernelIdeal.Bwd

end
-- ==== Proof.HostReads.lean ====
/- The arrays the host has written when the launch starts are those of the definitions. -/
module

public import proofs.«01_k».proof.Proof.HostVals
public import Idealize.ShloMosaic.Lib.StableHlo.RunRead
public import Idealize.ShloMosaic.Lib.Claim

@[expose] public section

set_option maxRecDepth 100000

noncomputable section

namespace Cert.KernelIdeal.Bwd

open Idealize.ShloMosaic Idealize.ShloMosaic.TcCoe Cert.KernelIdeal.Gen

variable (m : (ℓ : Loc nD τ sig) → Buf (Elt Ideal) ℓ)

set_option maxHeartbeats 2000000 in
theorem read_v21 (c : Dev nD) : V m c main_v21 = at_v21 (m ((c : Thread nD τ).loc main_arg3)) := by
  unfold_abbrev_sides
  after_reads_simp
  rfl

set_option maxHeartbeats 2000000 in
theorem read_v23 (c : Dev nD) : V m c main_v23 = at_v23 (m ((c : Thread nD τ).loc main_arg3)) := by
  unfold_abbrev_sides
  after_reads_simp
  rfl

set_option maxHeartbeats 2000000 in
theorem read_v24 (c : Dev nD) : V m c main_v24 = at_v24 (m ((c : Thread nD τ).loc main_arg3)) := by
  unfold_abbrev_sides
  after_reads_simp
  rfl

set_option maxHeartbeats 2000000 in
theorem read_v77 (c : Dev nD) : V m c main_v77 = at_v77 (m ((c : Thread nD τ).loc main_arg0)) (m ((c : Thread nD τ).loc main_arg1)) (m ((c : Thread nD τ).loc main_arg2)) (m ((c : Thread nD τ).loc main_arg3)) := by
  unfold_abbrev_sides
  after_reads_simp
  rfl

set_option maxHeartbeats 2000000 in
theorem upto_v78 (c : Dev nD) : StableHlo.upto (List.flatten [hostOps0, hostOps0_1, hostOps0_2]) (fun b => m (c, b)) 95 (Proc.devRef .tc main_v78) = at_v78 := by
  after_reads_simp
  rfl

set_option maxHeartbeats 2000000 in
theorem upto_v69 (c : Dev nD) : StableHlo.upto (List.flatten [hostOps0, hostOps0_1, hostOps0_2]) (fun b => m (c, b)) 95 (Proc.devRef .tc main_v69)
    = at_v69 (m ((c : Thread nD τ).loc main_arg0)) (m ((c : Thread nD τ).loc main_arg1)) (m ((c : Thread nD τ).loc main_arg2)) (m ((c : Thread nD τ).loc main_arg3)) := by
  after_reads_simp
  rfl

set_option maxHeartbeats 2000000 in
theorem read_v80 (c : Dev nD) : V m c main_v80 = at_v80 (m ((c : Thread nD τ).loc main_arg0)) (m ((c : Thread nD τ).loc main_arg1)) (m ((c : Thread nD τ).loc main_arg2)) (m ((c : Thread nD τ).loc main_arg3)) := by
  unfold_abbrev_sides
  after_reads_simp
  rw [upto_v78, upto_v69]
  rfl

set_option maxHeartbeats 2000000 in
theorem read_v89 (c : Dev nD) : V m c main_v89 = at_v89 (m ((c : Thread nD τ).loc main_arg0)) (m ((c : Thread nD τ).loc main_arg3)) := by
  unfold_abbrev_sides
  after_reads_simp
  rfl

set_option maxHeartbeats 2000000 in
theorem read_v91 (c : Dev nD) : V m c main_v91 = at_v91 (m ((c : Thread nD τ).loc main_arg2)) := by
  unfold_abbrev_sides
  after_reads_simp
  rfl

set_option maxHeartbeats 2000000 in
theorem read_v93 (c : Dev nD) : V m c main_v93 = at_v93 (m ((c : Thread nD τ).loc main_arg1)) := by
  unfold_abbrev_sides
  after_reads_simp
  rfl

end Cert.KernelIdeal.Bwd

end
-- ==== Proof.HostReal.lean ====
/- What the kernel's host operations compute, read at an index: the rotated and scaled queries, the softmax's
   probabilities and log-sum-exps, the outputs and the rotary tables are real numbers of the attention. -/
module

public import proofs.«01_k».proof.Proof.HostVals
public import proofs.«01_k».proof.Proof.StepReal

@[expose] public section

set_option maxRecDepth 16384

noncomputable section

namespace Cert.Attention.Data

/-- The rotary tables: the cosines of both halves and ones, the negated sines of the first half, the sines of the second. -/
def tabC (x : Data) (i d : ℕ) : ℝ := if d < 32 then Real.cos (x.w i d) else if d < 64 then Real.cos (x.w i (d - 32)) else 1

def tabA (x : Data) (i d : ℕ) : ℝ := if d < 32 then -Real.sin (x.w i d) else 0

def tabB (x : Data) (i d : ℕ) : ℝ := if d < 32 then 0 else if d < 64 then Real.sin (x.w i (d - 32)) else 0

end Cert.Attention.Data

namespace Cert.KernelIdeal.Bwd

open Idealize.ShloMosaic Cert.KernelIdeal.Gen Cert.Attention

theorem log_pos (a : ℝ) (ha : 0 < a) : Ideal.log (a : EReal) = ((Real.log a : ℝ) : EReal) := by
  show (if a ≤ 0 then (⊥ : EReal) else _) = _
  rw [if_neg (not_le.2 ha)]

theorem host_scale (z : S_.Idx) : at_v83 z = ((√192 * Real.log 2 : ℝ) : EReal) := by
  show Ideal.sqrt (Ideal.ofBits FTy.f32 0x43400000#32) * Ideal.log (Ideal.ofBits FTy.f32 0x40000000#32) = _
  rw [ofBits_192, ofBits_2, Ideal.sqrt_coe, if_neg (by norm_num), log_pos 2 (by norm_num), ← EReal.coe_mul]

theorem host_ln2 (z : S8x4096x1.Idx) : at_v73 z = ((Real.log 2 : ℝ) : EReal) := by
  show Ideal.log (Ideal.ofBits FTy.f32 0x40000000#32) = _
  rw [ofBits_2, log_pos 2 (by norm_num)]

variable {x : Data} {x0 : FVec Ideal S4096x8x192 .f32} {x1 : FVec Ideal S4096x8x256 .f32} {x2 : FVec Ideal S4096x64 .f32}
  {x3 : IVec S4096 32} {x4 : FVec Ideal S4096x2048 .f32} (H : Holds x x0 x1 x2 x3 x4)

include H

theorem host_angle (i : Fin 4096) (d : Fin 32) : at_v15 x3 (ix2 i d) = ((x.w i d : ℝ) : EReal) := by
  pointwise [at_v15, at_v14, at_v13, at_v12, at_v11, at_v10, at_v9, at_v8, at_v7, at_v6, at_v5, at_v4, at_v3, at_v2, at_v1, at_v0,
    at_cst, at_cst_0, at_cst_1, at_cst_2]
  exact H.angle_eq i d

theorem host_cos (i : Fin 4096) (d : Fin 128) : at_v21 x3 (ix2 i d) = ((x.tabC i d : ℝ) : EReal) := by
  pointwise [at_v21, at_v16, at_v18, at_cst_3]
  simp only [host_angle H, Ideal.cos_coe, Ideal.ofBits_one_f32]
  unfold Data.tabC
  split
  · rfl
  · split
    · rw [if_pos (by omega)]
    · rw [if_neg (by omega)]; rfl

theorem host_sinA (i : Fin 4096) (d : Fin 128) : at_v23 x3 (ix2 i d) = ((x.tabA i d : ℝ) : EReal) := by
  pointwise [at_v23, at_v22, at_v17, at_v19, at_v20, at_cst_4, at_cst_5]
  simp only [host_angle H, Ideal.sin_coe]
  unfold Data.tabA
  split
  · rfl
  · split <;> simp [Ideal.ofBits_zero_f32]

theorem host_sinB (i : Fin 4096) (d : Fin 128) : at_v24 x3 (ix2 i d) = ((x.tabB i d : ℝ) : EReal) := by
  pointwise [at_v24, at_v17, at_v19, at_v20, at_cst_4, at_cst_5]
  simp only [host_angle H, Ideal.sin_coe]
  unfold Data.tabB
  split
  · simp [Ideal.ofBits_zero_f32]
  · split
    · rw [if_pos (by omega)]
    · rw [if_neg (by omega)]; simp [Ideal.ofBits_zero_f32]

theorem host_query (i : Fin 4096) (h : Fin 8) (d : Fin 192) : at_v40 x0 x3 (ix3 i h d) = ((x.qf i h d : ℝ) : EReal) := by
  pointwise [at_v40, at_v39, at_v38, at_v37, at_v36, at_v35, at_v34, at_v33, at_v32, at_v31, at_v30, at_v29, at_v28, at_v27, at_v26,
    at_v25, at_v17, at_v16]
  simp only [host_angle H, H.q, Ideal.cos_coe, Ideal.sin_coe, ← EReal.coe_mul, ← EReal.coe_sub, ← EReal.coe_add]
  unfold Data.qf
  rw [if_pos d.isLt]
  split
  · rfl
  · split
    · rw [if_pos (by omega), show 128 + (↑d - 128) = (d : ℕ) by omega, show 160 + (↑d - 128) = (d : ℕ) + 32 by omega]
    · rw [if_neg (by omega), show 160 + (↑d - 128 - 32) = (d : ℕ) by omega,
        show 128 + (↑d - 128 - 32) = (d : ℕ) - 32 by omega, show (d : ℕ) - 128 - 32 = d - 160 by omega]

theorem host_key (j : Fin 4096) (h : Fin 8) (d : Fin 192) : at_v44 x1 x2 (ix3 j h d) = ((x.kf j h d : ℝ) : EReal) := by
  pointwise [at_v44, at_v43, at_v42, at_v41]
  simp only [H.kv, H.kr]
  unfold Data.kf
  rw [if_pos d.isLt]
  split <;> rfl

theorem host_score (h : Fin 8) (i j : Fin 4096) : at_v56 x0 x1 x2 x3 (ix3 h i j)
    = if (j : ℕ) ≤ i then ((x.S h i j : ℝ) : EReal) else ⊥ := by
  pointwise [at_v56, at_call0_v2, at_call0_v1, at_call0_v0, at_cst_7, at_v55, at_v54, at_v53, at_v52, at_v51, at_v50, at_v49, at_v48,
    at_v47, at_v46, at_cst_6, at_v45]
  simp only [host_query H, host_key H, ← EReal.coe_mul, sum_fin, ofBits_bot, ofBits_192, Ideal.sqrt_coe]
  rw [select_le i j, if_neg (show ¬ (192 : ℝ) < 0 by norm_num), sum_fin (fun d => x.qf i h d * x.kf j h d), div_real _ (by positivity)]
  show (if _ then _ else Ideal.ofBits .f32 0xFF800000#32) = _
  rw [ofBits_bot]; rfl

theorem host_top (h : Fin 8) (i : Fin 4096) : at_v57 x0 x1 x2 x3 (ix2 h i) = ((x.M h i : ℝ) : EReal) := by
  pointwise [at_v57, at_cst_8]
  simp only [host_score H, ofBits_bot]
  exact x.coe_M i.isLt

theorem host_exp (h : Fin 8) (i j : Fin 4096) : at_v61 x0 x1 x2 x3 (ix3 h i j) = ((x.E h i j : ℝ) : EReal) := by
  pointwise [at_v61, at_v60, at_v59, at_v58]
  rw [host_score H, host_top H]
  exact x.coe_E h i j

theorem host_norm (h : Fin 8) (i : Fin 4096) (z : Fin 1) : at_v63 x0 x1 x2 x3 (ix3 h i z) = ((x.D h i : ℝ) : EReal) := by
  pointwise [at_v63, at_v62, at_cst_9]
  simp only [host_exp H, sum_fin]
  rfl

theorem host_prob (h : Fin 8) (i j : Fin 4096) : at_v65 x0 x1 x2 x3 (ix3 h i j) = ((x.P h i j : ℝ) : EReal) := by
  pointwise [at_v65, at_v64]
  simp only [host_exp H, host_norm H]
  rw [div_real _ (x.D_ne i.isLt)]; rfl

theorem host_o (i : Fin 4096) (h : Fin 8) (d : Fin 128) : at_v68 x0 x1 x2 x3 (ix3 i h d) = ((x.o i h d : ℝ) : EReal) := by
  pointwise [at_v68, at_v67, at_v66]
  simp only [host_prob H, H.kv, ← EReal.coe_mul]
  rw [sum_fin (fun j => x.b j h (128 + d) * x.P h i j)]
  exact congrArg _ (Finset.sum_congr rfl fun j _ => mul_comm _ _)

end Cert.KernelIdeal.Bwd

end
-- ==== Proof.HostRows.lean ====
/- The kernel's host arrays at the launch, row by row: scaled queries, outputs, log-sum-exps, keys and values. -/
module

public import proofs.«01_k».proof.Proof.HostReal

@[expose] public section

set_option maxRecDepth 16384

noncomputable section

namespace Cert.KernelIdeal.Bwd

open Idealize.ShloMosaic Cert.KernelIdeal.Gen Cert.Attention

theorem div_add_apply (A B C : FVec Ideal S8x4096x1 .f32) (j : S8x4096x1.Idx) :
    Host.divf (addf A B) C j = Ideal.div ((A j : EReal) + (B j : EReal)) (C j) := rfl

variable {x : Data} {x0 : FVec Ideal S4096x8x192 .f32} {x1 : FVec Ideal S4096x8x256 .f32} {x2 : FVec Ideal S4096x64 .f32}
  {x3 : IVec S4096 32} {x4 : FVec Ideal S4096x2048 .f32} (H : Holds x x0 x1 x2 x3 x4)

include H

theorem host_log (h : Fin 8) (i : Fin 4096) (z : Fin 1) : at_v70 x0 x1 x2 x3 (ix3 h i z) = ((Real.log (x.D h i) : ℝ) : EReal) :=
  (congrArg Ideal.log (host_norm H h i z)).trans (log_pos _ (x.D_pos i.isLt))

theorem host_lse2 (h : Fin 8) (i : Fin 4096) (z : Fin 1) : at_v74 x0 x1 x2 x3 (ix3 h i z) = ((x.lse h i : ℝ) : EReal) := by
  have ht : at_v58 x0 x1 x2 x3 (ix3 h i z) = ((x.M h i : ℝ) : EReal) := by
    pointwise [at_v58]
    exact host_top H h i
  refine (div_add_apply (at_v58 x0 x1 x2 x3) (at_v70 x0 x1 x2 x3) at_v73 (ix3 h i z)).trans ?_
  rw [ht, host_log H, host_ln2, ← EReal.coe_add]
  exact div_real _ (Real.log_pos one_lt_two).ne'

theorem host_out (i : Fin 4096) (e : Fin 2048) : at_v80 x0 x1 x2 x3 (ix2 i e)
    = if (e : ℕ) < 1024 then 0 else ((x.o i ((e - 1024) / 128) ((e - 1024) % 128) : ℝ) : EReal) := by
  pointwise [at_v80, at_v79, at_v78, at_cst_11, at_v69]
  split
  · rfl
  · have hd := host_o H i ⟨((e : ℕ) - 1024) / 128, by omega⟩ ⟨((e : ℕ) - 1024) % 128, by omega⟩
    exact hd

theorem host_lse (i : Fin 4096) (e : Fin 1024) : at_v77 x0 x1 x2 x3 (ix2 i e) = ((x.lse (e / 128) i : ℝ) : EReal) := by
  pointwise [at_v77, at_v76, at_v75]
  have hd := host_lse2 H ⟨(e : ℕ) / 128, by omega⟩ i 0
  exact hd

theorem host_scaled (i : Fin 4096) (h : Fin 8) (d : Fin 192) : at_v85 x0 x3 (ix3 i h d) = ((x.qs i h d : ℝ) : EReal) :=
  (congrArg₂ Ideal.div (host_query H i h d) (host_scale _)).trans
    (div_real (x.qf i h d) (mul_ne_zero (Real.sqrt_ne_zero'.2 (by norm_num)) (Real.log_pos one_lt_two).ne'))

theorem host_qs (i : Fin 4096) (e : Fin 2048) : at_v89 x0 x3 (ix2 i e) = ((x.qs i (e / 256) (e % 256) : ℝ) : EReal) := by
  pointwise [at_v89, at_v88, at_v87, at_v86, at_cst_14]
  split
  · exact host_scaled H i ⟨(e : ℕ) / 256, by omega⟩ ⟨(e : ℕ) % 256, by omega⟩
  · unfold Data.qs
    rw [x.qf_zero (by omega), zero_div]; rfl

theorem host_kr (j : Fin 4096) (d : Fin 128) : at_v91 x2 (ix2 j d) = ((if (d : ℕ) < 64 then x.r j d else 0 : ℝ) : EReal) := by
  pointwise [at_v91, at_v90, at_v20, at_cst_5]
  simp only [H.kr]
  split <;> simp [Ideal.ofBits_zero_f32]

theorem host_kv (j : Fin 4096) (e : Fin 2048) : at_v93 x1 (ix2 j e) = ((x.b j (e / 256) (e % 256) : ℝ) : EReal) := by
  pointwise [at_v93, at_v92]
  exact H.kv j ⟨(e : ℕ) / 256, by omega⟩ ⟨(e : ℕ) % 256, by omega⟩

end Cert.KernelIdeal.Bwd

end
-- ==== Proof.Blocks.lean ====
/- The blocks a point reads, as places of the arrays. -/
module

public import proofs.«01_k».proof.Proof.Sound
public import proofs.«01_k».proof.Proof.SweepReal
public import proofs.«01_k».proof.Proof.HostReads
public import proofs.«01_k».proof.Proof.HostRows
public import Idealize.ShloMosaic.Lib.Pipeline.ValueKit

@[expose] public section

set_option maxRecDepth 16384

noncomputable section

namespace Cert.KernelIdeal.Bwd

open Idealize.ShloMosaic Idealize.ShloMosaic.TcCoe Cert.KernelIdeal.Gen Cert.Attention

/-- The windows' blocks: of the head `t / 8` and the key block `t % 8`. -/
theorem idx : ∀ t : Fin cfg0.N, t.val / 8 < 8 ∧ win0_0.index t = ![0, t.val / 8] ∧ win0_1.index t = ![t.val % 8, 2 * (t.val / 8)]
    ∧ win0_2.index t = ![t.val % 8, 0] ∧ win0_3.index t = ![t.val % 8, 2 * (t.val / 8) + 1] ∧ win0_4.index t = ![0, 8 + t.val / 8]
    ∧ win0_5.index t = ![0, 8 + t.val / 8] ∧ win0_6.index t = ![0, t.val / 8] ∧ win0_7.index t = ![0, 0] ∧ win0_8.index t = ![0, 0]
    ∧ win0_9.index t = ![0, 0] ∧ win0_10.index t = ![0, t.val / 8] ∧ win0_11.index t = ![t.val % 8, t.val / 8]
    ∧ win0_12.index t = ![t.val % 8, t.val / 8] :=
  (by decide +kernel : ∀ t : Fin grid0.N, _)

variable (m : (ℓ : Loc nD τ sig) → Buf (Elt Ideal) ℓ) (c : Dev nD) (t : Fin cfg0.N)

theorem head_lt : t.val / 8 < 8 := (idx t).1

theorem blk_q (i : Fin 4096) (d : Fin 256) : (iblk m c 0 t : S4096x256.Idx → Elt Ideal .bf16) (ix2 i d)
    = (V m c main_v89 : S4096x2048.Idx → Elt Ideal .bf16) (ix2 i ⟨256 * (t.val / 8) + d, by have := head_lt t; omega⟩) := by
  blk_ext [iblk, idx t]

theorem blk_kn (r : Fin 512) (d : Fin 128) : (iblk m c 1 t : S512x128.Idx → Elt Ideal .bf16) (ix2 r d)
    = (V m c main_v93 : S4096x2048.Idx → Elt Ideal .bf16)
        (ix2 ⟨512 * (t.val % 8) + r, by omega⟩ ⟨256 * (t.val / 8) + d, by have := head_lt t; omega⟩) := by
  blk_ext [iblk, idx t]

theorem blk_kr (r : Fin 512) (d : Fin 128) : (iblk m c 2 t : S512x128.Idx → Elt Ideal .bf16) (ix2 r d)
    = (V m c main_v91 : S4096x128.Idx → Elt Ideal .bf16) (ix2 ⟨512 * (t.val % 8) + r, by omega⟩ d) := by
  blk_ext [iblk, idx t]

theorem blk_v (r : Fin 512) (d : Fin 128) : (iblk m c 3 t : S512x128.Idx → Elt Ideal .bf16) (ix2 r d)
    = (V m c main_v93 : S4096x2048.Idx → Elt Ideal .bf16)
        (ix2 ⟨512 * (t.val % 8) + r, by omega⟩ ⟨256 * (t.val / 8) + (128 + d), by have := head_lt t; omega⟩) := by
  blk_ext [iblk, idx t]

theorem blk_do (i : Fin 4096) (d : Fin 128) : (iblk m c 4 t : S4096x128.Idx → Elt Ideal .f32) (ix2 i d)
    = (V m c main_arg4 : S4096x2048.Idx → Elt Ideal .f32) (ix2 i ⟨1024 + 128 * (t.val / 8) + d, by have := head_lt t; omega⟩) := by
  blk_ext [iblk, idx t]

theorem blk_o (i : Fin 4096) (d : Fin 128) : (iblk m c 5 t : S4096x128.Idx → Elt Ideal .bf16) (ix2 i d)
    = (V m c main_v80 : S4096x2048.Idx → Elt Ideal .bf16) (ix2 i ⟨1024 + 128 * (t.val / 8) + d, by have := head_lt t; omega⟩) := by
  blk_ext [iblk, idx t]

theorem blk_lse (i : Fin 4096) (d : Fin 128) : (iblk m c 6 t : S4096x128.Idx → Elt Ideal .f32) (ix2 i d)
    = (V m c main_v77 : S4096x1024.Idx → Elt Ideal .f32) (ix2 i ⟨128 * (t.val / 8) + d, by have := head_lt t; omega⟩) := by
  blk_ext [iblk, idx t]

theorem blk_c (i : Fin 4096) (d : Fin 128) : (iblk m c 7 t : S4096x128.Idx → Elt Ideal .f32) (ix2 i d)
    = (V m c main_v21 : S4096x128.Idx → Elt Ideal .f32) (ix2 i d) := by
  blk_ext [iblk, idx t]

theorem blk_a (i : Fin 4096) (d : Fin 128) : (iblk m c 8 t : S4096x128.Idx → Elt Ideal .f32) (ix2 i d)
    = (V m c main_v23 : S4096x128.Idx → Elt Ideal .f32) (ix2 i d) := by
  blk_ext [iblk, idx t]

theorem blk_b (i : Fin 4096) (d : Fin 128) : (iblk m c 9 t : S4096x128.Idx → Elt Ideal .f32) (ix2 i d)
    = (V m c main_v24 : S4096x128.Idx → Elt Ideal .f32) (ix2 i d) := by
  blk_ext [iblk, idx t]

end Cert.KernelIdeal.Bwd

end
-- ==== Proof.PointReal.lean ====
/- What a point's sweep works from and what it starts with, as real numbers of the attention; so every point's
   accumulators after the sweep are the attention's gradients. -/
module

public import proofs.«01_k».proof.Proof.Blocks

@[expose] public section

set_option maxRecDepth 16384

noncomputable section

namespace Cert.KernelIdeal.Bwd

open Idealize.ShloMosaic Idealize.ShloMosaic.TcCoe Cert.KernelIdeal.Gen Cert.Attention

/-- The keys of a block: the head's columns, then the shared ones. -/
theorem keys_apply (kn kr : FVec Ideal S512x128 .bf16) (r : Fin 512) (d : Fin 256) :
    k0_pay66 kn kr (ix2 r d) = if h : (d : ℕ) < 128 then kn (ix2 r ⟨d, h⟩) else kr (ix2 r ⟨(d : ℕ) - 128, by omega⟩) := by
  pointwise [k0_pay66]

theorem values_apply (v : FVec Ideal S512x128 .bf16) (r : Fin 512) (d : Fin 128) : k0_pay67 v (ix2 r d) = v (ix2 r d) := by
  pointwise [k0_pay67]

/-- A row's correction. -/
theorem corr_apply (D : FVec Ideal S4096x128 .f32) (O : FVec Ideal S4096x128 .bf16) (f g : ℕ → ℝ) (i : Fin 4096) (z : Fin 128)
    (hD : ∀ d : Fin 128, D (ix2 i d) = ((f d : ℝ) : EReal)) (hO : ∀ d : Fin 128, O (ix2 i d) = ((g d : ℝ) : EReal)) :
    corr (F := Ideal) D O (ix2 i z) = ((∑ d ∈ Finset.range 128, f d * g d : ℝ) : EReal) := by
  have hi : (⟨512 * ((i : ℕ) / 512) + (i : ℕ) % 512, by omega⟩ : Fin 4096) = i := Fin.ext (by show 512 * ((i : ℕ) / 512) + (i : ℕ) % 512 = i; omega)
  have hb : (i : ℕ) / 512 < 8 := by omega
  show k0_pay64 (rowsD (F := Ideal) (e := .f32) D ((i : ℕ) / 512) hb) (rowsD (F := Ideal) (e := .bf16) O ((i : ℕ) / 512) hb)
    (ix2 (⟨(i : ℕ) % 512, Nat.mod_lt _ (by decide)⟩ : Fin 512) z) = _
  pointwise [k0_pay64]
  refine sum_mul_coe _ _ f g (fun d => ?_) (fun d => ?_)
  · rw [rowsD_apply, ← hD d]
    exact congrArg (fun z => D (ix2 z d)) hi
  · rw [rowsD_apply, ← hO d]
    exact congrArg (fun z => O (ix2 z d)) hi

/-- A found state's sweep environment holds the attention's numbers when its arrays do. -/
theorem env_of {x : Data} {h k : ℕ} (f : Found Ideal)
    (hK : ∀ (r : Fin 512) (d : Fin 256), k0_pay66 f.KN f.KR (ix2 r d) = ((x.kf (512 * k + r) h d : ℝ) : EReal))
    (hV : ∀ (r : Fin 512) (d : Fin 128), k0_pay67 f.V (ix2 r d) = ((x.v (512 * k + r) h d : ℝ) : EReal))
    (hQ : ∀ (i : Fin 4096) (d : Fin 256), f.Q (ix2 i d) = ((x.qs i h d : ℝ) : EReal))
    (hD : ∀ (i : Fin 4096) (d : Fin 128), f.D (ix2 i d) = ((x.ct i h d : ℝ) : EReal))
    (hL : ∀ (i : Fin 4096) (z : Fin 128), f.L (ix2 i z) = ((x.lse h i : ℝ) : EReal))
    (hC : ∀ (i : Fin 4096) (z : Fin 128), corr (F := Ideal) f.D f.O (ix2 i z) = ((x.dl h i : ℝ) : EReal))
    (hc : k ≠ 0 → ∀ (i : Fin 4096) (z : Fin 128), f.DL (ix2 i z) = ((x.dl h i : ℝ) : EReal)) : EnvHolds x h k (f.env k) := by
  refine ⟨hK, hV, hQ, hD, hL, fun i z => ?_⟩
  unfold Found.env
  by_cases h0 : k = 0
  · simp only [if_pos h0]; exact hC i z
  · simp only [if_neg h0]; exact hc h0 i z

/-- Its start holds the query gradient of the key blocks before and nothing of the key block's own. -/
theorem start_of {x : Data} {h k : ℕ} (f : Found Ideal)
    (hc : k ≠ 0 → ∀ (i : Fin 4096) (d : Fin 256), f.DQ (ix2 i d) = ((x.partQ h k i d : ℝ) : EReal)) : StHolds x h k 0 (f.start k) := by
  refine ⟨fun i d => ?_, fun j d => ?_, fun j d => ?_⟩
  · have e : (if (i : ℕ) / 512 < k + 0 then x.partQ h (k + 1) i d else x.partQ h k i d) = x.partQ h k i d := by
      split
      · exact x.partQ_stop _ _ _ _ (by omega)
      · rfl
    rw [e]
    unfold Found.start
    by_cases h0 : k = 0
    · simp only [if_pos h0]
      rw [h0, x.partQ_zero]
      exact Ideal.ofBits_zero_f32
    · simp only [if_neg h0]; exact hc h0 i d
  · unfold Data.partK
    rw [Nat.add_zero, Finset.Ico_self, Finset.sum_empty]
    exact Ideal.ofBits_zero_f32
  · unfold Data.partV
    rw [Nat.add_zero, Finset.Ico_self, Finset.sum_empty]
    exact Ideal.ofBits_zero_f32

/-- What is in scratch when a point is not a head's first: the query gradient of the key blocks before, and the corrections. -/
structure CarryHolds (x : Data) (h k : ℕ) (s : (S4096x256.Idx → Elt Ideal .f32) × (S4096x128.Idx → Elt Ideal .f32)) : Prop where
  dq : ∀ (i : Fin 4096) (d : Fin 256), s.1 (ix2 i d) = ((x.partQ h k i d : ℝ) : EReal)
  dl : ∀ (i : Fin 4096) (z : Fin 128), s.2 (ix2 i z) = ((x.dl h i : ℝ) : EReal)

variable (m : (ℓ : Loc nD τ sig) → Buf (Elt Ideal) ℓ) (c : Dev nD) {x : Data}
  (H : Holds x (m ((c : Thread nD τ).loc main_arg0)) (m ((c : Thread nD τ).loc main_arg1)) (m ((c : Thread nD τ).loc main_arg2))
    (m ((c : Thread nD τ).loc main_arg3)) (m ((c : Thread nD τ).loc main_arg4)))

variable (t : Fin cfg0.N)

theorem found_kr (r : Fin 512) (d : Fin 128) : (at_ m c t).KR (ix2 r d)
    = (V m c main_v91 : S4096x128.Idx → Elt Ideal .bf16) (ix2 ⟨512 * (t.val % 8) + r, by omega⟩ d) :=
  blk_kr m c t r d

theorem found_d (i : Fin 4096) (d : Fin 128) : (at_ m c t).D (ix2 i d)
    = (m ((c : Thread nD τ).loc main_arg4) : S4096x2048.Idx → Elt Ideal .f32) (ix2 i ⟨1024 + 128 * (t.val / 8) + d, by have := head_lt t; omega⟩) := by
  rw [← V_main_arg4 m c]
  exact blk_do m c t i d

include H

theorem at_q (i : Fin 4096) (d : Fin 256) : (at_ m c t).Q (ix2 i d) = ((x.qs i (t.val / 8) d : ℝ) : EReal) := by
  have ht := head_lt t
  refine (blk_q m c t i d).trans ?_
  rw [read_v89, host_qs H]
  congr 2 <;> (simp only; omega)

theorem at_k (r : Fin 512) (d : Fin 256) :
    k0_pay66 (at_ m c t).KN (at_ m c t).KR (ix2 r d) = ((x.kf (512 * (t.val % 8) + r) (t.val / 8) d : ℝ) : EReal) := by
  have ht := head_lt t
  rw [keys_apply]
  unfold Data.kf
  split
  · refine (blk_kn m c t r _).trans ?_
    rw [read_v93, host_kv H]
    congr 2 <;> (simp only; omega)
  · rw [found_kr, read_v91, host_kr H]
    refine congrArg _ ?_
    simp only
    split
    · rw [if_pos (by omega)]
    · rw [if_neg (by omega)]

theorem at_v (r : Fin 512) (d : Fin 128) :
    k0_pay67 (at_ m c t).V (ix2 r d) = ((x.v (512 * (t.val % 8) + r) (t.val / 8) d : ℝ) : EReal) := by
  have ht := head_lt t
  rw [values_apply]
  refine (blk_v m c t r d).trans ?_
  rw [read_v93, host_kv H]
  unfold Data.v
  congr 2 <;> (simp only; omega)

theorem at_d (i : Fin 4096) (d : Fin 128) : (at_ m c t).D (ix2 i d) = ((x.ct i (t.val / 8) d : ℝ) : EReal) :=
  (found_d m c t i d).trans (H.dm i _)

theorem at_o (i : Fin 4096) (d : Fin 128) : (at_ m c t).O (ix2 i d) = ((x.o i (t.val / 8) d : ℝ) : EReal) := by
  have ht := head_lt t
  refine (blk_o m c t i d).trans ?_
  rw [read_v80, host_out H, if_neg (by simp only; omega)]
  congr 2 <;> (simp only; omega)

theorem at_l (i : Fin 4096) (d : Fin 128) : (at_ m c t).L (ix2 i d) = ((x.lse (t.val / 8) i : ℝ) : EReal) := by
  have ht := head_lt t
  refine (blk_lse m c t i d).trans ?_
  rw [read_v77, host_lse H]
  congr 2
  simp only; omega

theorem at_corr (i : Fin 4096) (z : Fin 128) :
    corr (F := Ideal) (at_ m c t).D (at_ m c t).O (ix2 i z) = ((x.dl (t.val / 8) i : ℝ) : EReal) :=
  corr_apply _ _ (fun d => x.ct i (t.val / 8) d) (fun d => x.o i (t.val / 8) d) i z (at_d m c H t i) (at_o m c H t i)

theorem env_holds (hc : t.val % 8 ≠ 0 → CarryHolds x (t.val / 8) (t.val % 8) (carry m c t.val)) :
    EnvHolds x (t.val / 8) (t.val % 8) ((at_ m c t).env (t.val % 8)) :=
  env_of (at_ m c t) (at_k m c H t) (at_v m c H t) (at_q m c H t) (at_d m c H t) (at_l m c H t) (at_corr m c H t)
    fun h0 => (hc h0).dl

theorem start_holds (hc : t.val % 8 ≠ 0 → CarryHolds x (t.val / 8) (t.val % 8) (carry m c t.val)) :
    StHolds x (t.val / 8) (t.val % 8) 0 ((at_ m c t).start (t.val % 8)) :=
  start_of (at_ m c t) fun h0 => (hc h0).dq

theorem final_holds (hc : t.val % 8 ≠ 0 → CarryHolds x (t.val / 8) (t.val % 8) (carry m c t.val)) :
    StHolds x (t.val / 8) (t.val % 8) (8 - t.val % 8) ((at_ m c t).final (t.val % 8)) :=
  sweep_all (env_holds m c H t hc) (by omega) (start_holds m c H t hc)

theorem final_dq (hc : t.val % 8 ≠ 0 → CarryHolds x (t.val / 8) (t.val % 8) (carry m c t.val)) (i : Fin 4096) (d : Fin 256) :
    ((at_ m c t).final (t.val % 8)).dq (ix2 i d) = ((x.partQ (t.val / 8) (t.val % 8 + 1) i d : ℝ) : EReal) := by
  rw [(final_holds m c H t hc).dq, if_pos (by omega)]

theorem carry_holds (n : ℕ) (hn : n < cfg0.N) (h0 : n % 8 ≠ 0) : CarryHolds x (n / 8) (n % 8) (carry m c n) := by
  induction n with
  | zero => exact absurd rfl h0
  | succ n ih =>
    have hn' : n < cfg0.N := by omega
    have hc : n % 8 ≠ 0 → CarryHolds x (n / 8) (n % 8) (carry m c n) := ih hn'
    have e := carry_succ m c ⟨n, hn'⟩
    have e1 : (n + 1) / 8 = n / 8 := by omega
    have e2 : (n + 1) % 8 = n % 8 + 1 := by omega
    rw [e1, e2]
    refine ⟨fun i d => ?_, fun i z => ?_⟩
    · exact (congrArg (fun s => s.1 (ix2 i d)) e).trans (final_dq m c H ⟨n, hn'⟩ hc i d)
    · exact (congrArg (fun s => s.2 (ix2 i z)) e).trans ((env_holds m c H ⟨n, hn'⟩ hc).C i z)

/-- A point's accumulators after its sweep. -/
theorem point_holds : StHolds x (t.val / 8) (t.val % 8) (8 - t.val % 8) ((at_ m c t).final (t.val % 8)) :=
  final_holds m c H t (carry_holds m c H t.val t.isLt)

end Cert.KernelIdeal.Bwd

end
-- ==== Proof.OutReal.lean ====
/- What a point emits, read at an index: the query gradient rotated back, the key and value gradients. -/
module

public import proofs.«01_k».proof.Proof.Body
public import proofs.«01_k».proof.Proof.SweepReal
public import proofs.«01_k».proof.Proof.HostReal

@[expose] public section

set_option maxRecDepth 16384

noncomputable section

namespace Cert.Attention.Data

/-- The unrotated columns of a query gradient are left as they are. -/
theorem dA_low (x : Data) {i h d : ℕ} (hd : d < 128) : x.dA i h d = x.dQ i h d := if_pos hd

/-- Rotating back by the tables: a column's own part, the part from 32 columns on and the part from 32 columns before. -/
theorem dA_tables (x : Data) (i h d : ℕ) (hd : d < 128) :
    x.dQ i h (128 + d) * x.tabC i d - x.dQ i h (128 + (d + 32) % 128) * x.tabA i d - x.dQ i h (128 + (d + 96) % 128) * x.tabB i d
      = x.dA i h (128 + d) := by
  unfold dA tabC tabA tabB
  rw [if_neg (by omega : ¬ 128 + d < 128)]
  by_cases h1 : d < 32
  · rw [if_pos h1, if_pos h1, if_pos h1, if_pos (by omega), show 128 + (d + 32) % 128 = 128 + d + 32 by omega, show 128 + d - 128 = d by omega]
    ring
  · rw [if_neg h1, if_neg h1, if_neg h1, if_neg (by omega : ¬ 128 + d < 160)]
    by_cases h2 : d < 64
    · rw [if_pos h2, if_pos h2, if_pos (by omega : 128 + d < 192), show 128 + (d + 96) % 128 = 128 + d - 32 by omega,
        show 128 + d - 160 = d - 32 by omega]
      ring
    · rw [if_neg h2, if_neg h2, if_neg (by omega : ¬ 128 + d < 192), x.dQ_zero (by omega : 192 ≤ 128 + d)]
      ring

end Cert.Attention.Data

namespace Cert.KernelIdeal.Bwd

open Idealize.ShloMosaic Cert.KernelIdeal.Gen Cert.Attention

/-- The rotary columns of the query gradient, rotated back. -/
theorem unrotate_apply (X C A B : FVec Ideal S512x128 .f32) (r : Fin 512) (d : Fin 128) (f : ℕ → ℝ) (u v w : ℝ)
    (hX : ∀ d : Fin 128, X (ix2 r d) = ((f d : ℝ) : EReal)) (hC : C (ix2 r d) = (u : EReal)) (hA : A (ix2 r d) = (v : EReal))
    (hB : B (ix2 r d) = (w : EReal)) :
    (k0_pay4 (F := Ideal) X C A B (ix2 r d) : EReal) = ((f d * u - f ((d + 32) % 128) * v - f ((d + 96) % 128) * w : ℝ) : EReal) := by
  pointwise [k0_pay4]
  rw [hX, hX, hX, hC, hA, hB, ← EReal.coe_mul, ← EReal.coe_mul, ← EReal.coe_mul, ← EReal.coe_sub, ← EReal.coe_sub]
  simp only
  rw [show ((d : ℕ) + 128 - 96) % 128 = (d + 32) % 128 by omega, show ((d : ℕ) + 128 - 32) % 128 = (d + 96) % 128 by omega]

theorem pay3_apply (X : FVec Ideal S512x128 .f32) (j : S512x128.Idx) : (k0_pay3 (F := Ideal) X j : EReal) = X j := rfl

theorem inBlock_eq {n : ℕ} (r : ℕ) (j : Fin n) : inBlock r j = ix2 (⟨r % 512, Nat.mod_lt _ (by decide)⟩ : Fin 512) j := by
  funext a
  fin_cases a <;> rfl

/-- The emitted query gradient. -/
theorem outQ_apply (dq : S4096x256.Idx → Elt Ideal .f32) (C A B : S4096x128.Idx → Elt Ideal .f32) (x : Data) (h : ℕ)
    (hq : ∀ (i : Fin 4096) (d : Fin 256), dq (ix2 i d) = ((x.dQ i h d : ℝ) : EReal))
    (hC : ∀ (i : Fin 4096) (d : Fin 128), C (ix2 i d) = ((x.tabC i d : ℝ) : EReal))
    (hA : ∀ (i : Fin 4096) (d : Fin 128), A (ix2 i d) = ((x.tabA i d : ℝ) : EReal))
    (hB : ∀ (i : Fin 4096) (d : Fin 128), B (ix2 i d) = ((x.tabB i d : ℝ) : EReal)) (i : Fin 4096) (d : Fin 256) :
    outQ (F := Ideal) dq C A B (ix2 i d) = ((x.dA i h d : ℝ) : EReal) := by
  have hi : (⟨512 * ((i : ℕ) / 512) + (i : ℕ) % 512, by omega⟩ : Fin 4096) = i := Fin.ext (by show 512 * ((i : ℕ) / 512) + (i : ℕ) % 512 = i; omega)
  have rows : ∀ (T : S4096x128.Idx → Elt Ideal .f32) (f : ℕ → ℕ → ℝ) (hT : ∀ (i : Fin 4096) (d : Fin 128), T (ix2 i d) = ((f i d : ℝ) : EReal))
      (hb : (i : ℕ) / 512 < 8) (z : Fin 128), rowsD (F := Ideal) (e := .f32) T ((i : ℕ) / 512) hb
        (ix2 (⟨(i : ℕ) % 512, Nat.mod_lt _ (by decide)⟩ : Fin 512) z) = ((f i z : ℝ) : EReal) := by
    intro T f hT hb z
    rw [rowsD_apply, ← hT i z]
    exact congrArg (fun y => T (ix2 y z)) hi
  have cols : ∀ (k : ℕ) (hk : k ≤ 128) (inb) (z : Fin 128), VecWindow.window dq ![512 * ((i : ℕ) / 512), k] S512x128.size inb
        (ix2 (⟨(i : ℕ) % 512, Nat.mod_lt _ (by decide)⟩ : Fin 512) z) = ((x.dQ i h (k + z) : ℝ) : EReal) := by
    intro k hk inb z
    refine Eq.trans ?_ (hq i ⟨k + z, by omega⟩)
    refine congrArg dq (funext fun a => Fin.ext ?_)
    fin_cases a
    · show 512 * ((i : ℕ) / 512) + 1 * ((i : ℕ) % 512) = i
      omega
    · show k + 1 * (z : ℕ) = k + z
      omega
  unfold outQ
  by_cases hl : (d : ℕ) < 128
  · rw [dif_pos (show ((ix2 i d : S4096x256.Idx) 1).val < 128 from hl)]
    have hd := cols 0 (by omega) (by intro a; fin_cases a <;> simp <;> omega) ⟨d, hl⟩
    rw [x.dA_low hl, inBlock_eq, pay3_apply]
    exact hd.trans (by rw [Nat.zero_add])
  · rw [dif_neg (show ¬ ((ix2 i d : S4096x256.Idx) 1).val < 128 from hl)]
    have ed : 128 + ((d : ℕ) - 128) = d := by omega
    have e := unrotate_apply (VecWindow.window dq ![512 * ((i : ℕ) / 512), 128] S512x128.size (by intro a; fin_cases a <;> simp <;> omega))
      (rowsD (F := Ideal) (e := .f32) C ((i : ℕ) / 512) (by omega)) (rowsD (F := Ideal) (e := .f32) A ((i : ℕ) / 512) (by omega))
      (rowsD (F := Ideal) (e := .f32) B ((i : ℕ) / 512) (by omega)) ⟨(i : ℕ) % 512, Nat.mod_lt _ (by decide)⟩ ⟨(d : ℕ) - 128, by omega⟩
      (fun z => x.dQ i h (128 + z)) _ _ _ (cols 128 le_rfl _) (rows C _ hC _ _) (rows A _ hA _ _) (rows B _ hB _ _)
    rw [inBlock_eq]
    refine e.trans ?_
    exact congrArg _ ((x.dA_tables i h ((d : ℕ) - 128) (by omega)).trans (congrArg (x.dA i h) ed))

/-- The emitted key and value gradients. -/
theorem outKV_apply (dk : S512x256.Idx → Elt Ideal .f32) (dv : S512x128.Idx → Elt Ideal .f32) (r : Fin 512) (f g : ℕ → ℝ)
    (hk : ∀ d : Fin 256, dk (ix2 r d) = ((f d : ℝ) : EReal)) (hv : ∀ d : Fin 128, dv (ix2 r d) = ((g d : ℝ) : EReal)) (e : Fin 256) :
    outKV (F := Ideal) dk dv (ix2 r e) = ((if (e : ℕ) < 128 then f e * Real.log 2 else g (e - 128) : ℝ) : EReal) := by
  unfold outKV VecWindow.put
  by_cases he : (e : ℕ) < 128
  · rw [dif_neg, dif_pos, if_pos he]
    · have hp : k0_pay79 dk (ix2 r ⟨e, he⟩) = ((f e * Real.log 2 : ℝ) : EReal) := by
        pointwise [k0_pay79, k0_pay78]
        rw [hk, named_ln2, ← EReal.coe_mul]
      refine Eq.trans (congrArg (k0_pay79 dk) (funext fun a => Fin.ext ?_)) hp
      fin_cases a
      · show (r : ℕ) - 0 = r
        omega
      · show (e : ℕ) - 0 = e
        omega
    · intro a; fin_cases a
      · show 0 ≤ (r : ℕ) ∧ (r : ℕ) < 0 + 512
        omega
      · show 0 ≤ (e : ℕ) ∧ (e : ℕ) < 0 + 128
        omega
    · intro hc
      have h1 : 128 ≤ (e : ℕ) ∧ (e : ℕ) < 128 + 128 := hc 1
      omega
  · rw [dif_pos, if_neg he]
    · have hp : k0_pay2 dv (ix2 r ⟨(e : ℕ) - 128, by omega⟩) = ((g (e - 128) : ℝ) : EReal) := by
        pointwise [k0_pay2]
        exact hv _
      refine Eq.trans (congrArg (k0_pay2 dv) (funext fun a => Fin.ext ?_)) hp
      fin_cases a
      · show (r : ℕ) - 0 = r
        omega
      · show (e : ℕ) - 128 = (e : ℕ) - 128
        rfl
    · intro a; fin_cases a
      · show 0 ≤ (r : ℕ) ∧ (r : ℕ) < 0 + 512
        omega
      · show 128 ≤ (e : ℕ) ∧ (e : ℕ) < 128 + 128
        omega

/-- The emitted shared-key gradient. -/
theorem outR_apply (dk : S512x256.Idx → Elt Ideal .f32) (r : Fin 512) (f : ℕ → ℝ)
    (hk : ∀ d : Fin 256, dk (ix2 r d) = ((f d : ℝ) : EReal)) (d : Fin 128) :
    outR (F := Ideal) dk (ix2 r d) = ((f (128 + d) * Real.log 2 : ℝ) : EReal) := by
  unfold outR
  pointwise [k0_pay1, k0_pay78]
  rw [hk, named_ln2, ← EReal.coe_mul]

end Cert.KernelIdeal.Bwd

end
-- ==== Proof.RefScores.lean ====
/- The reference read at an index, up to the probabilities: each stage's element is a real number of the attention. -/
module

public import proofs.«01_k».proof.Proof.Gen.ReferenceIdeal.Read
public import proofs.«01_k».proof.Proof.Finite

@[expose] public section

set_option maxRecDepth 16384

noncomputable section

namespace Cert.ReferenceIdeal.Attn

open Idealize.ShloMosaic Cert.ReferenceIdeal.Read Cert.Attention

variable {x : Data} {x0 : FVec Ideal S4096x8x192 .f32} {x1 : FVec Ideal S4096x8x256 .f32} {x2 : FVec Ideal S4096x64 .f32}
  {x3 : IVec S4096 32} {x4 : FVec Ideal S4096x2048 .f32} (H : Holds x x0 x1 x2 x3 x4)

include H

theorem angle (i : Fin 4096) (d : Fin 32) : val_main_v21 (F := Ideal) x3 (ix2 i d) = ((x.w i d : ℝ) : EReal) := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_cst,
    val_main_cst_0, val_main_cst_1, val_main_cst_2]
  exact H.angle_eq i d

theorem query (i : Fin 4096) (h : Fin 8) (d : Fin 192) : val_main_v39 (F := Ideal) x0 x3 (ix3 i h d) = ((x.qf i h d : ℝ) : EReal) := by
  pointwise [val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22, val_main_v5, val_main_v4]
  simp only [angle H, H.q, Ideal.cos_coe, Ideal.sin_coe, ← EReal.coe_mul, ← EReal.coe_sub, ← EReal.coe_add]
  unfold Data.qf
  rw [if_pos d.isLt]
  split
  · rfl
  · split
    · rw [if_pos (by omega), show 128 + (↑d - 128) = (d : ℕ) by omega, show 128 + (32 + (↑d - 128)) = (d : ℕ) + 32 by omega]
    · rw [if_neg (by omega), show 128 + (32 + (↑d - 128 - 32)) = (d : ℕ) by omega,
        show 128 + (↑d - 128 - 32) = (d : ℕ) - 32 by omega, show (d : ℕ) - 128 - 32 = d - 160 by omega]

theorem key (j : Fin 4096) (h : Fin 8) (d : Fin 192) : val_main_v42 (F := Ideal) x1 x2 (ix3 j h d) = ((x.kf j h d : ℝ) : EReal) := by
  pointwise [val_main_v42, val_main_v40, val_main_v3, val_main_v2]
  simp only [H.kv, H.kr]
  unfold Data.kf
  rw [if_pos d.isLt]
  split <;> rfl

theorem scores (h : Fin 8) (i j : Fin 4096) : val_main_v54_0 (F := Ideal) x0 x1 x2 x3 (ix3 h i j)
    = if (j : ℕ) ≤ i then ((x.S h i j : ℝ) : EReal) else ⊥ := by
  pointwise [val_main_v54_0, val_main_v54_1, val_main_call0_v2, val_main_call0_v0, val_main_cst_4, val_main_v53, val_main_v52,
    val_main_v51, val_main_v50, val_main_v49, val_main_v48, val_main_v47, val_main_v46, val_main_v45, val_main_v44, val_main_v43,
    val_main_cst_3]
  simp only [query H, key H, ← EReal.coe_mul, sum_fin, ofBits_bot, ofBits_192, Ideal.sqrt_coe]
  rw [select_le i j, if_neg (show ¬ (192 : ℝ) < 0 by norm_num), sum_fin (fun d => x.qf i h d * x.kf j h d), div_real _ (by positivity)]
  show (if _ then _ else Ideal.ofBits .f32 0xFF800000#32) = _
  rw [ofBits_bot]; rfl

theorem top (h : Fin 8) (i : Fin 4096) : val_main_v55 (F := Ideal) x0 x1 x2 x3 (ix2 h i) = ((x.M h i : ℝ) : EReal) := by
  pointwise [val_main_v55, val_main_cst_5]
  simp only [scores H, ofBits_bot]
  exact x.coe_M i.isLt

theorem shift (h : Fin 8) (i : Fin 4096) : val_main_v62 (F := Ideal) x0 x1 x2 x3 (ix2 h i) = ((x.M h i : ℝ) : EReal) := by
  rw [val_main_v62_apply, top H, val_main_v61_apply, val_main_cst_7_apply]
  show max (Ideal.ofBits .f32 0xFF800000#32) _ = _
  rw [ofBits_bot, bot_sup_eq]

theorem expd (h : Fin 8) (i j : Fin 4096) : val_main_v75 (F := Ideal) x0 x1 x2 x3 (ix3 h i j) = ((x.E h i j : ℝ) : EReal) := by
  pointwise [val_main_v75, val_main_v74, val_main_v73, val_main_v72]
  rw [scores H, shift H]
  exact x.coe_E h i j

theorem norm (h : Fin 8) (i : Fin 4096) (z : Fin 1) : val_main_v77 (F := Ideal) x0 x1 x2 x3 (ix3 h i z) = ((x.D h i : ℝ) : EReal) := by
  pointwise [val_main_v77, val_main_v76, val_main_cst_13]
  simp only [expd H, sum_fin]
  rfl

theorem probs (h : Fin 8) (i j : Fin 4096) : val_main_v79 (F := Ideal) x0 x1 x2 x3 (ix3 h i j) = ((x.P h i j : ℝ) : EReal) := by
  pointwise [val_main_v79, val_main_v78]
  simp only [expd H, norm H]
  rw [div_real _ (x.D_ne i.isLt)]; rfl

end Cert.ReferenceIdeal.Attn

end
-- ==== Proof.RefGrads.lean ====
/- The reference read at an index, from the probabilities to its three results. -/
module

public import proofs.«01_k».proof.Proof.RefScores

@[expose] public section

set_option maxRecDepth 16384

noncomputable section

namespace Cert.ReferenceIdeal.Attn

open Idealize.ShloMosaic Cert.ReferenceIdeal.Read Cert.Attention

variable {x : Data} {x0 : FVec Ideal S4096x8x192 .f32} {x1 : FVec Ideal S4096x8x256 .f32} {x2 : FVec Ideal S4096x64 .f32}
  {x3 : IVec S4096 32} {x4 : FVec Ideal S4096x2048 .f32} (H : Holds x x0 x1 x2 x3 x4)

include H

theorem cotangent (h : Fin 8) (d : Fin 128) (i : Fin 4096) : val_main_v85 (F := Ideal) x4 (ix3 h d i) = ((x.ct i h d : ℝ) : EReal) := by
  pointwise [val_main_v85, val_main_v1, val_main_v0]
  rw [H.dm]; unfold Data.ct
  congr 2; simp only; omega

theorem value (j : Fin 4096) (h : Fin 8) (d : Fin 128) : val_main_v41 (F := Ideal) x1 (ix3 j h d) = ((x.v j h d : ℝ) : EReal) := by
  pointwise [val_main_v41]
  rw [H.kv]; rfl

theorem dprob (h : Fin 8) (i j : Fin 4096) : val_main_v86 (F := Ideal) x1 x4 (ix3 h i j) = ((x.dP h i j : ℝ) : EReal) := by
  pointwise [val_main_v86]
  simp only [cotangent H, value H, ← EReal.coe_mul]
  exact sum_fin (fun d => x.ct i h d * x.v j h d)

theorem dvalue (j : Fin 4096) (h : Fin 8) (d : Fin 128) : val_main_v88 (F := Ideal) x0 x1 x2 x3 x4 (ix3 j h d) = ((x.dV j h d : ℝ) : EReal) := by
  pointwise [val_main_v88, val_main_v87]
  simp only [cotangent H, probs H, ← EReal.coe_mul]
  rw [sum_fin (fun i => x.ct i h d * x.P h i j)]
  unfold Data.dV
  simp only [mul_comm]

theorem square (h : Fin 8) (i : Fin 4096) (z : Fin 1) : val_main_v82 (F := Ideal) x0 x1 x2 x3 (ix3 h i z)
    = ((1 / (x.D h i * x.D h i) : ℝ) : EReal) := by
  rw [val_main_v82_apply, val_main_v81_apply, val_main_cst_14_apply, val_main_v80_apply, norm H]
  show Ideal.div (Ideal.ofBits .f32 0x3F800000#32) (_ * _) = _
  rw [Ideal.ofBits_one_f32, ← EReal.coe_mul, ← EReal.coe_one, div_real _ (mul_ne_zero (x.D_ne i.isLt) (x.D_ne i.isLt))]

theorem correction (h : Fin 8) (i : Fin 4096) : val_main_v92 (F := Ideal) x0 x1 x2 x3 x4 (ix2 h i)
    = ((∑ j ∈ Finset.range 4096, x.dP h i j * (1 / (x.D h i * x.D h i)) * x.E h i j : ℝ) : EReal) := by
  pointwise [val_main_v92, val_main_v91, val_main_v90, val_main_v89, val_main_cst_15]
  simp only [dprob H, square H, expd H, ← EReal.coe_mul]
  rw [sum_fin (fun j => x.dP h i j * (1 / (x.D h i * x.D h i)) * x.E h i j)]

theorem negated (h : Fin 8) (i : Fin 4096) : val_main_v97 (F := Ideal) x0 x1 x2 x3 x4 (ix2 h i)
    = ((-∑ j ∈ Finset.range 4096, x.dP h i j * (1 / (x.D h i * x.D h i)) * x.E h i j : ℝ) : EReal) := by
  pointwise [val_main_v97, val_main_v94, val_main_v93, val_main_cst_16]
  rw [correction H]; simp

theorem dscore (h : Fin 8) (i j : Fin 4096) : val_main_v100 (F := Ideal) x0 x1 x2 x3 x4 (ix3 h i j) = ((x.dS h i j : ℝ) : EReal) := by
  pointwise [val_main_v100, val_main_v99, val_main_v98, val_main_v96, val_main_v95]
  rw [dprob H, norm H, negated H, expd H, div_real _ (x.D_ne i.isLt), ← EReal.coe_add, ← EReal.coe_mul]
  congr 1
  unfold Data.dS
  rw [x.dl_eq]
  unfold Data.P
  have hD := x.D_ne (h := h) i.isLt
  have e : ∑ j ∈ Finset.range 4096, x.dP h i j * (1 / (x.D h i * x.D h i)) * x.E h i j
      = (∑ j ∈ Finset.range 4096, x.E h i j / x.D h i * x.dP h i j) / x.D h i := by
    rw [Finset.sum_div]; exact Finset.sum_congr rfl fun j _ => by field_simp
  rw [e]; field_simp; ring

theorem masked (h : Fin 8) (i j : Fin 4096) : val_main_v103 (F := Ideal) x0 x1 x2 x3 x4 (ix3 h i j)
    = ((x.dS h i j * (√192)⁻¹ : ℝ) : EReal) := by
  pointwise [val_main_v103, val_main_v102, val_main_v101, val_main_v54_1, val_main_v53, val_main_v52,
    val_main_v51, val_main_v50, val_main_v49, val_main_v48, val_main_v47, val_main_v44, val_main_cst_3, val_main_call1_v0, val_main_call1_cst]
  simp only [dscore H, ofBits_192, Ideal.sqrt_coe]
  rw [select_le i j, if_neg (show ¬ (192 : ℝ) < 0 by norm_num)]
  have e : (if (j : ℕ) ≤ i then ((x.dS h i j : ℝ) : EReal) else 0) = ((x.dS h i j : ℝ) : EReal) := by
    split
    · rfl
    · rw [x.dS_zero (by omega)]; rfl
  rw [e, div_real _ (by positivity)]; rfl

theorem dkey (j : Fin 4096) (h : Fin 8) (d : Fin 192) : val_main_v105 (F := Ideal) x0 x1 x2 x3 x4 (ix3 j h d) = ((x.dK j h d : ℝ) : EReal) := by
  pointwise [val_main_v105, val_main_v104]
  simp only [masked H, query H, ← EReal.coe_mul]
  rw [sum_fin (fun i => x.dS h i j * (√192)⁻¹ * x.qf i h d)]
  unfold Data.dK
  rw [Finset.sum_mul]
  congr 1; exact Finset.sum_congr rfl fun i _ => by ring

theorem dquery (i : Fin 4096) (h : Fin 8) (d : Fin 192) : val_main_v107 (F := Ideal) x0 x1 x2 x3 x4 (ix3 i h d) = ((x.dQ i h d : ℝ) : EReal) := by
  pointwise [val_main_v107, val_main_v106]
  simp only [masked H, key H, ← EReal.coe_mul]
  rw [sum_fin (fun j => x.dS h i j * (√192)⁻¹ * x.kf j h d)]
  unfold Data.dQ
  rw [Finset.sum_mul]
  congr 1; exact Finset.sum_congr rfl fun j _ => by ring

end Cert.ReferenceIdeal.Attn

end
-- ==== Proof.RefResults.lean ====
/- The three results of the reference read at an index. -/
module

public import proofs.«01_k».proof.Proof.RefGrads

@[expose] public section

set_option maxRecDepth 16384

noncomputable section

namespace Cert.Attention.Data

/-- The two halves of a head's 256 columns: the gradients of the keys and of the values. -/
def dKV (x : Data) (j e : ℕ) : ℝ :=
  if e % 256 < 128 then x.dK j (e / 256) (e % 256) else x.dV j (e / 256) (e % 256 - 128)

end Cert.Attention.Data

namespace Cert.ReferenceIdeal.Attn

open Idealize.ShloMosaic Cert.ReferenceIdeal.Read Cert.Attention

variable {x : Data} {x0 : FVec Ideal S4096x8x192 .f32} {x1 : FVec Ideal S4096x8x256 .f32} {x2 : FVec Ideal S4096x64 .f32}
  {x3 : IVec S4096 32} {x4 : FVec Ideal S4096x2048 .f32} (H : Holds x x0 x1 x2 x3 x4)

theorem sitofp_zero : (FloatOps.sitofp (F := Ideal) FTy.f32 0#32 : EReal) = ((0 : ℝ) : EReal) := by
  show (((0#32 : BitVec 32).toInt : ℝ) : EReal) = _
  simp

include H

theorem result_dkv (j : Fin 4096) (e : Fin 2048) : val_main_v140 (F := Ideal) x0 x1 x2 x3 x4 (ix2 j e) = ((x.dKV j e : ℝ) : EReal) := by
  pointwise [val_main_v140, val_main_v139, val_main_v112, val_main_v111, val_main_v110, val_main_v108, val_main_cst_17, val_main_cst_18]
  simp only [dkey H, dvalue H]
  have he := e.isLt
  unfold Data.dKV
  by_cases h : (e : ℕ) % 256 < 128
  · rw [dif_neg (by omega), dif_pos (by omega), if_pos h, zero_add]
  · rw [dif_pos (by omega), dif_neg (by omega), if_neg h, add_zero]

theorem result_dkr (j : Fin 4096) (e : Fin 1024) : val_main_v138 (F := Ideal) x0 x1 x2 x3 x4 (ix2 j e)
    = ((x.dK j (e / 128) (128 + e % 128) : ℝ) : EReal) := by
  pointwise [val_main_v138, val_main_v137, val_main_v109, val_main_call3_v0, val_main_c_23]
  simp only [dkey H]
  have he := e.isLt
  by_cases h : (e : ℕ) % 128 < 64
  · rw [dif_pos (by omega)]
  · rw [dif_neg (by omega), x.dK_zero (by omega)]; exact sitofp_zero

theorem rotated (i : Fin 4096) (h : Fin 8) (d : Fin 192) : val_main_v133 (F := Ideal) x0 x1 x2 x3 x4 (ix3 i h d)
    = ((x.dA i h d : ℝ) : EReal) := by
  pointwise [val_main_v133, val_main_v132, val_main_v131, val_main_v130, val_main_v129, val_main_v128, val_main_v127, val_main_v126,
    val_main_v125, val_main_v124, val_main_v123, val_main_v122, val_main_v121, val_main_v120, val_main_v119, val_main_v118, val_main_v117,
    val_main_v116, val_main_v115, val_main_v114, val_main_v113, val_main_v25, val_main_v24, val_main_v23, val_main_v22,
    val_main_cst_19, val_main_cst_20, val_main_cst_21, val_main_cst_22]
  simp only [dquery H, angle H, Ideal.cos_coe, Ideal.sin_coe, ← EReal.coe_mul, ← EReal.coe_neg, ← EReal.coe_add]
  have hd := d.isLt
  unfold Data.dA
  by_cases h1 : (d : ℕ) < 128
  · rw [dif_neg (by omega), dif_pos h1, if_pos h1, zero_add]
  · rw [dif_pos (by omega), dif_neg h1, if_neg h1, add_zero]
    by_cases h2 : (d : ℕ) < 160
    · rw [dif_neg (by omega), dif_pos (by omega), if_pos h2, zero_add, show 128 + (32 + (↑d - 128)) = (d : ℕ) + 32 by omega,
        show 128 + (↑d - 128) = (d : ℕ) by omega, add_comm]
    · rw [dif_pos (by omega), dif_neg (by omega), if_neg h2, if_pos hd, add_zero, show 128 + (32 + (↑d - 128 - 32)) = (d : ℕ) by omega,
        show 128 + (↑d - 128 - 32) = (d : ℕ) - 32 by omega, show (d : ℕ) - 128 - 32 = d - 160 by omega, neg_mul, ← sub_eq_add_neg]

theorem result_dq (i : Fin 4096) (e : Fin 2048) : val_main_v136 (F := Ideal) x0 x1 x2 x3 x4 (ix2 i e)
    = ((x.dA i (e / 256) (e % 256) : ℝ) : EReal) := by
  pointwise [val_main_v136, val_main_v135, val_main_v134, val_main_call2_v0, val_main_c]
  simp only [rotated H]
  have he := e.isLt
  by_cases h : (e : ℕ) % 256 < 192
  · rw [dif_pos (by omega)]
  · rw [dif_neg (by omega)]
    unfold Data.dA
    rw [if_neg (by omega), if_neg (by omega), if_neg h]; exact sitofp_zero

end Cert.ReferenceIdeal.Attn

end
-- ==== Proof.Final.lean ====
/- The three result arrays after the run are the attention's gradients. -/
module

public import proofs.«01_k».proof.Proof.PointReal
public import proofs.«01_k».proof.Proof.OutReal
public import proofs.«01_k».proof.Proof.RefResults

@[expose] public section

set_option maxRecDepth 16384

noncomputable section

namespace Cert.KernelIdeal.Bwd

open Idealize.ShloMosaic Idealize.ShloMosaic.TcCoe Cert.KernelIdeal.Gen Cert.Attention
open Idealize.ShloMosaic.Pipeline (Dat)

variable (m : (ℓ : Loc nD τ sig) → Buf (Elt Ideal) ℓ) (c : Dev nD) {x : Data}
  (H : Holds x (m ((c : Thread nD τ).loc main_arg0)) (m ((c : Thread nD τ).loc main_arg1)) (m ((c : Thread nD τ).loc main_arg2))
    (m ((c : Thread nD τ).loc main_arg3)) (m ((c : Thread nD τ).loc main_arg4)))
  (t : Fin cfg0.grid.N)

include H

/-- The rotary tables a point finds: the cosines. -/
theorem cos_block (i : Fin 4096) (d : Fin 128) : (iblk m c 7 t : S4096x128.Idx → Elt Ideal .f32) (ix2 i d) = ((x.tabC i d : ℝ) : EReal) := by
  rw [blk_c, read_v21]
  exact host_cos H i d

/-- The sines a column meets its partner after with. -/
theorem sinA_block (i : Fin 4096) (d : Fin 128) : (iblk m c 8 t : S4096x128.Idx → Elt Ideal .f32) (ix2 i d) = ((x.tabA i d : ℝ) : EReal) := by
  rw [blk_a, read_v23]
  exact host_sinA H i d

/-- The sines a column meets its partner before with. -/
theorem sinB_block (i : Fin 4096) (d : Fin 128) : (iblk m c 9 t : S4096x128.Idx → Elt Ideal .f32) (ix2 i d) = ((x.tabB i d : ℝ) : EReal) := by
  rw [blk_b, read_v24]
  exact host_sinB H i d

/-- What a head's last point emits as query gradients. -/
theorem emitted_q (ht : t.val % 8 = 7) (i : Fin 4096) (d : Fin 256) :
    outQ (F := Ideal) ((at_ m c t).final (t.val % 8)).dq (iblk m c 7 t) (iblk m c 8 t) (iblk m c 9 t) (ix2 i d)
      = ((x.dA i ((t.val / 8 * 256 + d) / 256) ((t.val / 8 * 256 + d) % 256) : ℝ) : EReal) := by
  have hq (i : Fin 4096) (d : Fin 256) : ((at_ m c t).final (t.val % 8)).dq (ix2 i d) = ((x.dQ i (t.val / 8) d : ℝ) : EReal) := by
    rw [(point_holds m c H t).dq, if_pos (by omega), ht, x.partQ_all]
  rw [show (t.val / 8 * 256 + (d : ℕ)) / 256 = t.val / 8 by omega, show (t.val / 8 * 256 + (d : ℕ)) % 256 = d by omega]
  exact outQ_apply _ _ _ _ x (t.val / 8) hq (cos_block m c H t) (sinA_block m c H t) (sinB_block m c H t) i d

/-- What a point emits as key and value gradients. -/
theorem emitted_kv (j : Fin 512) (e : Fin 256) :
    outKV (F := Ideal) ((at_ m c t).final (t.val % 8)).dk ((at_ m c t).final (t.val % 8)).dv (ix2 j e)
      = ((x.dKV (t.val % 8 * 512 + j) (t.val / 8 * 256 + e) : ℝ) : EReal) := by
  refine (outKV_apply _ _ j _ _ ((point_holds m c H t).dk j) ((point_holds m c H t).dv j) e).trans (congrArg _ ?_)
  unfold Data.dKV
  rw [show (t.val / 8 * 256 + (e : ℕ)) / 256 = t.val / 8 by omega, show (t.val / 8 * 256 + (e : ℕ)) % 256 = e by omega,
    Nat.mul_comm (t.val % 8) 512, x.partK_all _ _ _ _ (by omega), x.partV_all _ _ _ _ (by omega)]

/-- What a point emits as the shared key's gradients. -/
theorem emitted_r (j : Fin 512) (d : Fin 128) :
    outR (F := Ideal) ((at_ m c t).final (t.val % 8)).dk (ix2 j d)
      = ((x.dK (t.val % 8 * 512 + j) ((t.val / 8 * 128 + d) / 128) (128 + (t.val / 8 * 128 + d) % 128) : ℝ) : EReal) := by
  refine (outR_apply _ j _ ((point_holds m c H t).dk j) d).trans (congrArg _ ?_)
  rw [show (t.val / 8 * 128 + (d : ℕ)) / 128 = t.val / 8 by omega, show (t.val / 8 * 128 + (d : ℕ)) % 128 = d by omega,
    Nat.mul_comm (t.val % 8) 512, x.partK_all _ _ _ _ (by omega)]

/-- The query gradients. -/
theorem final_q : (dats m 0 c).arrAt 10 (cfgs 0).N
    = (fun j => ((x.dA (j 0).val ((j 1).val / 256) ((j 1).val % 256) : ℝ) : EReal) : S4096x2048.Idx → EReal) := by
  refine (dats m 0 c).arrAt_eq_of_covers 10 _ (by decide +kernel) fun t hf y => ?_
  have hf7 := (flush0_10 t).mp hf
  blk_simp [idx t]
  rw [after_10]
  exact (congrArg _ (eq_ix2 (y : S4096x256.Idx))).trans (emitted_q m c H t hf7 (y 0) (y 1))

/-- The key and value gradients. -/
theorem final_kv : (dats m 0 c).arrAt 11 (cfgs 0).N
    = (fun j => ((x.dKV (j 0).val (j 1).val : ℝ) : EReal) : S4096x2048.Idx → EReal) := by
  refine (dats m 0 c).arrAt_eq_of_covers 11 _ (by decide +kernel) fun t hf y => ?_
  blk_simp [idx t]
  rw [after_11]
  exact (congrArg _ (eq_ix2 (y : S512x256.Idx))).trans (emitted_kv m c H t (y 0) (y 1))

/-- The shared-key gradients, per head. -/
theorem final_r : (dats m 0 c).arrAt 12 (cfgs 0).N
    = (fun j => ((x.dK (j 0).val ((j 1).val / 128) (128 + (j 1).val % 128) : ℝ) : EReal) : S4096x1024.Idx → EReal) := by
  refine (dats m 0 c).arrAt_eq_of_covers 12 _ (by decide +kernel) fun t hf y => ?_
  blk_simp [idx t]
  rw [after_12]
  exact (congrArg _ (eq_ix2 (y : S512x128.Idx))).trans (emitted_r m c H t (y 0) (y 1))

end Cert.KernelIdeal.Bwd

end
-- ==== Proof.Values.lean ====
/- Both programs' runs, with the attention's gradients as their results. -/
module

public import proofs.«01_k».proof.Proof.Final
public import proofs.«01_k».proof.Proof.Run
public import proofs.«01_k».proof.Proof.Gen.ReferenceIdeal.Run
public import proofs.«01_k».proof.Proof.Gen.ReferenceIdeal.Read

@[expose] public section

noncomputable section

namespace Cert.Attention.Data

open Idealize.ShloMosaic

/-- The query gradients as an array: 256 columns per head. -/
def dqArray (x : Data) : (⟨2, ![4096, 2048]⟩ : Shape).Idx → EReal :=
  fun j => ((x.dA (j 0).val ((j 1).val / 256) ((j 1).val % 256) : ℝ) : EReal)

/-- The key and value gradients as an array: 128 columns of each per head. -/
def dkvArray (x : Data) : (⟨2, ![4096, 2048]⟩ : Shape).Idx → EReal := fun j => ((x.dKV (j 0).val (j 1).val : ℝ) : EReal)

/-- The shared key's gradients as an array: 128 columns per head. -/
def dkrArray (x : Data) : (⟨2, ![4096, 1024]⟩ : Shape).Idx → EReal :=
  fun j => ((x.dK (j 0).val ((j 1).val / 128) (128 + (j 1).val % 128) : ℝ) : EReal)

end Cert.Attention.Data

namespace Cert.KernelIdeal.Bwd

open Idealize.ShloMosaic Idealize.ShloMosaic.TcCoe Idealize.SL.Sem Cert.KernelIdeal.Gen Cert.Attention

variable (m : (ℓ : Loc nD τ sig) → Buf (Elt Ideal) ℓ) (ρ : Dev nD → PrngReg) (x : Dev nD → Data)
  (H : ∀ c : Dev nD, Holds (x c) (m ((c : Thread nD τ).loc main_arg0)) (m ((c : Thread nD τ).loc main_arg1))
    (m ((c : Thread nD τ).loc main_arg2)) (m ((c : Thread nD τ).loc main_arg3)) (m ((c : Thread nD τ).loc main_arg4)))

include H

/-- The kernel's call ends with the attention's gradients in its results. -/
theorem run_values : θ_run defs (onTc (τ := τ) (main (F := Ideal))) (s₀ m ρ) (fun r => ∀ c : Dev nD,
    r.2.mem ((c.tc : Thread nD τ).loc main_v94_0) = (x c).dqArray
      ∧ r.2.mem ((c.tc : Thread nD τ).loc main_v94_1) = (x c).dkvArray
      ∧ r.2.mem ((c.tc : Thread nD τ).loc main_v94_2) = (x c).dkrArray
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 10).trans (final_q m c (H c)), ((h.1 c).1 11).trans (final_kv m c (H c)),
    ((h.1 c).1 12).trans (final_r m c (H c)), args_kept m r h.1 c⟩) (run_main m ρ)

end Cert.KernelIdeal.Bwd

namespace Cert.ReferenceIdeal.Attn

open Idealize.ShloMosaic Idealize.SL.Sem Idealize.ShloMosaic.StableHlo Cert.ReferenceIdeal.Read Cert.Attention

section

variable {x : Data} {x0 : FVec Ideal S4096x8x192 .f32} {x1 : FVec Ideal S4096x8x256 .f32} {x2 : FVec Ideal S4096x64 .f32}
  {x3 : IVec S4096 32} {x4 : FVec Ideal S4096x2048 .f32} (H : Holds x x0 x1 x2 x3 x4)

include H

theorem array_dq : val_main_v136 (F := Ideal) x0 x1 x2 x3 x4 = x.dqArray :=
  funext fun j => (congrArg _ (eq_ix2 (j : S4096x2048.Idx))).trans (result_dq H (j 0) (j 1))

theorem array_dkv : val_main_v140 (F := Ideal) x0 x1 x2 x3 x4 = x.dkvArray :=
  funext fun j => (congrArg _ (eq_ix2 (j : S4096x2048.Idx))).trans (result_dkv H (j 0) (j 1))

theorem array_dkr : val_main_v138 (F := Ideal) x0 x1 x2 x3 x4 = x.dkrArray :=
  funext fun j => (congrArg _ (eq_ix2 (j : S4096x1024.Idx))).trans (result_dkr H (j 0) (j 1))

end

/-- The reference ends with the attention's gradients in its results. -/
theorem run_values (m : (ℓ : Loc nD τ sig) → Buf (Elt Ideal) ℓ) (ρ : Dev nD → PrngReg) (x : Dev nD → Data)
    (H : ∀ c : Dev nD, Holds (x c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) :
    θ_run defs (onTc (τ := τ) (main (F := Ideal))) ⟨m, fun _ => 0, ρ⟩ (fun r => ∀ c : Dev nD,
      r.2.mem ((c.tc : Thread nD τ).loc main_v136) = (x c).dqArray
        ∧ r.2.mem ((c.tc : Thread nD τ).loc main_v140) = (x c).dkvArray
        ∧ r.2.mem ((c.tc : Thread nD τ).loc main_v138) = (x c).dkrArray
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c => ⟨(h c).1.trans ((val_main_v136_eq (launchContents m c)).trans (array_dq (H c))),
    (h c).2.1.trans ((val_main_v140_eq (launchContents m c)).trans (array_dkv (H c))),
    (h c).2.2.1.trans ((val_main_v138_eq (launchContents m c)).trans (array_dkr (H c))), (h c).2.2.2⟩) (Cert.ReferenceIdeal.Value.run m ρ)

end Cert.ReferenceIdeal.Attn

end
-- ==== Proof.MlpUp.lean ====
/- The gradient at the first projection's output: the kernel's blocks are those of one product, times the slope. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.StableHlo.RunRead
public import Idealize.ShloMosaic.Lib.Claim

@[expose] public section

set_option maxRecDepth 16384

noncomputable section

namespace Cert.Kernel2Ideal.Mlp

open Idealize.ShloMosaic Idealize.ShloMosaic.TcCoe Idealize.SL.Sem Cert.Kernel2Ideal.Gen Cert.Reference2Ideal.Read

variable (m : (ℓ : Loc nD τ sig) → Buf (Elt Ideal) ℓ) (ρ : Dev nD → PrngReg)

/-- Point `t` reads a row block of each factor and the ramp's block, and writes that block of the result. -/
theorem idx : ∀ t : Fin cfg0.N, win0_0.index t = ![t.val % 2, 0] ∧ win0_1.index t = ![t.val / 2, 0]
    ∧ win0_2.index t = ![t.val % 2, t.val / 2] ∧ win0_3.index t = ![t.val % 2, t.val / 2] :=
  (by decide +kernel : ∀ t : Fin grid0.N, _)

/-- The number itself where positive, zero elsewhere. -/
abbrev ramp (z : EReal) : EReal := max z 0

/-- The saved ramp, as the host writes it from the first projection's output. -/
theorem read_ramp (c : Dev nD) (i : S4096x8192.Idx) : V m c main_v2 i
    = ramp (m ((c : Thread nD τ).loc main_arg0) i) := by
  entry_read
  pointwise

theorem point (c : Dev nD) (t : Fin cfg0.N) (y : S2048x1024.Idx) :
    k0_pay1 (iblk m c 0 t) (iblk m c 1 t) (iblk m c 2 t) y
      = val_main_v14 (F := Ideal) (m ((c : Thread nD τ).loc main_arg0)) (m ((c : Thread nD τ).loc main_arg1)) (m ((c : Thread nD τ).loc main_arg2))
          (((cfg0.win 3).blk t).view.emb y) := by
  pointwise [k0_pay1, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_call0_cst, val_main_call0_v0]
  have e : (win0_2.blk t).view.emb y = (win0_3.blk t).view.emb y := by blk_ext [idx t]
  have e' : iblk m c 2 t y = ramp (m ((c : Thread nD τ).loc main_arg0) ((win0_3.blk t).view.emb y)) := by
    blk_simp [iblk]
    rw [read_ramp, e]
  rw [e']
  split
  · blk_point [iblk, idx t]
  · rename_i h
    have hz : ramp (m ((c : Thread nD τ).loc main_arg0) ((win0_3.blk t).view.emb y)) = 0 := max_eq_right (not_lt.mp h)
    rw [hz, mul_zero, mul_zero]

theorem final (c : Dev nD) : (dats m 0 c).arrAt 3 cfg0.N
    = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v3)
        = val_main_v14 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Kernel2Ideal.Mlp

end
-- ==== Proof.MlpDownGrad.lean ====
/- The gradient of the second projection's weights: the kernel's blocks are those of one product. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.StableHlo.RunRead
public import Idealize.ShloMosaic.Lib.Claim

@[expose] public section

set_option maxRecDepth 16384

noncomputable section

namespace Cert.Kernel3Ideal.Mlp

open Idealize.ShloMosaic Idealize.ShloMosaic.TcCoe Idealize.SL.Sem Cert.Kernel3Ideal.Gen Cert.Reference3Ideal.Read

variable (m : (ℓ : Loc nD τ sig) → Buf (Elt Ideal) ℓ) (ρ : Dev nD → PrngReg)

/-- Point `t` reads a column block of each factor and writes the block of the product they make. -/
theorem idx : ∀ t : Fin cfg0.N, win0_0.index t = ![0, t.val % 8] ∧ win0_1.index t = ![0, t.val / 8]
    ∧ win0_2.index t = ![t.val % 8, t.val / 8] :=
  (by decide +kernel : ∀ t : Fin grid0.N, _)

/-- The number itself where positive, zero elsewhere. -/
abbrev ramp (z : EReal) : EReal := max z 0

/-- The saved square of the ramp, as the host writes it from the first projection's output. -/
theorem read_square (c : Dev nD) (i : S4096x8192.Idx) : V m c main_v3 i
    = ramp (m ((c : Thread nD τ).loc main_arg0) i) * ramp (m ((c : Thread nD τ).loc main_arg0) i) := by
  entry_read
  pointwise

theorem point (c : Dev nD) (t : Fin cfg0.N) (y : S1024x1024.Idx) :
    k0_pay1 (iblk m c 0 t) (iblk m c 1 t) y
      = val_main_v7 (F := Ideal) (m ((c : Thread nD τ).loc main_arg0)) (m ((c : Thread nD τ).loc main_arg1))
          (((cfg0.win 2).blk t).view.emb y) := by
  pointwise [k0_pay1, val_main_v7, val_main_v6, val_main_v5, val_main_v4, val_main_v3, val_main_v2, val_main_v1, val_main_v0, val_main_cst, val_main_call0_cst, val_main_call0_v0]
  refine Fin.sum_fin_congr fun k => ?_
  rw [mul_comm]
  blk_point [iblk, idx t]
  rw [read_square]
  have e : (win0_0.blk t).view.emb (ix2 k (y 0)) = ix2 k ((win0_2.blk t).view.emb y 0) := by blk_ext [idx t]
  rw [e]
  rfl

theorem final (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v4)
        = val_main_v7 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel3Ideal.Mlp

end
-- ==== Proof.MlpInput.lean ====
/- The gradient at the MLP's input: the kernel adds a block's four partial products in its scratch. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.RunRead
public import Idealize.ShloMosaic.Lib.Claim

@[expose] public section

set_option maxRecDepth 16384

noncomputable section

namespace Cert.Kernel4Ideal.Mlp

open Idealize.ShloMosaic Idealize.ShloMosaic.TcCoe Idealize.SL.Sem Cert.Kernel4Ideal.Gen Cert.Reference4Ideal.Read

variable (m : (ℓ : Loc nD τ sig) → Buf (Elt Ideal) ℓ) (ρ : Dev nD → PrngReg)

/-- Point `t` reads the `t % 4`-th column block of the gradient's rows, and the same shard's rows of the weights. -/
theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- The first point of a block stores its partial product. -/
theorem first_at (v0 : Vec Ideal S1024x2048 .bf16) (v1 : Vec Ideal S1x1024x2048 .bf16) (j : S1024x1024.Idx) :
    k0_pay2 v0 v1 j = ∑ k : Fin 2048, v0 (ix2 (j 0) k) * v1 (ix3 0 (j 1) k) := by
  pointwise [k0_pay2, k0_pay1]

/-- The later points add theirs to what the scratch holds. -/
theorem later_at (v0 : Vec Ideal S1024x2048 .bf16) (v1 : Vec Ideal S1x1024x2048 .bf16) (acc : Vec Ideal S1024x1024 .f32)
    (j : S1024x1024.Idx) : k0_pay3 v0 v1 acc j = acc j + ∑ k : Fin 2048, v0 (ix2 (j 0) k) * v1 (ix3 0 (j 1) k) := by
  pointwise [k0_pay3, k0_pay1]

/-- The reference's product, shard by shard. -/
theorem reference_at (x0 : Vec Ideal S4x2048x2048 .bf16) (x1 : Vec Ideal S4096x8192 .bf16) (j : S4096x2048.Idx) :
    val_main_v6 (F := Ideal) x0 x1 j
      = ∑ l : Fin 8192, x1 (ix2 (j 0) l) * x0 (ix3 ⟨l.val / 2048, by omega⟩ (j 1) ⟨l.val % 2048, by omega⟩) := by
  pointwise [val_main_v6, val_main_v5, val_main_v4, val_main_v3, val_main_v2, val_main_v1, val_main_v0, val_main_cst]

/-- The partial product of point `t`: its 2048 of the 8192 terms. -/
def part (c : Dev nD) (t : Fin cfg0.N) (j : S1024x1024.Idx) : EReal :=
  ∑ k : Fin 2048, (show Vec Ideal S1024x2048 .bf16 from iblk m c 0 t) (ix2 (j 0) k)
    * (show Vec Ideal S1x1024x2048 .bf16 from iblk m c 1 t) (ix3 0 (j 1) k)

theorem scratch_first (c : Dev nD) (t : Fin cfg0.N) (h : t.val % 4 = 0) (j : S1024x1024.Idx) :
    (outsAt0 m c t.val t.isLt).2 j = 0 + part m c t j := by
  rw [outsAt0_A m c t h (by omega) (by omega)]
  frame_out
  exact (first_at _ _ j).trans (zero_add _).symm

theorem scratch_later (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + part m c t j := by
  by_cases h2 : t.val % 4 = 3
  · rw [outsAt0_C m c t h (by omega) h2]
    frame_out
    exact (congrArg (fun a => k0_pay3 _ _ a j) (Memref.IsWhole.read_unread (Memref.isWhole_whole cc0_scratch0) _)).trans (later_at _ _ _ j)
  · rw [outsAt0_B m c t h (by omega) h2]
    frame_out
    exact (congrArg (fun a => k0_pay3 _ _ a j) (Memref.IsWhole.read_unread (Memref.isWhole_whole cc0_scratch0) _)).trans (later_at _ _ _ j)

/-- What the scratch holds after a block's last point: the four partial products' sum. -/
theorem scratch_last (c : Dev nD) (t : Fin cfg0.N) (ht : t.val % 4 = 3) (j : S1024x1024.Idx) :
    (outsAt0 m c t.val t.isLt).2 j
      = 0 + ∑ s : Fin 4, part m c ⟨4 * (t.val / 4) + s.val, Pipeline.run_point_lt_of_flush t ht s⟩ j :=
  Pipeline.eq_sum_fin_of_reset_step_apply_of_flush (ι := S1024x1024.Idx) (M := EReal) (fun n h => (outsAt0 m c n h).2) 4
    (fun _ => 0) (part m c) (scratch_first m c) (scratch_later m c) t ht j

/-- A block's last point copies the scratch into the output's buffer. -/
theorem out_last (c : Dev nD) (t : Fin cfg0.N) (ht : t.val % 4 = 3) :
    (outsAt0 m c t.val t.isLt).1 = (outsAt0 m c t.val t.isLt).2 := by
  rw [outsAt0_C m c t (by omega) (by omega) ht]
  frame_out

theorem point (c : Dev nD) (t : Fin cfg0.N) (ht : t.val % 4 = 3) (y : S1024x1024.Idx) :
    (outsAt0 m c t.val t.isLt).2 y
      = val_main_v6 (F := Ideal) (m ((c : Thread nD τ).loc main_arg0)) (m ((c : Thread nD τ).loc main_arg1)) (((cfg0.win 2).blk t).view.emb y) := by
  rw [scratch_last m c t ht, zero_add]
  refine Eq.trans ?_ (reference_at _ _ _).symm
  unfold part
  refine Fin.sum_mul_add_congr fun s k hl => ?_
  blk_point [iblk, V, idx t, idx ⟨_, Pipeline.run_point_lt_of_flush t ht s⟩]

theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf)]
  exact point m c t ((flush0_2 t).mp hf) y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v6 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel4Ideal.Mlp

end
-- ==== Proof.MlpUpGrad.lean ====
/- The gradient of the first projection's weights: the kernel's blocks are the columns of one product. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.Kernel5Ideal.Mlp

open Idealize.ShloMosaic Idealize.ShloMosaic.TcCoe Idealize.SL.Sem Cert.Kernel5Ideal.Gen Cert.Reference5Ideal.Read

variable (m : (ℓ : Loc nD τ sig) → Buf (Elt Ideal) ℓ) (ρ : Dev nD → PrngReg)

/-- Point `t` reads a column block of each factor and writes the block of the product they make. -/
theorem idx : ∀ t : Fin cfg0.N, win0_0.index t = ![0, t.val % 2] ∧ win0_1.index t = ![0, t.val / 2]
    ∧ win0_2.index t = ![t.val / 4, t.val % 2, t.val / 2 % 2] :=
  (by decide +kernel : ∀ t : Fin grid0.N, _)

theorem point (c : Dev nD) (t : Fin cfg0.N) (y : S1x1024x1024.Idx) :
    k0_pay1 (iblk m c 0 t) (iblk m c 1 t) y
      = val_main_v8 (F := Ideal) (m ((c : Thread nD τ).loc main_arg0)) (m ((c : Thread nD τ).loc main_arg1))
          (((cfg0.win 2).blk t).view.emb y) := by
  pointwise [k0_pay1, val_main_v8, val_main_v7, val_main_v6, val_main_v5, val_main_v4, val_main_v3, val_main_v2, val_main_v1, val_main_v0]
  refine Fin.sum_fin_congr fun k => ?_
  rw [mul_comm]
  blk_point [iblk, V, idx t]

theorem final (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v8 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel5Ideal.Mlp

end
-- ==== Proof.OutInput.lean ====
/- The gradient at the output projection's input: the kernel's blocks are those of one product. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.Kernel6Ideal.Product

open Idealize.ShloMosaic Idealize.ShloMosaic.TcCoe Idealize.SL.Sem Cert.Kernel6Ideal.Gen Cert.Reference6Ideal.Read

variable (m : (ℓ : Loc nD τ sig) → Buf (Elt Ideal) ℓ) (ρ : Dev nD → PrngReg)

/-- Point `t` reads a row block of each factor and writes the block of the product they make. -/
theorem idx : ∀ t : Fin cfg0.N, win0_0.index t = ![t.val % 2, 0] ∧ win0_1.index t = ![t.val / 2, 0]
    ∧ win0_2.index t = ![t.val % 2, t.val / 2] :=
  (by decide +kernel : ∀ t : Fin grid0.N, _)

/-- What point `t` writes is the reference's product at the block's place. -/
theorem point (c : Dev nD) (t : Fin cfg0.N) (y : S2048x1024.Idx) :
    k0_pay1 (iblk m c 0 t) (iblk m c 1 t) y
      = val_main_v4 (F := Ideal) (m ((c : Thread nD τ).loc main_arg0)) (m ((c : Thread nD τ).loc main_arg1))
          (((cfg0.win 2).blk t).view.emb y) := by
  pointwise [k0_pay1, val_main_v4, val_main_v3, val_main_v2, val_main_v1, val_main_v0, val_main_cst]
  blk_point [iblk, V, idx t]

/-- The blocks cover the result. -/
theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v4 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel6Ideal.Product

end
-- ==== Proof.OutGrad.lean ====
/- The gradient of the output projection's weights: the kernel's blocks are those of one product. -/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.Kernel7Ideal.Product

open Idealize.ShloMosaic Idealize.ShloMosaic.TcCoe Idealize.SL.Sem Cert.Kernel7Ideal.Gen Cert.Reference7Ideal.Read

variable (m : (ℓ : Loc nD τ sig) → Buf (Elt Ideal) ℓ) (ρ : Dev nD → PrngReg)

/-- Point `t` reads a column block of each factor and writes the block of the product they make. -/
theorem idx : ∀ t : Fin cfg0.N, win0_0.index t = ![0, t.val % 2] ∧ win0_1.index t = ![0, t.val / 2]
    ∧ win0_2.index t = ![t.val % 2, t.val / 2] :=
  (by decide +kernel : ∀ t : Fin grid0.N, _)

/-- What point `t` writes is the reference's product at the block's place. -/
theorem point (c : Dev nD) (t : Fin cfg0.N) (y : S1024x1024.Idx) :
    k0_pay1 (iblk m c 0 t) (iblk m c 1 t) y
      = val_main_v6 (F := Ideal) (m ((c : Thread nD τ).loc main_arg0)) (m ((c : Thread nD τ).loc main_arg1))
          (((cfg0.win 2).blk t).view.emb y) := by
  pointwise [k0_pay1, val_main_v6, val_main_v5, val_main_v4, val_main_v3, val_main_v2, val_main_v1, val_main_v0, val_main_cst]
  refine Fin.sum_fin_congr fun k => ?_
  rw [mul_comm]
  blk_point [iblk, V, idx t]

/-- The blocks cover the result. -/
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v6 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel7Ideal.Product

end
-- ==== Proof.InInput.lean ====
/- The gradient at the input projection's input: the kernel adds a block's three partial products in its scratch. -/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

namespace Cert.Kernel8Ideal.Product

open Idealize.ShloMosaic Idealize.ShloMosaic.TcCoe Idealize.SL.Sem Cert.Kernel8Ideal.Gen Cert.Reference8Ideal.Read

variable (m : (ℓ : Loc nD τ sig) → Buf (Elt Ideal) ℓ) (ρ : Dev nD → PrngReg)

/-- Point `t` reads the `t % 3`-th column block of the gradient's rows, and the same rows of the weights. -/
theorem idx : ∀ t : Fin cfg0.N, win0_0.index t = ![t.val / 6, t.val % 3] ∧ win0_1.index t = ![t.val % 3, t.val / 3 % 2]
    ∧ win0_2.index t = ![t.val / 6, t.val / 3 % 2] :=
  (by decide +kernel : ∀ t : Fin grid0.N, _)

/-- The first point of a block stores its partial product. -/
theorem first_at (v0 : Vec Ideal S1024x1408 .bf16) (v1 : Vec Ideal S1408x1024 .bf16) (j : S1024x1024.Idx) :
    k0_pay2 v0 v1 j = ∑ k : Fin 1408, v0 (ix2 (j 0) k) * v1 (ix2 k (j 1)) := by
  pointwise [k0_pay2, k0_pay1]

/-- The later points add theirs to what the scratch holds. -/
theorem later_at (v0 : Vec Ideal S1024x1408 .bf16) (v1 : Vec Ideal S1408x1024 .bf16) (acc : Vec Ideal S1024x1024 .f32)
    (j : S1024x1024.Idx) : k0_pay3 v0 v1 acc j = acc j + ∑ k : Fin 1408, v0 (ix2 (j 0) k) * v1 (ix2 k (j 1)) := by
  pointwise [k0_pay3, k0_pay1]

/-- The reference's product, as one sum. -/
theorem reference_at (x0 : Vec Ideal S4224x2048 .bf16) (x1 : Vec Ideal S4096x4224 .bf16) (j : S4096x2048.Idx) :
    val_main_v5 (F := Ideal) x0 x1 j = ∑ l : Fin 4224, x1 (ix2 (j 0) l) * x0 (ix2 l (j 1)) := by
  pointwise [val_main_v5, val_main_v4, val_main_v3, val_main_v2, val_main_v1, val_main_v0, val_main_cst]

/-- The partial product of point `t`: its 1408 of the 4224 terms. -/
def part (c : Dev nD) (t : Fin cfg0.N) (j : S1024x1024.Idx) : EReal :=
  ∑ k : Fin 1408, (show Vec Ideal S1024x1408 .bf16 from iblk m c 0 t) (ix2 (j 0) k)
    * (show Vec Ideal S1408x1024 .bf16 from iblk m c 1 t) (ix2 k (j 1))

/-- A block's first point puts its partial product into the scratch. -/
theorem scratch_first (c : Dev nD) (t : Fin cfg0.N) (h : t.val % 3 = 0) (j : S1024x1024.Idx) :
    (outsAt0 m c t.val t.isLt).2 j = 0 + part m c t j := by
  rw [outsAt0_A m c t h (by omega) (by omega)]
  frame_out
  exact (first_at _ _ j).trans (zero_add _).symm

/-- A later point adds its partial product to the scratch. -/
theorem scratch_later (c : Dev nD) (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + part m c t j := by
  by_cases h2 : t.val % 3 = 2
  · rw [outsAt0_C m c t h (by omega) h2]
    frame_out
    exact (congrArg (fun a => k0_pay3 _ _ a j) (Memref.IsWhole.read_unread (Memref.isWhole_whole cc0_scratch0) _)).trans (later_at _ _ _ j)
  · rw [outsAt0_B m c t h (by omega) h2]
    frame_out
    exact (congrArg (fun a => k0_pay3 _ _ a j) (Memref.IsWhole.read_unread (Memref.isWhole_whole cc0_scratch0) _)).trans (later_at _ _ _ j)

/-- What the scratch holds after a block's last point: the three partial products' sum. -/
theorem scratch_last (c : Dev nD) (t : Fin cfg0.N) (ht : t.val % 3 = 2) (j : S1024x1024.Idx) :
    (outsAt0 m c t.val t.isLt).2 j
      = 0 + ∑ s : Fin 3, part m c ⟨3 * (t.val / 3) + s.val, Pipeline.run_point_lt_of_flush t ht s⟩ j :=
  Pipeline.eq_sum_fin_of_reset_step_apply_of_flush (ι := S1024x1024.Idx) (M := EReal) (fun n h => (outsAt0 m c n h).2) 3
    (fun _ => 0) (part m c) (scratch_first m c) (scratch_later m c) t ht j

/-- A block's last point copies the scratch into the output's buffer. -/
theorem out_last (c : Dev nD) (t : Fin cfg0.N) (ht : t.val % 3 = 2) :
    (outsAt0 m c t.val t.isLt).1 = (outsAt0 m c t.val t.isLt).2 := by
  rw [outsAt0_C m c t (by omega) (by omega) ht]
  frame_out

/-- After a block's last point the scratch is the reference's product at the block's place. -/
theorem point (c : Dev nD) (t : Fin cfg0.N) (ht : t.val % 3 = 2) (y : S1024x1024.Idx) :
    (outsAt0 m c t.val t.isLt).2 y
      = val_main_v5 (F := Ideal) (m ((c : Thread nD τ).loc main_arg0)) (m ((c : Thread nD τ).loc main_arg1)) (((cfg0.win 2).blk t).view.emb y) := by
  rw [scratch_last m c t ht, zero_add]
  refine Eq.trans ?_ (reference_at _ _ _).symm
  unfold part
  refine Fin.sum_mul_add_congr fun s k hl => ?_
  blk_point [iblk, V, idx t, idx ⟨_, Pipeline.run_point_lt_of_flush t ht s⟩]

/-- The blocks cover the result. -/
theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf)]
  exact point m c t ((flush0_2 t).mp hf) y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v5 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel8Ideal.Product

end
-- ==== Proof.InGrad.lean ====
/- The gradient of the input projection's weights: the kernel's blocks are those of one product. -/
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit

@[expose] public section

set_option maxRecDepth 16384

noncomputable section

namespace Cert.Kernel9Ideal.Product

open Idealize.ShloMosaic Idealize.ShloMosaic.TcCoe Idealize.SL.Sem Cert.Kernel9Ideal.Gen Cert.Reference9Ideal.Read

variable (m : (ℓ : Loc nD τ sig) → Buf (Elt Ideal) ℓ) (ρ : Dev nD → PrngReg)

/-- Point `t` reads a column block of each factor and writes the block of the product they make. -/
theorem idx : ∀ t : Fin cfg0.N, win0_0.index t = ![0, t.val % 3] ∧ win0_1.index t = ![0, t.val / 3]
    ∧ win0_2.index t = ![t.val % 3, t.val / 3] :=
  (by decide +kernel : ∀ t : Fin grid0.N, _)

/-- What point `t` writes is the reference's product at the block's place. -/
theorem point (c : Dev nD) (t : Fin cfg0.N) (y : S1408x1024.Idx) :
    k0_pay1 (iblk m c 0 t) (iblk m c 1 t) y
      = val_main_v8 (F := Ideal) (m ((c : Thread nD τ).loc main_arg0)) (m ((c : Thread nD τ).loc main_arg1))
          (((cfg0.win 2).blk t).view.emb y) := by
  pointwise [k0_pay1, val_main_v8, val_main_v7, val_main_v6, val_main_v5, val_main_v4, val_main_v3, val_main_v2, val_main_v1, val_main_v0, val_main_cst]
  blk_point [iblk, V, idx t]

/-- The blocks cover the result. -/
theorem final (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v8 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel9Ideal.Product

end
-- ==== Proof.LatentInput.lean ====
/- The gradient at a latent: the kernel's blocks are those of one product. -/
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit

@[expose] public section

set_option maxRecDepth 16384

noncomputable section

namespace Cert.Kernel10Ideal.Product

open Idealize.ShloMosaic Idealize.ShloMosaic.TcCoe Idealize.SL.Sem Cert.Kernel10Ideal.Gen Cert.Reference10Ideal.Read

variable (m : (ℓ : Loc nD τ sig) → Buf (Elt Ideal) ℓ) (ρ : Dev nD → PrngReg)

/-- Point `t` reads a row block of the gradient and the weights and writes the block of the product they make. -/
theorem idx : ∀ t : Fin cfg0.N, win0_0.index t = ![t.val, 0] ∧ win0_1.index t = ![0, 0]
    ∧ win0_2.index t = ![t.val, 0] :=
  (by decide +kernel : ∀ t : Fin grid0.N, _)

/-- What point `t` writes is the reference's product at the block's place. -/
theorem point (c : Dev nD) (t : Fin cfg0.N) (y : S2048x512.Idx) :
    k0_pay1 (iblk m c 0 t) (iblk m c 1 t) y
      = val_main_v4 (F := Ideal) (m ((c : Thread nD τ).loc main_arg0)) (m ((c : Thread nD τ).loc main_arg1))
          (((cfg0.win 2).blk t).view.emb y) := by
  pointwise [k0_pay1, val_main_v4, val_main_v3, val_main_v2, val_main_v1, val_main_v0, val_main_cst]
  blk_point [iblk, V, idx t]

/-- The blocks cover the result. -/
theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v4 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel10Ideal.Product

end
-- ==== Proof.LatentGrad.lean ====
/- The gradient of a latent's weights: the kernel's blocks are those of one product. -/
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit

@[expose] public section

set_option maxRecDepth 16384

noncomputable section

namespace Cert.Kernel11Ideal.Product

open Idealize.ShloMosaic Idealize.ShloMosaic.TcCoe Idealize.SL.Sem Cert.Kernel11Ideal.Gen Cert.Reference11Ideal.Read

variable (m : (ℓ : Loc nD τ sig) → Buf (Elt Ideal) ℓ) (ρ : Dev nD → PrngReg)

/-- Point `t` reads the latent and a column block of the gradient and writes the block of the product they make. -/
theorem idx : ∀ t : Fin cfg0.N, win0_0.index t = ![0, 0] ∧ win0_1.index t = ![0, t.val]
    ∧ win0_2.index t = ![0, t.val] :=
  (by decide +kernel : ∀ t : Fin grid0.N, _)

/-- What point `t` writes is the reference's product at the block's place. -/
theorem point (c : Dev nD) (t : Fin cfg0.N) (y : S512x1024.Idx) :
    k0_pay1 (iblk m c 0 t) (iblk m c 1 t) y
      = val_main_v6 (F := Ideal) (m ((c : Thread nD τ).loc main_arg0)) (m ((c : Thread nD τ).loc main_arg1))
          (((cfg0.win 2).blk t).view.emb y) := by
  pointwise [k0_pay1, val_main_v6, val_main_v5, val_main_v4, val_main_v3, val_main_v2, val_main_v1, val_main_v0, val_main_cst]
  refine Fin.sum_fin_congr fun k => ?_
  rw [mul_comm]
  blk_point [iblk, V, idx t]

/-- The blocks cover the result. -/
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v6 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel11Ideal.Product

end
-- ==== Proof.MlpRamp.lean ====
/- The MLP's first projection: the kernel's blocks are the ramp of one product's and its square. -/
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit

@[expose] public section

set_option maxRecDepth 16384

noncomputable section

namespace Cert.Kernel12Ideal.Product

open Idealize.ShloMosaic Idealize.ShloMosaic.TcCoe Idealize.SL.Sem Cert.Kernel12Ideal.Gen Cert.Reference12Ideal.Read

variable (m : (ℓ : Loc nD τ sig) → Buf (Elt Ideal) ℓ) (ρ : Dev nD → PrngReg)

/-- Point `t` reads a row block of the input and a column block of a shard of the weights. -/
theorem idx : ∀ t : Fin cfg0.N, win0_0.index t = ![t.val % 2, 0] ∧ win0_1.index t = ![t.val / 4, 0, t.val / 2 % 2]
    ∧ win0_2.index t = ![t.val % 2, t.val / 2] ∧ win0_3.index t = ![t.val % 2, t.val / 2] :=
  (by decide +kernel : ∀ t : Fin grid0.N, _)

/-- The ramp of the product that point `t` computes is the reference's at the block's place. -/
theorem ramp_at (c : Dev nD) (t : Fin cfg0.N) (y : S2048x1024.Idx) :
    k0_pay1 (iblk m c 0 t) (iblk m c 1 t) y
      = val_main_v5 (F := Ideal) (m ((c : Thread nD τ).loc main_arg0)) (m ((c : Thread nD τ).loc main_arg1))
          (((cfg0.win 3).blk t).view.emb y) := by
  pointwise [k0_pay1, val_main_v5, val_main_v4, val_main_v3, val_main_v2, val_main_v1, val_main_v0, val_main_call0_cst, val_main_call0_v0]
  refine congrArg (max · 0) ?_
  blk_point [iblk, V, idx t]

/-- What point `t` writes into the ramp's block. -/
theorem point (c : Dev nD) (t : Fin cfg0.N) (y : S2048x1024.Idx) :
    k0_pay3 (iblk m c 0 t) (iblk m c 1 t) y
      = val_main_v8 (F := Ideal) (m ((c : Thread nD τ).loc main_arg0)) (m ((c : Thread nD τ).loc main_arg1))
          (((cfg0.win 3).blk t).view.emb y) :=
  ramp_at m c t y

/-- What point `t` writes into the square's block, at the same place. -/
theorem point_square (c : Dev nD) (t : Fin cfg0.N) (y : S2048x1024.Idx) :
    k0_pay2 (iblk m c 0 t) (iblk m c 1 t) y
      = val_main_v7 (F := Ideal) (m ((c : Thread nD τ).loc main_arg0)) (m ((c : Thread nD τ).loc main_arg1))
          (((cfg0.win 2).blk t).view.emb y) := by
  have e : (win0_2.blk t).view.emb y = (win0_3.blk t).view.emb y := by blk_ext [idx t]
  refine Eq.trans ?_ (congrArg (val_main_v7 (F := Ideal) (m ((c : Thread nD τ).loc main_arg0)) (m ((c : Thread nD τ).loc main_arg1))) e.symm)
  exact congrArg₂ (· * · : EReal → EReal → EReal) (ramp_at m c t y) (ramp_at m c t y)

/-- The blocks cover the square. -/
theorem final_square (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point_square m c t y

/-- The blocks cover the ramp. -/
theorem final (c : Dev nD) : (dats m 0 c).arrAt 3 cfg0.N
    = val_main_v8 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point m c t y

/-- The kernel's call ends with the reference's arrays, of its own arguments, in its results. -/
theorem run_value : θ_run defs (onTc (τ := τ) (main (F := Ideal))) ⟨m, fun _ => 0, ρ⟩ fun r => ∀ c : Dev nD,
    r.2.mem ((c : Thread nD τ).loc main_v0_0)
        = val_main_v7 (F := Ideal) (m ((c : Thread nD τ).loc main_arg0)) (m ((c : Thread nD τ).loc main_arg1))
      ∧ r.2.mem ((c : Thread nD τ).loc main_v0_1)
        = val_main_v8 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_square m c), (h c).2.1.trans (final m c), (h c).2.2⟩) (Value.run_blocks m ρ)

end Cert.Kernel12Ideal.Product

end
-- ==== Proof.MlpForward.lean ====
/- The MLP's second projection: the kernel adds a block's four partial products in its scratch. -/
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit

@[expose] public section

set_option maxRecDepth 16384

noncomputable section

namespace Cert.Kernel13Ideal.Product

open Idealize.ShloMosaic Idealize.ShloMosaic.TcCoe Idealize.SL.Sem Cert.Kernel13Ideal.Gen Cert.Reference13Ideal.Read

variable (m : (ℓ : Loc nD τ sig) → Buf (Elt Ideal) ℓ) (ρ : Dev nD → PrngReg)

/-- Point `t` reads the `t % 4`-th column block of the activations' rows, and the same rows of the weights. -/
theorem idx : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

/-- The first point of a block stores its partial product. -/
theorem first_at (v0 : Vec Ideal S1024x2048 .bf16) (v1 : Vec Ideal S2048x1024 .bf16) (j : S1024x1024.Idx) :
    k0_pay2 v0 v1 j = ∑ k : Fin 2048, v0 (ix2 (j 0) k) * v1 (ix2 k (j 1)) := by
  pointwise [k0_pay2, k0_pay1]

/-- The later points add theirs to what the scratch holds. -/
theorem later_at (v0 : Vec Ideal S1024x2048 .bf16) (v1 : Vec Ideal S2048x1024 .bf16) (acc : Vec Ideal S1024x1024 .f32)
    (j : S1024x1024.Idx) : k0_pay3 v0 v1 acc j = acc j + ∑ k : Fin 2048, v0 (ix2 (j 0) k) * v1 (ix2 k (j 1)) := by
  pointwise [k0_pay3, k0_pay1]

/-- The reference's product, as one sum. -/
theorem reference_at (x0 : Vec Ideal S4096x8192 .bf16) (x1 : Vec Ideal S8192x2048 .bf16) (j : S4096x2048.Idx) :
    val_main_v2 (F := Ideal) x0 x1 j = ∑ l : Fin 8192, x0 (ix2 (j 0) l) * x1 (ix2 l (j 1)) := by
  pointwise [val_main_v2, val_main_v1, val_main_v0]

/-- The partial product of point `t`: its 2048 of the 8192 terms. -/
def part (c : Dev nD) (t : Fin cfg0.N) (j : S1024x1024.Idx) : EReal :=
  ∑ k : Fin 2048, (show Vec Ideal S1024x2048 .bf16 from iblk m c 0 t) (ix2 (j 0) k)
    * (show Vec Ideal S2048x1024 .bf16 from iblk m c 1 t) (ix2 k (j 1))

/-- A block's first point puts its partial product into the scratch. -/
theorem scratch_first (c : Dev nD) (t : Fin cfg0.N) (h : t.val % 4 = 0) (j : S1024x1024.Idx) :
    (outsAt0 m c t.val t.isLt).2 j = 0 + part m c t j := by
  rw [outsAt0_A m c t h (by omega) (by omega)]
  frame_out
  exact (first_at _ _ j).trans (zero_add _).symm

/-- A later point adds its partial product to the scratch. -/
theorem scratch_later (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + part m c t j := by
  by_cases h2 : t.val % 4 = 3
  · rw [outsAt0_C m c t h (by omega) h2]
    frame_out
    exact (congrArg (fun a => k0_pay3 _ _ a j) (Memref.IsWhole.read_unread (Memref.isWhole_whole cc0_scratch0) _)).trans (later_at _ _ _ j)
  · rw [outsAt0_B m c t h (by omega) h2]
    frame_out
    exact (congrArg (fun a => k0_pay3 _ _ a j) (Memref.IsWhole.read_unread (Memref.isWhole_whole cc0_scratch0) _)).trans (later_at _ _ _ j)

/-- What the scratch holds after a block's last point: the four partial products' sum. -/
theorem scratch_last (c : Dev nD) (t : Fin cfg0.N) (ht : t.val % 4 = 3) (j : S1024x1024.Idx) :
    (outsAt0 m c t.val t.isLt).2 j
      = 0 + ∑ s : Fin 4, part m c ⟨4 * (t.val / 4) + s.val, Pipeline.run_point_lt_of_flush t ht s⟩ j :=
  Pipeline.eq_sum_fin_of_reset_step_apply_of_flush (ι := S1024x1024.Idx) (M := EReal) (fun n h => (outsAt0 m c n h).2) 4
    (fun _ => 0) (part m c) (scratch_first m c) (scratch_later m c) t ht j

/-- A block's last point copies the scratch into the output's buffer. -/
theorem out_last (c : Dev nD) (t : Fin cfg0.N) (ht : t.val % 4 = 3) :
    (outsAt0 m c t.val t.isLt).1 = (outsAt0 m c t.val t.isLt).2 := by
  rw [outsAt0_C m c t (by omega) (by omega) ht]
  frame_out

/-- After a block's last point the scratch is the reference's product at the block's place. -/
theorem point (c : Dev nD) (t : Fin cfg0.N) (ht : t.val % 4 = 3) (y : S1024x1024.Idx) :
    (outsAt0 m c t.val t.isLt).2 y
      = val_main_v2 (F := Ideal) (m ((c : Thread nD τ).loc main_arg0)) (m ((c : Thread nD τ).loc main_arg1)) (((cfg0.win 2).blk t).view.emb y) := by
  rw [scratch_last m c t ht, zero_add]
  refine Eq.trans ?_ (reference_at _ _ _).symm
  unfold part
  refine Fin.sum_mul_add_congr fun s k hl => ?_
  blk_point [iblk, V, idx t, idx ⟨_, Pipeline.run_point_lt_of_flush t ht s⟩]

/-- The blocks cover the result. -/
theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf)]
  exact point m c t ((flush0_2 t).mp hf) y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v2 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel13Ideal.Product

end
-- ==== Proof.InForward.lean ====
/- The input projection: the kernel's blocks are those of one product. -/
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit

@[expose] public section

set_option maxRecDepth 16384

noncomputable section

namespace Cert.Kernel14Ideal.Product

open Idealize.ShloMosaic Idealize.ShloMosaic.TcCoe Idealize.SL.Sem Cert.Kernel14Ideal.Gen Cert.Reference14Ideal.Read

variable (m : (ℓ : Loc nD τ sig) → Buf (Elt Ideal) ℓ) (ρ : Dev nD → PrngReg)

/-- Point `t` reads a row block of each factor and writes the block of the product they make. -/
theorem idx : ∀ t : Fin cfg0.N, win0_0.index t = ![t.val % 4, 0] ∧ win0_1.index t = ![t.val / 4, 0]
    ∧ win0_2.index t = ![t.val % 4, t.val / 4] :=
  (by decide +kernel : ∀ t : Fin grid0.N, _)

/-- What point `t` writes is the reference's product at the block's place. -/
theorem point (c : Dev nD) (t : Fin cfg0.N) (y : S1024x1408.Idx) :
    k0_pay1 (iblk m c 0 t) (iblk m c 1 t) y
      = val_main_v3 (F := Ideal) (m ((c : Thread nD τ).loc main_arg0)) (m ((c : Thread nD τ).loc main_arg1))
          (((cfg0.win 2).blk t).view.emb y) := by
  pointwise [k0_pay1, val_main_v3, val_main_v2, val_main_v1, val_main_v0]
  blk_point [iblk, V, idx t]

/-- The blocks cover the result. -/
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v3 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel14Ideal.Product

end
-- ==== Proof.OutForward.lean ====
/- The output projection: the kernel's blocks are those of one product. -/
module

public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit

@[expose] public section

set_option maxRecDepth 16384

noncomputable section

namespace Cert.Kernel15Ideal.Product

open Idealize.ShloMosaic Idealize.ShloMosaic.TcCoe Idealize.SL.Sem Cert.Kernel15Ideal.Gen Cert.Reference15Ideal.Read

variable (m : (ℓ : Loc nD τ sig) → Buf (Elt Ideal) ℓ) (ρ : Dev nD → PrngReg)

/-- Point `t` reads a row block and a column block and writes the block of the product they make. -/
theorem idx : ∀ t : Fin cfg0.N, win0_0.index t = ![t.val % 2, 0] ∧ win0_1.index t = ![0, t.val / 2]
    ∧ win0_2.index t = ![t.val % 2, t.val / 2] :=
  (by decide +kernel : ∀ t : Fin grid0.N, _)

/-- What point `t` writes is the reference's product at the block's place. -/
theorem point (c : Dev nD) (t : Fin cfg0.N) (y : S2048x1024.Idx) :
    k0_pay1 (iblk m c 0 t) (iblk m c 1 t) y
      = val_main_v2 (F := Ideal) (m ((c : Thread nD τ).loc main_arg0)) (m ((c : Thread nD τ).loc main_arg1))
          (((cfg0.win 2).blk t).view.emb y) := by
  pointwise [k0_pay1, val_main_v2, val_main_v1, val_main_v0]
  blk_point [iblk, V, idx t]

/-- The blocks cover the result. -/
theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v2 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel15Ideal.Product

end
-- ==== Proof.LatentForward.lean ====
/- The keys and values of the latent: the kernel's blocks are those of one product. -/
module

public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit

@[expose] public section

set_option maxRecDepth 16384

noncomputable section

namespace Cert.Kernel16Ideal.Product

open Idealize.ShloMosaic Idealize.ShloMosaic.TcCoe Idealize.SL.Sem Cert.Kernel16Ideal.Gen Cert.Reference16Ideal.Read

variable (m : (ℓ : Loc nD τ sig) → Buf (Elt Ideal) ℓ) (ρ : Dev nD → PrngReg)

/-- Point `t` reads a row block and a column block and writes the block of the product they make. -/
theorem idx : ∀ t : Fin cfg0.N, win0_0.index t = ![t.val % 2, 0] ∧ win0_1.index t = ![0, t.val / 2]
    ∧ win0_2.index t = ![t.val % 2, t.val / 2] :=
  (by decide +kernel : ∀ t : Fin grid0.N, _)

/-- What point `t` writes is the reference's product at the block's place. -/
theorem point (c : Dev nD) (t : Fin cfg0.N) (y : S2048x1024.Idx) :
    k0_pay1 (iblk m c 0 t) (iblk m c 1 t) y
      = val_main_v3 (F := Ideal) (m ((c : Thread nD τ).loc main_arg0)) (m ((c : Thread nD τ).loc main_arg1))
          (((cfg0.win 2).blk t).view.emb y) := by
  pointwise [k0_pay1, val_main_v3, val_main_v2, val_main_v1, val_main_v0]
  blk_point [iblk, V, idx t]

/-- The blocks cover the result. -/
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's call ends with the reference's array, of its own arguments, in its result. -/
theorem run_value : θ_run defs (onTc (τ := τ) (main (F := Ideal))) ⟨m, fun _ => 0, ρ⟩ fun r => ∀ c : Dev nD,
    r.2.mem ((c : Thread nD τ).loc main_v0)
        = val_main_v3 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel16Ideal.Product

end
-- ==== Proof.NormGrad.lean ====
/- The gradient of the first norm in its input: the kernel's row formula and the derivative are the same real number. -/
module

public import proofs.«01_k».proof.Proof.Finite
public import proofs.«01_k».proof.Proof.Gen.Kernel17Ideal.Value
public import proofs.«01_k».proof.Proof.Gen.Reference17Ideal.Run
public import proofs.«01_k».proof.Proof.Gen.Reference17Ideal.Read
public import proofs.«01_k».proof.Pre_finite_rows
public import Idealize.ShloMosaic.Lib.Pipeline.ValueKit
public import Idealize.ShloMosaic.Lib.StableHlo.RunRead
public import Idealize.ShloMosaic.Lib.Claim

@[expose] public section

set_option maxRecDepth 16384

noncomputable section

namespace Cert.Kernel17Ideal.Norm

open Idealize.ShloMosaic Idealize.ShloMosaic.TcCoe Idealize.SL.Sem Cert.Kernel17Ideal.Gen Cert.Reference17Ideal.Read

/-- A row's mean square plus the norm's epsilon. -/
def meanSq (a : Fin 2048 → EReal) : EReal :=
  Ideal.div (∑ k, a k * a k) (Ideal.ofBits .f32 0x45000000#32) + Ideal.ofBits .f32 0x358637BD#32

/-- The kernel's gradient of a row. -/
def kernelGrad (a g d : Fin 2048 → EReal) (y : EReal) (j : Fin 2048) : EReal :=
  y + Ideal.rsqrt (meanSq a) * (d j * g j - a j * Ideal.rsqrt (meanSq a)
    * Ideal.div (∑ k, d k * g k * (a k * Ideal.rsqrt (meanSq a))) (Ideal.ofBits .f32 0x45000000#32))

/-- The slope that the derivative of the mean square passes to a row. -/
def slope (a g d : Fin 2048 → EReal) : EReal :=
  Ideal.div ((∑ k, a k * (d k * g k)) * (Ideal.ofBits .f32 0xBF000000#32 * Ideal.div (Ideal.rsqrt (meanSq a)) (meanSq a)))
    (Ideal.ofBits .f32 0x45000000#32)

/-- The derivative's row. -/
def referenceGrad (a g d : Fin 2048 → EReal) (y : EReal) (j : Fin 2048) : EReal :=
  y + (d j * g j * Ideal.rsqrt (meanSq a) + a j * slope a g d + slope a g d * a j)

/-- The kernel's payload is its row formula. -/
theorem payload_at (x d y : Vec Ideal S256x2048 .f32) (g : Vec Ideal S1x2048 .f32) (i : S256x2048.Idx) :
    k0_pay4 x d g y i = kernelGrad (fun k => x (ix2 (i 0) k)) (fun k => g (ix2 0 k)) (fun k => d (ix2 (i 0) k)) (y i) (i 1) := by
  unfold kernelGrad meanSq
  pointwise [k0_pay4, k0_pay3, k0_pay2]

/-- The reference's result is the derivative's row. -/
theorem reference_at (x : Vec Ideal S4096x2048 .f32) (g : Vec Ideal S2048 .f32) (d y : Vec Ideal S4096x2048 .f32) (i : S4096x2048.Idx) :
    val_main_v52 (F := Ideal) x g d y i
      = referenceGrad (fun k => x (ix2 (i 0) k)) (fun k => g (ix1 k)) (fun k => d (ix2 (i 0) k)) (y i) (i 1) := by
  unfold referenceGrad slope meanSq
  pointwise [val_main_v52, val_main_v31, val_main_v30, val_main_v29, val_main_v28, val_main_v27, val_main_v26, val_main_v25,
    val_main_v24, val_main_v23, val_main_v22, val_main_v21, val_main_v20, val_main_v19, val_main_v18, val_main_v17, val_main_v16,
    val_main_v13, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4, val_main_cst_5]
  simp only [Fin.sum_univ_one]

theorem ofBits_2048 : Ideal.ofBits .f32 0x45000000#32 = ((2048 : ℝ) : EReal) := by
  simp [Ideal.ofBits, Ideal.ieee]; rw [← EReal.coe_mul]; norm_num

theorem ofBits_neg_half : Ideal.ofBits .f32 0xBF000000#32 = ((-1 / 2 : ℝ) : EReal) := by
  simp [Ideal.ofBits, Ideal.ieee]; rw [← EReal.coe_mul, ← EReal.coe_neg]; norm_num

/-- The norm's epsilon, the float next to a millionth. -/
def eps : ℝ := 8796093 / 2 ^ 43

theorem ofBits_eps : Ideal.ofBits .f32 0x358637BD#32 = ((eps : ℝ) : EReal) := by
  unfold eps
  simp [Ideal.ofBits, Ideal.ieee]; rw [← EReal.coe_mul]; norm_num

/-- The mean square of a real row plus epsilon. -/
def meanSqReal (a : Fin 2048 → ℝ) : ℝ := (∑ k, a k * a k) / 2048 + eps

theorem meanSqReal_pos (a : Fin 2048 → ℝ) : 0 < meanSqReal a :=
  add_pos_of_nonneg_of_pos (div_nonneg (Finset.sum_nonneg fun k _ => mul_self_nonneg (a k)) (by norm_num)) (by unfold eps; norm_num)

theorem meanSq_coe (a : Fin 2048 → ℝ) : meanSq (fun k => ((a k : ℝ) : EReal)) = ((meanSqReal a : ℝ) : EReal) := by
  unfold meanSq meanSqReal
  simp only [← EReal.coe_mul, Attention.sum_coe]
  rw [ofBits_2048, ofBits_eps, Attention.div_real _ (by norm_num), ← EReal.coe_add]

theorem rsqrt_pos {v : ℝ} (hv : 0 < v) : Ideal.rsqrt (v : EReal) = (((√v)⁻¹ : ℝ) : EReal) := by
  rw [Ideal.rsqrt_coe, if_neg (not_lt.2 hv.le), if_neg hv.ne']

/-- On real rows the kernel's formula is the derivative. -/
theorem grads_eq (a g d : Fin 2048 → ℝ) (y : ℝ) (j : Fin 2048) :
    kernelGrad (fun k => ((a k : ℝ) : EReal)) (fun k => ((g k : ℝ) : EReal)) (fun k => ((d k : ℝ) : EReal)) y j
      = referenceGrad (fun k => ((a k : ℝ) : EReal)) (fun k => ((g k : ℝ) : EReal)) (fun k => ((d k : ℝ) : EReal)) y j := by
  have hv := meanSqReal_pos a
  unfold kernelGrad referenceGrad slope
  simp only [meanSq_coe, rsqrt_pos hv, ofBits_2048, ofBits_neg_half, ← EReal.coe_mul, Attention.sum_coe,
    Attention.div_real _ hv.ne', Attention.div_real _ (by norm_num : (2048 : ℝ) ≠ 0), ← EReal.coe_add, ← EReal.coe_sub]
  congr 1
  have hs : 0 < √(meanSqReal a) := Real.sqrt_pos.2 hv
  have hss : meanSqReal a = √(meanSqReal a) * √(meanSqReal a) := (Real.mul_self_sqrt hv.le).symm
  generalize √(meanSqReal a) = s at hs hss ⊢
  rw [hss, show ∑ k, d k * g k * (a k * s⁻¹) = (∑ k, a k * (d k * g k)) * s⁻¹ by
    rw [Finset.sum_mul]; exact Finset.sum_congr rfl fun k _ => by ring]
  generalize ∑ k, a k * (d k * g k) = T
  field_simp
  ring

theorem kernelGrad_congr {a a' g g' d d' : Fin 2048 → EReal} {y y' : EReal} {j j' : Fin 2048} (ha : a = a') (hg : g = g')
    (hd : d = d') (hy : y = y') (hj : j = j') : kernelGrad a g d y j = kernelGrad a' g' d' y' j' := by
  rw [ha, hg, hd, hy, hj]

/-- The arguments are real numbers. -/
structure Real4 (x : FVec Ideal S4096x2048 .f32) (g : FVec Ideal S2048 .f32) (d y : FVec Ideal S4096x2048 .f32) : Prop where
  x : ∀ i, x i = (((x i : EReal).toReal : ℝ) : EReal)
  g : ∀ i, g i = (((g i : EReal).toReal : ℝ) : EReal)
  d : ∀ i, d i = (((d i : EReal).toReal : ℝ) : EReal)
  y : ∀ i, y i = (((y i : EReal).toReal : ℝ) : EReal)

/-- Where the precondition holds, the arguments are real. -/
theorem real_of_finite [Cert.Pre_finite_rows.Facts] (x : FVec Ideal S4096x2048 .f32) (g : FVec Ideal S2048 .f32)
    (d y : FVec Ideal S4096x2048 .f32) (h : Cert.Pre_finite_rows.fn (F := Ideal) x g d y = fun _ => 1#1) : Real4 x g d y := by
  have h0 := congrFun h ix0
  dsimp only [Cert.Pre_finite_rows.fn, Cert.Pre_finite_rows.fn_part1] at h0
  obtain ⟨h123, h4⟩ := IntOp.andi_eq_one.1 h0
  obtain ⟨h12, h3⟩ := IntOp.andi_eq_one.1 h123
  obtain ⟨h1, h2⟩ := IntOp.andi_eq_one.1 h12
  haveI : Subsingleton Cert.Pre_finite_rows.S_.Idx := ⟨fun a b => funext fun k => k.elim0⟩
  exact ⟨fun i => Attention.real_of_abs_lt _ (Host.reduce_andi_all _ _ _ _ ix0 h1 i),
    fun i => Attention.real_of_abs_lt _ (Host.reduce_andi_all _ _ _ _ ix0 h2 i),
    fun i => Attention.real_of_abs_lt _ (Host.reduce_andi_all _ _ _ _ ix0 h3 i),
    fun i => Attention.real_of_abs_lt _ (Host.reduce_andi_all _ _ _ _ ix0 h4 i)⟩

variable (m : (ℓ : Loc nD τ sig) → Buf (Elt Ideal) ℓ) (ρ : Dev nD → PrngReg)

/-- Point `t` reads the `t`-th rows of the arrays and the whole gain. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- The gain as the host hands it to the call. -/
theorem read_gain (c : Dev nD) (i : S1x2048.Idx) : V m c main_v0 i = m ((c : Thread nD τ).loc main_arg1) (ix1 (i 1)) := by
  entry_read
  pointwise

/-- What point `t` writes is the derivative's rows. -/
theorem point (c : Dev nD) (t : Fin cfg0.N) (y : S256x2048.Idx)
    (H : Real4 (m ((c : Thread nD τ).loc main_arg0)) (m ((c : Thread nD τ).loc main_arg1)) (m ((c : Thread nD τ).loc main_arg2)) (m ((c : Thread nD τ).loc main_arg3))) :
    k0_pay4 (iblk m c 2 t) (iblk m c 1 t) (iblk m c 3 t) (iblk m c 0 t) y
      = val_main_v52 (F := Ideal) (m ((c : Thread nD τ).loc main_arg0)) (m ((c : Thread nD τ).loc main_arg1)) (m ((c : Thread nD τ).loc main_arg2)) (m ((c : Thread nD τ).loc main_arg3))
          (((cfg0.win 4).blk t).view.emb y) := by
  refine (payload_at _ _ _ _ y).trans (Eq.trans ?_ (reference_at _ _ _ _ _).symm)
  refine (kernelGrad_congr (a' := fun k => m ((c : Thread nD τ).loc main_arg0) (ix2 (((cfg0.win 4).blk t).view.emb y 0) k))
    (g' := fun k => m ((c : Thread nD τ).loc main_arg1) (ix1 k))
    (d' := fun k => m ((c : Thread nD τ).loc main_arg2) (ix2 (((cfg0.win 4).blk t).view.emb y 0) k))
    (y' := m ((c : Thread nD τ).loc main_arg3) (((cfg0.win 4).blk t).view.emb y))
    (j' := ((cfg0.win 4).blk t).view.emb y 1) ?_ ?_ ?_ ?_ ?_).trans ?_
  · funext k; blk_point [iblk, V, idx t]
  · funext k
    blk_simp [iblk]
    rw [read_gain]
    have e : (win0_3.blk t).view.emb (ix2 0 k) = ix2 0 k := by blk_ext [idx t]
    rw [e]
    rfl
  · funext k; blk_point [iblk, V, idx t]
  · blk_point [iblk, V, idx t]
  · have e : (win0_4.blk t).view.emb y = ix2 ((win0_4.blk t).view.emb y 0) (y 1) := by blk_ext [idx t]
    exact (congrFun e 1).symm
  · rw [show (fun k => m ((c : Thread nD τ).loc main_arg0) (ix2 (((cfg0.win 4).blk t).view.emb y 0) k)) = _ from funext fun k => H.x _,
      show (fun k => m ((c : Thread nD τ).loc main_arg1) (ix1 k)) = _ from funext fun k => H.g _,
      show (fun k => m ((c : Thread nD τ).loc main_arg2) (ix2 (((cfg0.win 4).blk t).view.emb y 0) k)) = _ from funext fun k => H.d _,
      H.y (((cfg0.win 4).blk t).view.emb y)]
    exact grads_eq _ _ _ _ _

/-- What point `t` leaves in the first output's buffer. -/
theorem first_at (c : Dev nD) (t : Fin cfg0.N) : (outsAt0 m c t.val t.isLt).1 = k0_pay4 (iblk m c 2 t) (iblk m c 1 t) (iblk m c 3 t) (iblk m c 0 t) := by
  by_cases h : t.val % 16 = 0
  · rw [outsAt0_A m c t h (by have := t.isLt; have : cfg0.N = 16 := N_0; omega)]
    frame_out
  · rw [outsAt0_B m c t h (by omega)]
    frame_out

/-- The blocks cover the result. -/
theorem final (c : Dev nD) (H : Real4 (m ((c : Thread nD τ).loc main_arg0)) (m ((c : Thread nD τ).loc main_arg1)) (m ((c : Thread nD τ).loc main_arg2)) (m ((c : Thread nD τ).loc main_arg3))) : (dats m 0 c).arrAt 4 cfg0.N
    = val_main_v52 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, first_at]
  exact point m c t y H

end Cert.Kernel17Ideal.Norm

end
-- ==== Proof.GainGrad.lean ====
/- The gradient of the first norm in its gain, as eight rows: one for each residue of the row number modulo 8. -/
module

public import proofs.«01_k».proof.Proof.NormGrad

@[expose] public section

set_option maxRecDepth 16384

noncomputable section

namespace Cert.Kernel17Ideal.Norm

open Idealize.ShloMosaic Idealize.ShloMosaic.TcCoe Idealize.SL.Sem Cert.Kernel17Ideal.Gen Cert.Reference17Ideal.Read

/-- What a row adds to the gain's gradient. -/
def gainTerm (a d : Fin 2048 → EReal) (j : Fin 2048) : EReal := d j * (a j * Ideal.rsqrt (meanSq a))

/-- A point's payload is the sum of what its rows add, one row of every eight. -/
theorem partial_at (x d : Vec Ideal S256x2048 .f32) (i : S8x2048.Idx) :
    k0_pay5 x d i = ∑ q : Fin 32, gainTerm (fun k => x (ix2 ⟨q.val * 8 + (i 0).val, by have : (i 0).val < 8 := (i 0).isLt; omega⟩ k))
      (fun k => d (ix2 ⟨q.val * 8 + (i 0).val, by have : (i 0).val < 8 := (i 0).isLt; omega⟩ k)) (i 1) := by
  unfold gainTerm meanSq
  pointwise [k0_pay5, k0_pay3, k0_pay2]

/-- The later points add theirs to what the buffer holds. -/
theorem added_at (p acc : Vec Ideal S8x2048 .f32) (i : S8x2048.Idx) : k0_pay1 p acc i = acc i + p i := by
  pointwise [k0_pay1]

/-- The reference's result is the sum over all the rows, one row of every eight. -/
theorem reference_gain_at (x d : Vec Ideal S4096x2048 .f32) (i : S8x2048.Idx) :
    val_main_v51 (F := Ideal) x d i = ∑ n : Fin 512, gainTerm (fun k => x (ix2 ⟨n.val * 8 + (i 0).val, by have : (i 0).val < 8 := (i 0).isLt; omega⟩ k))
      (fun k => d (ix2 ⟨n.val * 8 + (i 0).val, by have : (i 0).val < 8 := (i 0).isLt; omega⟩ k)) (i 1) := by
  unfold gainTerm meanSq
  pointwise [val_main_v51, val_main_v50, val_main_v49, val_main_v48, val_main_v47, val_main_v43, val_main_v42, val_main_v41, val_main_v40,
    val_main_v39, val_main_v38, val_main_v37, val_main_v36, val_main_v35, val_main_v34, val_main_v33, val_main_cst_6, val_main_cst_7, val_main_cst_8,
    val_main_cst_9, val_main_cst_10]
  rw [Fin.sum_univ_one]
  exact Fin.sum_fin_congr fun n => mul_comm _ _

variable (m : (ℓ : Loc nD τ sig) → Buf (Elt Ideal) ℓ) (ρ : Dev nD → PrngReg)

/-- The second output's only block is the whole of it. -/
theorem gain_idx : ∀ t : Fin cfg0.N, win0_5.index t = ![0, 0] :=
  (by decide +kernel : ∀ t : Fin grid0.N, _)

/-- What point `t` adds to the gain's gradient. -/
def gainPart (c : Dev nD) (t : Fin cfg0.N) : S8x2048.Idx → EReal := k0_pay5 (iblk m c 2 t) (iblk m c 1 t)

/-- The first point stores what it adds. -/
theorem gain_first (c : Dev nD) (t : Fin cfg0.N) (h : t.val % 16 = 0) (i : S8x2048.Idx) :
    (outsAt0 m c t.val t.isLt).2 i = 0 + gainPart m c t i := by
  rw [outsAt0_A m c t h (by have := t.isLt; have : cfg0.N = 16 := N_0; omega)]
  frame_out
  exact (zero_add _).symm

/-- A later point adds its own to the buffer. -/
theorem gain_later (c : Dev nD) (t : Fin cfg0.N) (h : ¬t.val % 16 = 0) (i : S8x2048.Idx) :
    (outsAt0 m c t.val t.isLt).2 i
      = (outsAt0 m c (t.val - 1) (Nat.lt_of_le_of_lt (Nat.sub_le _ _) t.isLt)).2 i + gainPart m c t i := by
  rw [outsAt0_B m c t h (by omega)]
  frame_out
  exact added_at _ _ i

/-- What the buffer holds after the last point. -/
theorem gain_last (c : Dev nD) (t : Fin cfg0.N) (ht : t.val % 16 = 15) (i : S8x2048.Idx) :
    (outsAt0 m c t.val t.isLt).2 i
      = 0 + ∑ s : Fin 16, gainPart m c ⟨16 * (t.val / 16) + s.val, Pipeline.run_point_lt_of_flush t ht s⟩ i :=
  Pipeline.eq_sum_fin_of_reset_step_apply_of_flush (ι := S8x2048.Idx) (M := EReal) (fun n h => (outsAt0 m c n h).2) 16
    (fun _ => 0) (gainPart m c) (gain_first m c) (gain_later m c) t ht i

/-- Equal rows add the same. -/
theorem gainTerm_congr {a a' d d' : Fin 2048 → EReal} {j j' : Fin 2048} (ha : a = a') (hd : d = d') (hj : j = j') :
    gainTerm a d j = gainTerm a' d' j' := by
  rw [ha, hd, hj]

/-- After the last point the buffer is the reference's result. -/
theorem gain_point (c : Dev nD) (t : Fin cfg0.N) (ht : t.val % 16 = 15) (y : S8x2048.Idx) :
    (outsAt0 m c t.val t.isLt).2 y = val_main_v51 (F := Ideal) (m ((c : Thread nD τ).loc main_arg0)) (m ((c : Thread nD τ).loc main_arg2)) (((cfg0.win 5).blk t).view.emb y) := by
  rw [gain_last m c t ht, zero_add]
  refine Eq.trans ?_ (reference_gain_at _ _ _).symm
  unfold gainPart
  simp only [partial_at]
  have e : (win0_5.blk t).view.emb y = y := by blk_ext [gain_idx t]
  refine Fin.sum_mul_add_congr fun s k hl => ?_
  refine gainTerm_congr ?_ ?_ (congrFun e 1).symm
  · funext l; blk_point [iblk, V, gain_idx t, idx ⟨_, Pipeline.run_point_lt_of_flush t ht s⟩]
  · funext l; blk_point [iblk, V, gain_idx t, idx ⟨_, Pipeline.run_point_lt_of_flush t ht s⟩]

/-- The one block is the whole of the second result. -/
theorem gain_final (c : Dev nD) : (dats m 0 c).arrAt 5 cfg0.N = val_main_v51 (F := Ideal) (m ((c : Thread nD τ).loc main_arg0)) (m ((c : Thread nD τ).loc main_arg2)) := by
  refine (dats m 0 c).arrAt_eq_of_covers 5 _ (by decide +kernel) fun t hf y => ?_
  blk_simp
  rw [after0_5]
  exact gain_point m c t ((flush0_5 t).mp hf) y

/-- The kernel's call ends with the reference's two arrays, of its own arguments, in its results. -/
theorem run_value (H : ∀ c : Dev nD, Real4 (m ((c : Thread nD τ).loc main_arg0)) (m ((c : Thread nD τ).loc main_arg1)) (m ((c : Thread nD τ).loc main_arg2)) (m ((c : Thread nD τ).loc main_arg3))) :
    θ_run defs (onTc (τ := τ) (main (F := Ideal))) ⟨m, fun _ => 0, ρ⟩ fun r => ∀ c : Dev nD,
    r.2.mem ((c : Thread nD τ).loc main_v1_0) = val_main_v52 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = val_main_v51 (F := Ideal) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (H c)), (h c).2.1.trans (gain_final m c), (h c).2.2⟩)
    (Value.run_blocks m ρ)

end Cert.Kernel17Ideal.Norm

end
-- ==== Proof.GainUpdate.lean ====
/- The gains' update and the loss: the sum of the gathered rows, and what is computed of it. -/
module

public import proofs.«01_k».proof.Proof.NormGrad
public import proofs.«01_k».proof.Proof.Gen.Kernel18Ideal.Frame
public import Idealize.ShloMosaic.Lib.Pipeline.Value
public import proofs.«01_k».proof.Proof.Gen.Reference18Ideal.Read

@[expose] public section

set_option maxRecDepth 16384

noncomputable section

namespace Cert.Kernel18Ideal.Update

open Idealize.ShloMosaic Idealize.ShloMosaic.TcCoe Idealize.SL.Sem Cert.Kernel18Ideal.Gen Cert.Reference18Ideal.Read

/-- A lane of a gathered row, by the row's number. -/
def row (a : Vec Ideal S64x9344 .f32) (n : Nat) (j : Fin 9344) : EReal := if h : n < 64 then a (ix2 ⟨n, h⟩ j) else 0

/-- The sum of a lane over the gathered rows. -/
def total (a : Vec Ideal S64x9344 .f32) (j : Fin 9344) : EReal := ∑ n : Fin 64, a (ix2 n j)

theorem total_eq (a : Vec Ideal S64x9344 .f32) (j : Fin 9344) : total a j = ∑ n ∈ Finset.range 64, row a n j := by
  rw [Finset.sum_range]
  exact Finset.sum_congr rfl fun n _ => by unfold row; rw [dif_pos n.isLt]

/-- A load of one row. -/
theorem load_row (a : Vec Ideal S64x9344 .f32) (n : Nat) (h : ∀ b : Fin S64x9344.rank, (![n, 0] : Fin 2 → Nat) b + S1x9344.size b ≤ S64x9344.size b) (i : S1x9344.Idx) :
    View.ld a (Rect.unit (s := S64x9344) ![n, 0] S1x9344.size h) i = row a n (i 1) := by
  have hn : n < 64 := h 0
  unfold row
  rw [dif_pos hn]
  show a _ = _
  congr 1
  funext b
  apply Fin.ext
  match b with
  | ⟨0, _⟩ => show n + 1 * (i 0).val = n; have : (i 0).val < 1 := (i 0).isLt; omega
  | ⟨1, _⟩ => show 0 + 1 * (i 1).val = (i 1).val; omega

/-- The kernel adds the rows one after the other. -/
theorem total_at (a : Vec Ideal S64x9344 .f32) (w m v : Vec Ideal S1x9216 .f32) (i : S1x9344.Idx) :
    k0_pay7 (k0_pay12 a w m v) (View.ld a r0_60) (View.ld a r0_61) (View.ld a r0_62) (View.ld a r0_63) i = total a (i 1) := by
  refine Eq.trans ?_ (total_eq _ _).symm
  simp only [Finset.sum_range_succ, Finset.sum_range_zero, zero_add, k0_pay7, k0_pay6, k0_pay5, k0_pay4, k0_pay3, k0_pay12, addf_apply]
  iterate 63 refine congrArg₂ (fun x y : EReal => x + y) ?_ (load_row a _ _ i)
  exact load_row a 0 _ i

/-- A gain's lane among the gathered row's. -/
def lane (j : Fin 9216) : Fin 9344 := ⟨j.val, by omega⟩

/-- A lane of the errors' partial sums. -/
def lossLane (j : Fin 128) : Fin 9344 := ⟨9216 + j.val, by omega⟩

/-- The kernel's gradient. -/
theorem grad_at (a : Vec Ideal S64x9344 .f32) (w m v : Vec Ideal S1x9216 .f32) (i : S1x9216.Idx) :
    k0_pay8 (k0_pay12 a w m v) (View.ld a r0_60) (View.ld a r0_61) (View.ld a r0_62) (View.ld a r0_63) i = total a (lane (i 1)) := by
  have h := total_at a w m v
  unfold k0_pay8
  generalize k0_pay7 (k0_pay12 a w m v) (View.ld a r0_60) (View.ld a r0_61) (View.ld a r0_62) (View.ld a r0_63) = p at h ⊢
  pointwise []
  refine (h _).trans (congrArg (total a) ?_)
  rfl

/-- The reference's gradient. -/
theorem reference_grad_at (a : Vec Ideal S64x9344 .f32) (i : S1x9216.Idx) :
    val_main_v2 (F := Ideal) a i = total a (lane (i 1)) := by
  unfold total lane
  pointwise [val_main_v2, val_main_v1, val_main_v0, val_main_cst]

/-- The gradient is the reference's. -/
theorem grad_eq (a : Vec Ideal S64x9344 .f32) (w m v : Vec Ideal S1x9216 .f32) :
    k0_pay8 (k0_pay12 a w m v) (View.ld a r0_60) (View.ld a r0_61) (View.ld a r0_62) (View.ld a r0_63) = val_main_v2 (F := Ideal) a :=
  funext fun i => (grad_at a w m v i).trans (reference_grad_at a i).symm

/-- The first moment. -/
theorem moment_eq (a : Vec Ideal S64x9344 .f32) (w m v : Vec Ideal S1x9216 .f32) :
    k0_pay9 (k0_pay12 a w m v) (View.ld a r0_60) (View.ld a r0_61) (View.ld a r0_62) (View.ld a r0_63) m = val_main_v7 (F := Ideal) a m := by
  unfold k0_pay9
  rw [grad_eq]
  funext i
  pointwise [val_main_v7, val_main_v6, val_main_v5, val_main_v4, val_main_v3, val_main_cst_0, val_main_cst_1]

/-- The second moment. -/
theorem square_eq (a : Vec Ideal S64x9344 .f32) (w m v : Vec Ideal S1x9216 .f32) :
    k0_pay10 (k0_pay12 a w m v) (View.ld a r0_60) (View.ld a r0_61) (View.ld a r0_62) (View.ld a r0_63) v = val_main_v13 (F := Ideal) a v := by
  unfold k0_pay10
  rw [grad_eq]
  funext i
  pointwise [val_main_v13, val_main_v12, val_main_v11, val_main_v10, val_main_v9, val_main_v8, val_main_cst_2, val_main_cst_3]

/-- The update. -/
theorem update_eq (a : Vec Ideal S64x9344 .f32) (w m v : Vec Ideal S1x9216 .f32) :
    k0_pay1 (k0_pay11 (k0_pay12 a w m v) (View.ld a r0_60) (View.ld a r0_61) (View.ld a r0_62) (View.ld a r0_63) w m v) (Scalar.ofBits .f32 0xBA83126F#32)
      = val_main_v26 (F := Ideal) a w m v := by
  unfold k0_pay1 k0_pay11
  rw [moment_eq, square_eq]
  funext i
  pointwise [val_main_v26, val_main_v25, val_main_v24, val_main_v23, val_main_v22, val_main_v21, val_main_v20, val_main_v19, val_main_v18,
    val_main_v17, val_main_v16, val_main_v15, val_main_v14, val_main_cst_4, val_main_cst_5, val_main_cst_6, val_main_cst_7, val_main_cst_8]

/-- The kernel's loss. -/
theorem loss_at (a : Vec Ideal S64x9344 .f32) (w m v : Vec Ideal S1x9216 .f32) (i : S1x128.Idx) :
    k0_pay2 (k0_pay7 (k0_pay12 a w m v) (View.ld a r0_60) (View.ld a r0_61) (View.ld a r0_62) (View.ld a r0_63)) i
      = Ideal.ofBits .f32 0x39800000#32 * (∑ j : Fin 128, total a (lossLane j)) * Ideal.ofBits .f32 0x3F800000#32 := by
  have h := total_at a w m v
  generalize k0_pay7 (k0_pay12 a w m v) (View.ld a r0_60) (View.ld a r0_61) (View.ld a r0_62) (View.ld a r0_63) = p at h ⊢
  have e : ∀ j : Fin 128, total a (lossLane j) = p (ix2 0 (lossLane j)) := fun j => (h (ix2 0 (lossLane j))).symm
  simp only [e]
  unfold lossLane
  pointwise [k0_pay2]

/-- The reference's loss. -/
theorem reference_loss_at (a : Vec Ideal S64x9344 .f32) (i : S1x128.Idx) :
    val_main_v31 (F := Ideal) a i
      = Ideal.ofBits .f32 0x3F000000#32 * Ideal.div (∑ n : Fin 64, ∑ j : Fin 128, a (ix2 n (lossLane j))) (Ideal.ofBits .f32 0x45000000#32) := by
  unfold lossLane
  pointwise [val_main_v31, val_main_v30, val_main_v29, val_main_v28, val_main_v27, val_main_cst_9, val_main_cst_10, val_main_cst_11]

theorem ofBits_half : Ideal.ofBits .f32 0x3F000000#32 = ((1 / 2 : ℝ) : EReal) := by
  simp [Ideal.ofBits, Ideal.ieee]; rw [← EReal.coe_mul]; norm_num

theorem ofBits_scale : Ideal.ofBits .f32 0x39800000#32 = ((1 / 4096 : ℝ) : EReal) := by
  simp [Ideal.ofBits, Ideal.ieee]; rw [← EReal.coe_mul]; norm_num

theorem ofBits_one : Ideal.ofBits .f32 0x3F800000#32 = ((1 : ℝ) : EReal) := by
  simp [Ideal.ofBits, Ideal.ieee]; rw [← EReal.coe_mul]; norm_num

/-- The loss, for any partial sums. -/
theorem loss_eq (a : Vec Ideal S64x9344 .f32) (w m v : Vec Ideal S1x9216 .f32) :
    k0_pay2 (k0_pay7 (k0_pay12 a w m v) (View.ld a r0_60) (View.ld a r0_61) (View.ld a r0_62) (View.ld a r0_63)) = val_main_v31 (F := Ideal) a := by
  funext i
  refine (loss_at a w m v i).trans (Eq.trans ?_ (reference_loss_at a i).symm)
  unfold total
  rw [Finset.sum_comm, ofBits_half, ofBits_scale, ofBits_one, Cert.Kernel17Ideal.Norm.ofBits_2048, Ideal.div_coe (by norm_num), EReal.coe_one, mul_one,
    mul_comm (Finset.sum _ _) _, ← mul_assoc, ← EReal.coe_mul]
  norm_num

variable (m : (ℓ : Loc nD τ sig) → Buf (Elt Ideal) ℓ) (ρ : Dev nD → PrngReg)

/-- Every window's only block is the whole of its array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem block0 (c : Dev nD) (t : Fin cfg0.N) : iblk m c 0 t = m ((c : Thread nD τ).loc main_arg0) := by
  funext y; blk_point [iblk, V, (idx t).1]

theorem block1 (c : Dev nD) (t : Fin cfg0.N) : iblk m c 1 t = m ((c : Thread nD τ).loc main_arg1) := by
  funext y; blk_point [iblk, V, (idx t).2.1]

theorem block2 (c : Dev nD) (t : Fin cfg0.N) : iblk m c 2 t = m ((c : Thread nD τ).loc main_arg2) := by
  funext y; blk_point [iblk, V, (idx t).2.2.1]

theorem block3 (c : Dev nD) (t : Fin cfg0.N) : iblk m c 3 t = m ((c : Thread nD τ).loc main_arg3) := by
  funext y; blk_point [iblk, V, (idx t).2.2.2.1]

theorem corner : (![0, 0] : Fin 2 → Nat) = fun _ => 0 := funext fun b => by fin_cases b <;> rfl

/-- The gradient's array after the call. -/
theorem final4 (c : Dev nD) : (dats m 0 c).arrAt 4 cfg0.N = val_main_v2 (F := Ideal) (m ((c : Thread nD τ).loc main_arg0)) := by
  refine (dats m 0 c).arrAt_eq_of_covers 4 _ (by decide +kernel) fun t hf y => ?_
  blk_simp
  have e : (win0_4.blk t).view.emb y = y := by blk_ext [(idx t).2.2.2.2.1]
  rw [after0_4, block0, block1, block2, block3]
  unfold out0_4
  rw [View.canon_unit_zero corner, grad_eq]
  exact congrArg _ e.symm

/-- The update's array after the call. -/
theorem final5 (c : Dev nD) : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have e : (win0_5.blk t).view.emb y = y := by blk_ext [(idx t).2.2.2.2.2.1]
  rw [after0_5, block0, block1, block2, block3]
  unfold out0_5
  rw [View.canon_unit_zero corner, View.ld_unit_zero corner, View.ld_unit_zero corner, View.ld_unit_zero corner, update_eq]
  exact congrArg _ e.symm

/-- The first moment's array after the call. -/
theorem final6 (c : Dev nD) : (dats m 0 c).arrAt 6 cfg0.N = val_main_v7 (F := Ideal) (m ((c : Thread nD τ).loc main_arg0)) (m ((c : Thread nD τ).loc main_arg2)) := by
  refine (dats m 0 c).arrAt_eq_of_covers 6 _ (by decide +kernel) fun t hf y => ?_
  blk_simp
  have e : (win0_6.blk t).view.emb y = y := by blk_ext [(idx t).2.2.2.2.2.2.1]
  rw [after0_6, block0, block1, block2, block3]
  unfold out0_6
  rw [View.canon_unit_zero corner, View.ld_unit_zero corner, moment_eq]
  exact congrArg _ e.symm

/-- The second moment's array after the call. -/
theorem final7 (c : Dev nD) : (dats m 0 c).arrAt 7 cfg0.N = val_main_v13 (F := Ideal) (m ((c : Thread nD τ).loc main_arg0)) (m ((c : Thread nD τ).loc main_arg3)) := by
  refine (dats m 0 c).arrAt_eq_of_covers 7 _ (by decide +kernel) fun t hf y => ?_
  blk_simp
  have e : (win0_7.blk t).view.emb y = y := by blk_ext [(idx t).2.2.2.2.2.2.2.1]
  rw [after0_7, block0, block1, block2, block3]
  unfold out0_7
  rw [View.canon_unit_zero corner, View.ld_unit_zero corner, square_eq]
  exact congrArg _ e.symm

/-- The loss's array after the call. -/
theorem final8 (c : Dev nD) : (dats m 0 c).arrAt 8 cfg0.N = val_main_v31 (F := Ideal) (m ((c : Thread nD τ).loc main_arg0)) := by
  refine (dats m 0 c).arrAt_eq_of_covers 8 _ (by decide +kernel) fun t hf y => ?_
  blk_simp
  have e : (win0_8.blk t).view.emb y = y := by blk_ext [(idx t).2.2.2.2.2.2.2.2]
  rw [after0_8, block0, block1, block2, block3]
  unfold out0_8
  rw [View.canon_unit_zero corner, loss_eq]
  exact congrArg _ e.symm

/-- The call ends with the reference's five arrays, of its own arguments, in its results. -/
theorem run_value : θ_run defs (onTc (τ := τ) (main (F := Ideal))) ⟨m, fun _ => 0, ρ⟩ fun r => ∀ c : Dev nD,
    r.2.mem ((c : Thread nD τ).loc main_v0_0) = val_main_v2 (F := Ideal) (m ((c : Thread nD τ).loc main_arg0))
      ∧ r.2.mem ((c : Thread nD τ).loc main_v0_1) = val_main_v26 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = val_main_v7 (F := Ideal) (m ((c : Thread nD τ).loc main_arg0)) (m ((c : Thread nD τ).loc main_arg2))
      ∧ r.2.mem ((c : Thread nD τ).loc main_v0_3) = val_main_v13 (F := Ideal) (m ((c : Thread nD τ).loc main_arg0)) (m ((c : Thread nD τ).loc main_arg3))
      ∧ r.2.mem ((c : Thread nD τ).loc main_v0_4) = val_main_v31 (F := Ideal) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
      ((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Kernel18Ideal.Update

end
-- ==== Proof.lean ====
/- The claims, assembled: the frames from the runs, the named constants, and the two runs' equal results. -/
module

public import proofs.«01_k».proof.Defs
public import proofs.«01_k».proof.Proof.Run
public import proofs.«01_k».proof.Proof.Values
public import proofs.«01_k».proof.Proof.MlpUp
public import proofs.«01_k».proof.Proof.Gen.Kernel2.Frame
public import proofs.«01_k».proof.Proof.MlpDownGrad
public import proofs.«01_k».proof.Proof.Gen.Kernel3.Frame
public import proofs.«01_k».proof.Proof.MlpInput
public import proofs.«01_k».proof.Proof.Gen.Kernel4.Frame
public import proofs.«01_k».proof.Proof.MlpUpGrad
public import proofs.«01_k».proof.Proof.Gen.Kernel5.Frame
public import proofs.«01_k».proof.Proof.OutInput
public import proofs.«01_k».proof.Proof.Gen.Kernel6.Frame
public import proofs.«01_k».proof.Proof.Gen.Kernel6
public import proofs.«01_k».proof.Proof.Gen.Kernel6Ideal
public import proofs.«01_k».proof.Proof.Gen.Reference6Ideal
public import proofs.«01_k».proof.Proof.OutGrad
public import proofs.«01_k».proof.Proof.Gen.Kernel7.Frame
public import proofs.«01_k».proof.Proof.Gen.Kernel7
public import proofs.«01_k».proof.Proof.Gen.Kernel7Ideal
public import proofs.«01_k».proof.Proof.Gen.Reference7Ideal
public import proofs.«01_k».proof.Proof.InInput
public import proofs.«01_k».proof.Proof.Gen.Kernel8.Frame
public import proofs.«01_k».proof.Proof.Gen.Kernel8
public import proofs.«01_k».proof.Proof.Gen.Kernel8Ideal
public import proofs.«01_k».proof.Proof.Gen.Reference8Ideal
public import proofs.«01_k».proof.Proof.InGrad
public import proofs.«01_k».proof.Proof.Gen.Kernel9.Frame
public import proofs.«01_k».proof.Proof.Gen.Kernel9
public import proofs.«01_k».proof.Proof.Gen.Kernel9Ideal
public import proofs.«01_k».proof.Proof.Gen.Reference9Ideal
public import proofs.«01_k».proof.Proof.LatentInput
public import proofs.«01_k».proof.Proof.Gen.Kernel10.Frame
public import proofs.«01_k».proof.Proof.Gen.Kernel10
public import proofs.«01_k».proof.Proof.Gen.Kernel10Ideal
public import proofs.«01_k».proof.Proof.Gen.Reference10Ideal
public import proofs.«01_k».proof.Proof.LatentGrad
public import proofs.«01_k».proof.Proof.Gen.Kernel11.Frame
public import proofs.«01_k».proof.Proof.Gen.Kernel11
public import proofs.«01_k».proof.Proof.Gen.Kernel11Ideal
public import proofs.«01_k».proof.Proof.Gen.Reference11Ideal
public import proofs.«01_k».proof.Proof.MlpRamp
public import proofs.«01_k».proof.Proof.Gen.Kernel12.Frame
public import proofs.«01_k».proof.Proof.Gen.Kernel12
public import proofs.«01_k».proof.Proof.Gen.Kernel12Ideal
public import proofs.«01_k».proof.Proof.Gen.Reference12Ideal
public import proofs.«01_k».proof.Proof.MlpForward
public import proofs.«01_k».proof.Proof.Gen.Kernel13.Frame
public import proofs.«01_k».proof.Proof.Gen.Kernel13
public import proofs.«01_k».proof.Proof.Gen.Kernel13Ideal
public import proofs.«01_k».proof.Proof.Gen.Reference13Ideal
public import proofs.«01_k».proof.Proof.InForward
public import proofs.«01_k».proof.Proof.Gen.Kernel14.Frame
public import proofs.«01_k».proof.Proof.Gen.Kernel14
public import proofs.«01_k».proof.Proof.Gen.Kernel14Ideal
public import proofs.«01_k».proof.Proof.Gen.Reference14Ideal
public import proofs.«01_k».proof.Proof.OutForward
public import proofs.«01_k».proof.Proof.Gen.Kernel15.Frame
public import proofs.«01_k».proof.Proof.Gen.Kernel15
public import proofs.«01_k».proof.Proof.Gen.Kernel15Ideal
public import proofs.«01_k».proof.Proof.Gen.Reference15Ideal
public import proofs.«01_k».proof.Proof.LatentForward
public import proofs.«01_k».proof.Proof.Gen.Kernel16.Frame
public import proofs.«01_k».proof.Proof.Gen.Kernel16
public import proofs.«01_k».proof.Proof.Gen.Kernel16Ideal
public import proofs.«01_k».proof.Proof.Gen.Reference16Ideal
public import proofs.«01_k».proof.Proof.GainGrad
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel17
public import proofs.«01_k».proof.Proof.Gen.Kernel17Ideal
public import proofs.«01_k».proof.Proof.Gen.Reference17Ideal
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import proofs.«01_k».proof.Proof.Gen.Kernel18
public import proofs.«01_k».proof.Proof.Gen.Kernel18Ideal
public import proofs.«01_k».proof.Proof.Gen.Reference18Ideal
public import proofs.«01_k».proof.Proof.GainUpdate
public import proofs.«01_k».proof.Proof.Word.Run
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.SL.Sem

/-- Where a program holds no semaphore, any two counts of its semaphores are the same. -/
theorem no_counter {nD : Nat} {τ : Topo} {sig : RefSig} (hs : IsEmpty (SemLoc sig)) (f g : GSem nD τ sig → Int) : f = g :=
  funext fun x => hs.elim x.2

theorem no_semaphore : IsEmpty (SemLoc Cert.ReferenceIdeal.sig) :=
  ⟨fun s => by cases s with | reg s => exact s.elim0 | dma s => exact s.elim0⟩

theorem no_semaphore2 : IsEmpty (SemLoc Cert.Reference2Ideal.sig) :=
  ⟨fun s => by cases s with | reg s => exact s.elim0 | dma s => exact s.elim0⟩

theorem no_semaphore3 : IsEmpty (SemLoc Cert.Reference3Ideal.sig) :=
  ⟨fun s => by cases s with | reg s => exact s.elim0 | dma s => exact s.elim0⟩

theorem no_semaphore4 : IsEmpty (SemLoc Cert.Reference4Ideal.sig) :=
  ⟨fun s => by cases s with | reg s => exact s.elim0 | dma s => exact s.elim0⟩

theorem no_semaphore5 : IsEmpty (SemLoc Cert.Reference5Ideal.sig) :=
  ⟨fun s => by cases s with | reg s => exact s.elim0 | dma s => exact s.elim0⟩

theorem no_semaphore6 : IsEmpty (SemLoc Cert.Reference6Ideal.sig) :=
  ⟨fun s => by cases s with | reg s => exact s.elim0 | dma s => exact s.elim0⟩

theorem no_semaphore7 : IsEmpty (SemLoc Cert.Reference7Ideal.sig) :=
  ⟨fun s => by cases s with | reg s => exact s.elim0 | dma s => exact s.elim0⟩

theorem no_semaphore8 : IsEmpty (SemLoc Cert.Reference8Ideal.sig) :=
  ⟨fun s => by cases s with | reg s => exact s.elim0 | dma s => exact s.elim0⟩

theorem no_semaphore9 : IsEmpty (SemLoc Cert.Reference9Ideal.sig) :=
  ⟨fun s => by cases s with | reg s => exact s.elim0 | dma s => exact s.elim0⟩

theorem no_semaphore10 : IsEmpty (SemLoc Cert.Reference10Ideal.sig) :=
  ⟨fun s => by cases s with | reg s => exact s.elim0 | dma s => exact s.elim0⟩

theorem no_semaphore11 : IsEmpty (SemLoc Cert.Reference11Ideal.sig) :=
  ⟨fun s => by cases s with | reg s => exact s.elim0 | dma s => exact s.elim0⟩

theorem no_semaphore12 : IsEmpty (SemLoc Cert.Reference12Ideal.sig) :=
  ⟨fun s => by cases s with | reg s => exact s.elim0 | dma s => exact s.elim0⟩

theorem no_semaphore13 : IsEmpty (SemLoc Cert.Reference13Ideal.sig) :=
  ⟨fun s => by cases s with | reg s => exact s.elim0 | dma s => exact s.elim0⟩

theorem no_semaphore14 : IsEmpty (SemLoc Cert.Reference14Ideal.sig) :=
  ⟨fun s => by cases s with | reg s => exact s.elim0 | dma s => exact s.elim0⟩

theorem no_semaphore15 : IsEmpty (SemLoc Cert.Reference15Ideal.sig) :=
  ⟨fun s => by cases s with | reg s => exact s.elim0 | dma s => exact s.elim0⟩

theorem no_semaphore16 : IsEmpty (SemLoc Cert.Reference16Ideal.sig) :=
  ⟨fun s => by cases s with | reg s => exact s.elim0 | dma s => exact s.elim0⟩

theorem no_semaphore17 : IsEmpty (SemLoc Cert.Reference17Ideal.sig) :=
  ⟨fun s => by cases s with | reg s => exact s.elim0 | dma s => exact s.elim0⟩

theorem no_semaphore18 : IsEmpty (SemLoc Cert.Reference18Ideal.sig) :=
  ⟨fun s => by cases s with | reg s => exact s.elim0 | dma s => exact s.elim0⟩

/-- The attention's precondition's shapes fit. -/
theorem finite_facts : Cert.Pre_finite.Facts := by constructor <;> decide

/-- The norm's precondition's shapes fit. -/
theorem finite_rows_facts : Cert.Pre_finite_rows.Facts := by constructor <;> decide

/-- From equal real arguments the two programs' results are the same gradients. -/
theorem equal_results : Cert.algebraic_KernelIdeal_ReferenceIdeal_pre_finite (hKernelIdeal := Cert.KernelIdeal.Gen.facts)
    (hReferenceIdeal := Cert.ReferenceIdeal.Gen.facts) (hPre_finite := finite_facts) := by
  intro m g m' g' hp he
  have H := fun c => @Cert.Attention.holds_of_finite finite_facts _ _ _ _ _ (hp c)
  refine ⟨_, _, _, Cert.KernelIdeal.Bwd.run_values m g _ H, Cert.ReferenceIdeal.Attn.run_values m' g' _ fun c => ?_⟩
  obtain ⟨e0, e1, e2, e3, e4⟩ := he c
  rw [e0, e1, e2, e3, e4]
  exact H c

/-- From equal arguments the two programs' gradients at the first projection's output are the same. -/
theorem equal_results2 : Cert.algebraic_Kernel2Ideal_Reference2Ideal (hKernel2Ideal := Cert.Kernel2Ideal.Gen.facts)
    (hReference2Ideal := Cert.Reference2Ideal.Gen.facts) := by
  intro m g m' g' _ he
  refine ⟨_, Cert.Kernel2Ideal.Mlp.run_value m g, (θ_run Cert.Reference2Ideal.defs _ _).mono (fun r h c => ⟨?_, (h c).2⟩)
    (Cert.Reference2Ideal.Value.run m' g')⟩
  obtain ⟨e0, e1, e2⟩ := he c
  rw [(h c).1, e0, e1, e2]
  exact Cert.Reference2Ideal.Read.val_main_v14_eq _ _ _

/-- From equal arguments the two programs' gradients of the second projection's weights are the same. -/
theorem equal_results3 : Cert.algebraic_Kernel3Ideal_Reference3Ideal (hKernel3Ideal := Cert.Kernel3Ideal.Gen.facts)
    (hReference3Ideal := Cert.Reference3Ideal.Gen.facts) := by
  intro m g m' g' _ he
  refine ⟨_, Cert.Kernel3Ideal.Mlp.run_value m g, (θ_run Cert.Reference3Ideal.defs _ _).mono (fun r h c => ⟨?_, (h c).2⟩)
    (Cert.Reference3Ideal.Value.run m' g')⟩
  obtain ⟨e0, e1⟩ := he c
  rw [(h c).1, e0, e1]
  exact Cert.Reference3Ideal.Read.val_main_v7_eq _ _

/-- From equal arguments the two programs' gradients at the MLP's input are the same. -/
theorem equal_results4 : Cert.algebraic_Kernel4Ideal_Reference4Ideal (hKernel4Ideal := Cert.Kernel4Ideal.Gen.facts)
    (hReference4Ideal := Cert.Reference4Ideal.Gen.facts) := by
  intro m g m' g' _ he
  refine ⟨_, Cert.Kernel4Ideal.Mlp.run_value m g, (θ_run Cert.Reference4Ideal.defs _ _).mono (fun r h c => ⟨?_, (h c).2⟩)
    (Cert.Reference4Ideal.Value.run m' g')⟩
  obtain ⟨e0, e1⟩ := he c
  rw [(h c).1, e0, e1]
  exact Cert.Reference4Ideal.Read.val_main_v6_eq _ _

/-- From equal arguments the two programs' gradients of the first projection's weights are the same. -/
theorem equal_results5 : Cert.algebraic_Kernel5Ideal_Reference5Ideal (hKernel5Ideal := Cert.Kernel5Ideal.Gen.facts)
    (hReference5Ideal := Cert.Reference5Ideal.Gen.facts) := by
  intro m g m' g' _ he
  refine ⟨_, Cert.Kernel5Ideal.Mlp.run_value m g, (θ_run Cert.Reference5Ideal.defs _ _).mono (fun r h c => ⟨?_, (h c).2⟩)
    (Cert.Reference5Ideal.Value.run m' g')⟩
  obtain ⟨e0, e1⟩ := he c
  rw [(h c).1, e0, e1]
  exact Cert.Reference5Ideal.Read.val_main_v8_eq _ _

/-- From equal arguments the two programs' gradients at the output projection's input are the same. -/
theorem equal_results6 : Cert.algebraic_Kernel6Ideal_Reference6Ideal (hKernel6Ideal := Cert.Kernel6Ideal.Gen.facts)
    (hReference6Ideal := Cert.Reference6Ideal.Gen.facts) := by
  intro m g m' g' _ he
  refine ⟨_, Cert.Kernel6Ideal.Product.run_value m g, (θ_run Cert.Reference6Ideal.defs _ _).mono (fun r h c => ⟨?_, (h c).2⟩)
    (Cert.Reference6Ideal.Value.run m' g')⟩
  obtain ⟨e0, e1⟩ := he c
  rw [(h c).1, e0, e1]
  exact Cert.Reference6Ideal.Read.val_main_v4_eq _ _

/-- From equal arguments the two programs' gradients of the output projection's weights are the same. -/
theorem equal_results7 : Cert.algebraic_Kernel7Ideal_Reference7Ideal (hKernel7Ideal := Cert.Kernel7Ideal.Gen.facts)
    (hReference7Ideal := Cert.Reference7Ideal.Gen.facts) := by
  intro m g m' g' _ he
  refine ⟨_, Cert.Kernel7Ideal.Product.run_value m g, (θ_run Cert.Reference7Ideal.defs _ _).mono (fun r h c => ⟨?_, (h c).2⟩)
    (Cert.Reference7Ideal.Value.run m' g')⟩
  obtain ⟨e0, e1⟩ := he c
  rw [(h c).1, e0, e1]
  exact Cert.Reference7Ideal.Read.val_main_v6_eq _ _

/-- From equal arguments the two programs' gradients at the input projection's input are the same. -/
theorem equal_results8 : Cert.algebraic_Kernel8Ideal_Reference8Ideal (hKernel8Ideal := Cert.Kernel8Ideal.Gen.facts)
    (hReference8Ideal := Cert.Reference8Ideal.Gen.facts) := by
  intro m g m' g' _ he
  refine ⟨_, Cert.Kernel8Ideal.Product.run_value m g, (θ_run Cert.Reference8Ideal.defs _ _).mono (fun r h c => ⟨?_, (h c).2⟩)
    (Cert.Reference8Ideal.Value.run m' g')⟩
  obtain ⟨e0, e1⟩ := he c
  rw [(h c).1, e0, e1]
  exact Cert.Reference8Ideal.Read.val_main_v5_eq _ _

/-- From equal arguments the two programs' gradients of the input projection's weights are the same. -/
theorem equal_results9 : Cert.algebraic_Kernel9Ideal_Reference9Ideal (hKernel9Ideal := Cert.Kernel9Ideal.Gen.facts)
    (hReference9Ideal := Cert.Reference9Ideal.Gen.facts) := by
  intro m g m' g' _ he
  refine ⟨_, Cert.Kernel9Ideal.Product.run_value m g, (θ_run Cert.Reference9Ideal.defs _ _).mono (fun r h c => ⟨?_, (h c).2⟩)
    (Cert.Reference9Ideal.Value.run m' g')⟩
  obtain ⟨e0, e1⟩ := he c
  rw [(h c).1, e0, e1]
  exact Cert.Reference9Ideal.Read.val_main_v8_eq _ _

/-- From equal arguments the two programs' gradients at a latent are the same. -/
theorem equal_results10 : Cert.algebraic_Kernel10Ideal_Reference10Ideal (hKernel10Ideal := Cert.Kernel10Ideal.Gen.facts)
    (hReference10Ideal := Cert.Reference10Ideal.Gen.facts) := by
  intro m g m' g' _ he
  refine ⟨_, Cert.Kernel10Ideal.Product.run_value m g, (θ_run Cert.Reference10Ideal.defs _ _).mono (fun r h c => ⟨?_, (h c).2⟩)
    (Cert.Reference10Ideal.Value.run m' g')⟩
  obtain ⟨e0, e1⟩ := he c
  rw [(h c).1, e0, e1]
  exact Cert.Reference10Ideal.Read.val_main_v4_eq _ _

/-- From equal arguments the two programs' gradients of a latent's weights are the same. -/
theorem equal_results11 : Cert.algebraic_Kernel11Ideal_Reference11Ideal (hKernel11Ideal := Cert.Kernel11Ideal.Gen.facts)
    (hReference11Ideal := Cert.Reference11Ideal.Gen.facts) := by
  intro m g m' g' _ he
  refine ⟨_, Cert.Kernel11Ideal.Product.run_value m g, (θ_run Cert.Reference11Ideal.defs _ _).mono (fun r h c => ⟨?_, (h c).2⟩)
    (Cert.Reference11Ideal.Value.run m' g')⟩
  obtain ⟨e0, e1⟩ := he c
  rw [(h c).1, e0, e1]
  exact Cert.Reference11Ideal.Read.val_main_v6_eq _ _

/-- From equal arguments the two programs' squared ramps and ramps are the same. -/
theorem equal_results12 : Cert.algebraic_Kernel12Ideal_Reference12Ideal (hKernel12Ideal := Cert.Kernel12Ideal.Gen.facts)
    (hReference12Ideal := Cert.Reference12Ideal.Gen.facts) := by
  intro m g m' g' _ he
  refine ⟨_, _, Cert.Kernel12Ideal.Product.run_value m g, (θ_run Cert.Reference12Ideal.defs _ _).mono (fun r h c => ⟨?_, ?_, (h c).2.2⟩)
    (Cert.Reference12Ideal.Value.run m' g')⟩
  · obtain ⟨e0, e1⟩ := he c
    rw [(h c).1, e0, e1]
    exact Cert.Reference12Ideal.Read.val_main_v7_eq _ _
  · obtain ⟨e0, e1⟩ := he c
    rw [(h c).2.1, e0, e1]
    exact Cert.Reference12Ideal.Read.val_main_v8_eq _ _

/-- From equal arguments the two programs' second projections of the MLP are the same. -/
theorem equal_results13 : Cert.algebraic_Kernel13Ideal_Reference13Ideal (hKernel13Ideal := Cert.Kernel13Ideal.Gen.facts)
    (hReference13Ideal := Cert.Reference13Ideal.Gen.facts) := by
  intro m g m' g' _ he
  refine ⟨_, Cert.Kernel13Ideal.Product.run_value m g, (θ_run Cert.Reference13Ideal.defs _ _).mono (fun r h c => ⟨?_, (h c).2⟩)
    (Cert.Reference13Ideal.Value.run m' g')⟩
  obtain ⟨e0, e1⟩ := he c
  rw [(h c).1, e0, e1]
  exact Cert.Reference13Ideal.Read.val_main_v2_eq _ _

/-- From equal arguments the two programs' input projections are the same. -/
theorem equal_results14 : Cert.algebraic_Kernel14Ideal_Reference14Ideal (hKernel14Ideal := Cert.Kernel14Ideal.Gen.facts)
    (hReference14Ideal := Cert.Reference14Ideal.Gen.facts) := by
  intro m g m' g' _ he
  refine ⟨_, Cert.Kernel14Ideal.Product.run_value m g, (θ_run Cert.Reference14Ideal.defs _ _).mono (fun r h c => ⟨?_, (h c).2⟩)
    (Cert.Reference14Ideal.Value.run m' g')⟩
  obtain ⟨e0, e1⟩ := he c
  rw [(h c).1, e0, e1]
  exact Cert.Reference14Ideal.Read.val_main_v3_eq _ _

/-- From equal arguments the two programs' output projections are the same. -/
theorem equal_results15 : Cert.algebraic_Kernel15Ideal_Reference15Ideal (hKernel15Ideal := Cert.Kernel15Ideal.Gen.facts)
    (hReference15Ideal := Cert.Reference15Ideal.Gen.facts) := by
  intro m g m' g' _ he
  refine ⟨_, Cert.Kernel15Ideal.Product.run_value m g, (θ_run Cert.Reference15Ideal.defs _ _).mono (fun r h c => ⟨?_, (h c).2⟩)
    (Cert.Reference15Ideal.Value.run m' g')⟩
  obtain ⟨e0, e1⟩ := he c
  rw [(h c).1, e0, e1]
  exact Cert.Reference15Ideal.Read.val_main_v2_eq _ _

/-- From equal arguments the two programs' keys and values of the latent are the same. -/
theorem equal_results16 : Cert.algebraic_Kernel16Ideal_Reference16Ideal (hKernel16Ideal := Cert.Kernel16Ideal.Gen.facts)
    (hReference16Ideal := Cert.Reference16Ideal.Gen.facts) := by
  intro m g m' g' _ he
  refine ⟨_, Cert.Kernel16Ideal.Product.run_value m g, (θ_run Cert.Reference16Ideal.defs _ _).mono (fun r h c => ⟨?_, (h c).2⟩)
    (Cert.Reference16Ideal.Value.run m' g')⟩
  obtain ⟨e0, e1⟩ := he c
  rw [(h c).1, e0, e1]
  exact Cert.Reference16Ideal.Read.val_main_v3_eq _ _

/-- From equal real arguments the two programs' gradients of the first norm, in its input and in its gain, are the same. -/
theorem equal_results17 : Cert.algebraic_Kernel17Ideal_Reference17Ideal_pre_finite_rows (hKernel17Ideal := Cert.Kernel17Ideal.Gen.facts)
    (hReference17Ideal := Cert.Reference17Ideal.Gen.facts) (hPre_finite_rows := finite_rows_facts) := by
  intro m g m' g' hp he
  have H := fun c => @Cert.Kernel17Ideal.Norm.real_of_finite finite_rows_facts _ _ _ _ (hp c)
  refine ⟨_, _, Cert.Kernel17Ideal.Norm.run_value m g H, (θ_run Cert.Reference17Ideal.defs _ _).mono (fun r h c => ⟨?_, ?_, (h c).2.2⟩)
    (Cert.Reference17Ideal.Value.run m' g')⟩
  · obtain ⟨e0, e1, e2, e3⟩ := he c
    rw [(h c).1, e0, e1, e2, e3]
    exact Cert.Reference17Ideal.Read.val_main_v52_eq _ _ _ _
  · obtain ⟨e0, e1, e2, e3⟩ := he c
    rw [(h c).2.1, e0, e2]
    exact Cert.Reference17Ideal.Read.val_main_v51_eq _ _

theorem equal_results18 : Cert.algebraic_Kernel18Ideal_Reference18Ideal (hKernel18Ideal := Cert.Kernel18Ideal.Gen.facts)
    (hReference18Ideal := Cert.Reference18Ideal.Gen.facts) := by
  intro m g m' g' _ he
  refine ⟨_, _, _, _, _, Cert.Kernel18Ideal.Update.run_value m g, (θ_run Cert.Reference18Ideal.defs _ _).mono
    (fun r h c => ⟨?_, ?_, ?_, ?_, ?_, (h c).2.2.2.2.2⟩) (Cert.Reference18Ideal.Value.run m' g')⟩
  · obtain ⟨e0, e1, e2, e3⟩ := he c
    rw [(h c).1, e0]
    exact Cert.Reference18Ideal.Read.val_main_v2_eq _
  · obtain ⟨e0, e1, e2, e3⟩ := he c
    rw [(h c).2.1, e0, e1, e2, e3]
    exact Cert.Reference18Ideal.Read.val_main_v26_eq _ _ _ _
  · obtain ⟨e0, e1, e2, e3⟩ := he c
    rw [(h c).2.2.1, e0, e2]
    exact Cert.Reference18Ideal.Read.val_main_v7_eq _ _
  · obtain ⟨e0, e1, e2, e3⟩ := he c
    rw [(h c).2.2.2.1, e0, e3]
    exact Cert.Reference18Ideal.Read.val_main_v13_eq _ _
  · obtain ⟨e0, e1, e2, e3⟩ := he c
    rw [(h c).2.2.2.2.1, e0]
    exact Cert.Reference18Ideal.Read.val_main_v31_eq _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  finite_facts, finite_rows_facts,
  fun m g _ => Cert.Kernel.Bwd.frame m g, fun m g _ => Cert.KernelIdeal.Bwd.frame m g, fun m g _ => Cert.KernelIdeal.Bwd.frame m g,
  fun m g _ => (θ_run Cert.ReferenceIdeal.defs _ _).mono (fun r h => ⟨fun c => (h c).2.2.2, no_counter no_semaphore _ _⟩) (Cert.ReferenceIdeal.Value.run m g),
  fun m g _ => (θ_run Cert.ReferenceIdeal.defs _ _).mono (fun r h => ⟨fun c => (h c).2.2.2, no_counter no_semaphore _ _⟩) (Cert.ReferenceIdeal.Value.run m g),
  fun m g _ => Cert.Kernel2.Gen.frame m g, fun m g _ => Cert.Kernel2Ideal.Gen.frame m g,
  fun m g _ => (θ_run Cert.Reference2Ideal.defs _ _).mono (fun r h => ⟨fun c => (h c).2, no_counter no_semaphore2 _ _⟩) (Cert.Reference2Ideal.Value.run m g),
  fun m g _ => Cert.Kernel3.Gen.frame m g, fun m g _ => Cert.Kernel3Ideal.Gen.frame m g,
  fun m g _ => (θ_run Cert.Reference3Ideal.defs _ _).mono (fun r h => ⟨fun c => (h c).2, no_counter no_semaphore3 _ _⟩) (Cert.Reference3Ideal.Value.run m g),
  fun m g _ => Cert.Kernel4.Gen.frame m g, fun m g _ => Cert.Kernel4Ideal.Gen.frame m g,
  fun m g _ => (θ_run Cert.Reference4Ideal.defs _ _).mono (fun r h => ⟨fun c => (h c).2, no_counter no_semaphore4 _ _⟩) (Cert.Reference4Ideal.Value.run m g),
  fun m g _ => Cert.Kernel5.Gen.frame m g, fun m g _ => Cert.Kernel5Ideal.Gen.frame m g,
  fun m g _ => (θ_run Cert.Reference5Ideal.defs _ _).mono (fun r h => ⟨fun c => (h c).2, no_counter no_semaphore5 _ _⟩) (Cert.Reference5Ideal.Value.run m g),
  fun m g _ => Cert.Kernel6.Gen.frame m g, fun m g _ => Cert.Kernel6Ideal.Gen.frame m g,
  fun m g _ => (θ_run Cert.Reference6Ideal.defs _ _).mono (fun r h => ⟨fun c => (h c).2, no_counter no_semaphore6 _ _⟩) (Cert.Reference6Ideal.Value.run m g),
  fun m g _ => Cert.Kernel7.Gen.frame m g, fun m g _ => Cert.Kernel7Ideal.Gen.frame m g,
  fun m g _ => (θ_run Cert.Reference7Ideal.defs _ _).mono (fun r h => ⟨fun c => (h c).2, no_counter no_semaphore7 _ _⟩) (Cert.Reference7Ideal.Value.run m g),
  fun m g _ => Cert.Kernel8.Gen.frame m g, fun m g _ => Cert.Kernel8Ideal.Gen.frame m g,
  fun m g _ => (θ_run Cert.Reference8Ideal.defs _ _).mono (fun r h => ⟨fun c => (h c).2, no_counter no_semaphore8 _ _⟩) (Cert.Reference8Ideal.Value.run m g),
  fun m g _ => Cert.Kernel9.Gen.frame m g, fun m g _ => Cert.Kernel9Ideal.Gen.frame m g,
  fun m g _ => (θ_run Cert.Reference9Ideal.defs _ _).mono (fun r h => ⟨fun c => (h c).2, no_counter no_semaphore9 _ _⟩) (Cert.Reference9Ideal.Value.run m g),
  fun m g _ => Cert.Kernel10.Gen.frame m g, fun m g _ => Cert.Kernel10Ideal.Gen.frame m g,
  fun m g _ => (θ_run Cert.Reference10Ideal.defs _ _).mono (fun r h => ⟨fun c => (h c).2, no_counter no_semaphore10 _ _⟩) (Cert.Reference10Ideal.Value.run m g),
  fun m g _ => Cert.Kernel11.Gen.frame m g, fun m g _ => Cert.Kernel11Ideal.Gen.frame m g,
  fun m g _ => (θ_run Cert.Reference11Ideal.defs _ _).mono (fun r h => ⟨fun c => (h c).2, no_counter no_semaphore11 _ _⟩) (Cert.Reference11Ideal.Value.run m g),
  fun m g _ => Cert.Kernel12.Gen.frame m g, fun m g _ => Cert.Kernel12Ideal.Gen.frame m g,
  fun m g _ => (θ_run Cert.Reference12Ideal.defs _ _).mono (fun r h => ⟨fun c => (h c).2.2, no_counter no_semaphore12 _ _⟩) (Cert.Reference12Ideal.Value.run m g),
  fun m g _ => Cert.Kernel13.Gen.frame m g, fun m g _ => Cert.Kernel13Ideal.Gen.frame m g,
  fun m g _ => (θ_run Cert.Reference13Ideal.defs _ _).mono (fun r h => ⟨fun c => (h c).2, no_counter no_semaphore13 _ _⟩) (Cert.Reference13Ideal.Value.run m g),
  fun m g _ => Cert.Kernel14.Gen.frame m g, fun m g _ => Cert.Kernel14Ideal.Gen.frame m g,
  fun m g _ => (θ_run Cert.Reference14Ideal.defs _ _).mono (fun r h => ⟨fun c => (h c).2, no_counter no_semaphore14 _ _⟩) (Cert.Reference14Ideal.Value.run m g),
  fun m g _ => Cert.Kernel15.Gen.frame m g, fun m g _ => Cert.Kernel15Ideal.Gen.frame m g,
  fun m g _ => (θ_run Cert.Reference15Ideal.defs _ _).mono (fun r h => ⟨fun c => (h c).2, no_counter no_semaphore15 _ _⟩) (Cert.Reference15Ideal.Value.run m g),
  fun m g _ => Cert.Kernel16.Gen.frame m g, fun m g _ => Cert.Kernel16Ideal.Gen.frame m g,
  fun m g _ => (θ_run Cert.Reference16Ideal.defs _ _).mono (fun r h => ⟨fun c => (h c).2, no_counter no_semaphore16 _ _⟩) (Cert.Reference16Ideal.Value.run m g),
  fun m g _ => Cert.Kernel17.Gen.frame m g, fun m g _ => Cert.Kernel17Ideal.Gen.frame m g, fun m g _ => Cert.Kernel17Ideal.Gen.frame m g,
  fun m g _ => (θ_run Cert.Reference17Ideal.defs _ _).mono (fun r h => ⟨fun c => (h c).2.2, no_counter no_semaphore17 _ _⟩) (Cert.Reference17Ideal.Value.run m g),
  fun m g _ => (θ_run Cert.Reference17Ideal.defs _ _).mono (fun r h => ⟨fun c => (h c).2.2, no_counter no_semaphore17 _ _⟩) (Cert.Reference17Ideal.Value.run m g),
  fun m g _ => Cert.Kernel18.Gen.frame m g, fun m g _ => Cert.Kernel18Ideal.Gen.frame m g,
  fun m g _ => (θ_run Cert.Reference18Ideal.defs _ _).mono (fun r h => ⟨fun c => (h c).2.2.2.2.2, no_counter no_semaphore18 _ _⟩) (Cert.Reference18Ideal.Value.run m g),
  ⟨IdealRules.named_const.statement Cert.KernelIdeal.κ "scale" .f32 0x3D93CD3A#32 _ rfl,
    IdealRules.named_const.statement Cert.KernelIdeal.κ "ln2" .f32 0x3F317218#32 _ rfl⟩,
  equal_results, trivial, equal_results2, trivial, equal_results3, trivial, equal_results4, trivial, equal_results5,
  trivial, equal_results6, trivial, equal_results7, trivial, equal_results8, trivial, equal_results9, trivial, equal_results10, trivial, equal_results11, trivial, equal_results12, trivial, equal_results13, trivial, equal_results14, trivial, equal_results15, trivial, equal_results16, trivial, equal_results17, trivial, equal_results18⟩

end Cert.Proof

end
